-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v29_0)) (v1 : (c : Dev Cert.Kernel4Ideal.nD) → Buf (Elt Ideal) ((c.tc : Thread Cert.Kernel4Ideal.nD Cert.Kernel4Ideal.τ).loc Cert.Kernel4Ideal.main_v29_1)) (v2 : (c : Dev Cert.Kernel4Ideal.nD) → Buf (Elt Ideal) ((c.tc : Thread Cert.Kernel4Ideal.nD Cert.Kernel4Ideal.τ).loc Cert.Kernel4Ideal.main_v29_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29_0) = v0 c
          ∧ r.2.mem ((c.tc : Thread Cert.Kernel4Ideal.nD Cert.Kernel4Ideal.τ).loc Cert.Kernel4Ideal.main_v29_1) = v1 c
          ∧ r.2.mem ((c.tc : Thread Cert.Kernel4Ideal.nD Cert.Kernel4Ideal.τ).loc Cert.Kernel4Ideal.main_v29_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v29_0)) (v1 : (c : Dev Cert.Kernel5Ideal.nD) → Buf (Elt Ideal) ((c.tc : Thread Cert.Kernel5Ideal.nD Cert.Kernel5Ideal.τ).loc Cert.Kernel5Ideal.main_v29_1)) (v2 : (c : Dev Cert.Kernel5Ideal.nD) → Buf (Elt Ideal) ((c.tc : Thread Cert.Kernel5Ideal.nD Cert.Kernel5Ideal.τ).loc Cert.Kernel5Ideal.main_v29_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_v29_1) = v1 c
          ∧ r.2.mem ((c.tc : Thread Cert.Kernel5Ideal.nD Cert.Kernel5Ideal.τ).loc Cert.Kernel5Ideal.main_v29_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v64) = v1 c
          ∧ r.2.mem ((c.tc : Thread Cert.Reference5Ideal.nD Cert.Reference5Ideal.τ).loc Cert.Reference5Ideal.main_v66) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "log2e" .f32 0x3FB8AA3B#32 (((Real.log 2)⁻¹ : ℝ) : EReal)

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)) (v4 : (c : Dev Cert.Kernel6Ideal.nD) → Buf (Elt Ideal) ((c.tc : Thread Cert.Kernel6Ideal.nD Cert.Kernel6Ideal.τ).loc Cert.Kernel6Ideal.main_v7_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_v7_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_v60) = v3 c
          ∧ r.2.mem ((c.tc : Thread Cert.Reference6Ideal.nD Cert.Reference6Ideal.τ).loc Cert.Reference6Ideal.main_v62) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v36)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v36) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v74) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
-- ==== Pre_finite.lean ====
abbrev S16x2064x1024 : Shape := ⟨3, ![16, 2064, 1024]⟩
abbrev S1024 : Shape := ⟨1, ![1024]⟩
abbrev S1024x1024 : Shape := ⟨2, ![1024, 1024]⟩
abbrev S_ : Shape := ⟨0, ![]⟩

class Facts : Prop where
  bcast_S_S16x2064x1024 : S_.BroadcastsInDim S16x2064x1024 (![] : Fin 0 → Fin S16x2064x1024.rank)
  reducesTo_S16x2064x1024_S_d0_1_2 : S16x2064x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S16x2064x1024 .f32) (main_arg1 : FVec F S1024 .f32) (main_arg2 : FVec F S1024x1024 .f32) (main_arg3 : FVec F S1024x1024 .f32) (main_arg4 : FVec F S1024x1024 .f32) (main_arg5 : FVec F S1024x1024 .f32) (main_arg6 : FVec F S1024 .f32) : IVec S_ 1 :=
  let main_v0 : FVec F S16x2064x1024 .f32 := Host.absf main_arg0
  let main_cst : FVec F S_ .f32 := constant S_ .f32 0x7F800000#32
  let main_v1 : FVec F S16x2064x1024 .f32 := broadcastInDim S16x2064x1024 ![] bcast_S_S16x2064x1024 main_cst
  let main_v2 : IVec S16x2064x1024 1 := cmpf .olt main_v0 main_v1
  let main_c : IVec S_ 1 := constantI S_ 1 1#1
  let main_v3 : IVec S_ 1 := (fun x v => Host.reduce IntOp.andi x v reducesTo_S16x2064x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S16x2064x1024 : Shape := ⟨3, ![16, 2064, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S33024x1024 : Shape := ⟨2, ![33024, 1024]⟩
abbrev S1x1024 : Shape := ⟨2, ![1, 1024]⟩
abbrev S32768x1024 : Shape := ⟨2, ![32768, 1024]⟩
abbrev S512x1024 : Shape := ⟨2, ![512, 1024]⟩
abbrev S1024x2048 : Shape := ⟨2, ![1024, 2048]⟩
abbrev S2048x1024 : Shape := ⟨2, ![2048, 1024]⟩
abbrev S512 : Shape := ⟨1, ![512]⟩
abbrev S512x1 : Shape := ⟨2, ![512, 1]⟩
abbrev S512x2048 : Shape := ⟨2, ![512, 2048]⟩

abbrev nBuf : Space → Nat
  | .hbm => 16
  | .vmem => 14
  | .smem => 0
  | _ => 0

abbrev bufTy : (tb : Table) → Fin (tcTables nBuf tb) → BufTy
  | .hbm, ⟨0, _⟩ => ⟨S16x2064x1024, .f32⟩
  | .hbm, ⟨1, _⟩ => ⟨S16x2064x1024, .f32⟩
  | .hbm, ⟨2, _⟩ => ⟨S1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S33024x1024, .f32⟩
  | .hbm, ⟨8, _⟩ => ⟨S16x2064x1024, .bf16⟩
  | .hbm, ⟨9, _⟩ => ⟨S33024x1024, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2064_i32 : BitVec 32 := 2064#32
  let v17 : BitVec 32 := Scalar.muli v16 c2064_i32
  let c16_i32 : BitVec 32 := 16#32
  let v18 : BitVec 32 := Scalar.addi v17 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c2064_i32 : BitVec 32 := 2064#32
  let v17 : BitVec 32 := Scalar.muli v16 c2064_i32
  let c16_i32 : BitVec 32 := 16#32
  let v18 : BitVec 32 := Scalar.addi v17 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2064_i32 : BitVec 32 := 2064#32
  let v17 : BitVec 32 := Scalar.muli v16 c2064_i32
  let c16_i32 : BitVec 32 := 16#32
  let v18 : BitVec 32 := Scalar.addi v17 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2064_i32 : BitVec 32 := 2064#32
  let v17 : BitVec 32 := Scalar.muli v16 c2064_i32
  let c16_i32 : BitVec 32 := 16#32
  let v18 : BitVec 32 := Scalar.addi v17 c16_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_10 : BitVec 32 := 0#32
  let c0_i32_11 : BitVec 32 := 0#32
  ![v31.toNat, c0_i32_10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16x2064x1024 : Shape := ⟨3, ![16, 2064, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x4096 : Shape := ⟨3, ![16, 2064, 4096]⟩
abbrev S16x2048x1024 : Shape := ⟨3, ![16, 2048, 1024]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S16x2064x1024, .f32⟩
  | .hbm, ⟨2, _⟩ => ⟨S1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16x2064x1024, .f32⟩
  | .hbm, ⟨8, _⟩ => ⟨S16x2064x1024, .f32⟩
  | .hbm, ⟨9, _⟩ => ⟨S16x2064x1024, .f32⟩
  | .hbm, ⟨10, _⟩ => ⟨S_, .f32⟩
  | .hbm, ⟨11, _⟩ => ⟨S16x2064, .f32⟩
  | .hbm, ⟨12, _⟩ => ⟨S16x2064x1, .f32⟩
  | .hbm, ⟨13, _⟩ => ⟨S_, .f32⟩
  | .hbm, ⟨14, _⟩ => ⟨S16x2064x1, .f32⟩
  | .hbm, ⟨15, _⟩ => ⟨S16x2064x1, .f32⟩
  | .hbm, ⟨16, _⟩ => ⟨S_, .f32⟩
  | .hbm, ⟨17, _⟩ => ⟨S16x2064x1, .f32⟩
  | .hbm, ⟨18, _⟩ => ⟨S16x2064x1, .f32⟩
  | .hbm, ⟨19, _⟩ => ⟨S16x2064x1, .f32⟩
  | .hbm, ⟨20, _⟩ => ⟨S16x2064x1024, .f32⟩
  | .hbm, ⟨21, _⟩ => ⟨S16x2064x1024, .f32⟩
  | .hbm, ⟨22, _⟩ => ⟨S1x1x1024, .f32⟩
  | .hbm, ⟨23, _⟩ => ⟨S16x2064x1024, .f32⟩
  | .hbm, ⟨24, _⟩ => ⟨S16x2064x1024, .f32⟩
  | .hbm, ⟨25, _⟩ => ⟨S16x2064x4096, .f32⟩
  | .hbm, ⟨26, _⟩ => ⟨S_, .f32⟩
  | .hbm, ⟨27, _⟩ => ⟨S16x2064x4096, .f32⟩
  | .hbm, ⟨28, _⟩ => ⟨S16x2064x4096, .f32⟩
  | .hbm, ⟨29, _⟩ => ⟨S16x2064x4096, .f32⟩
  | .hbm, ⟨30, _⟩ => ⟨S16x2064x1024, .f32⟩
  | .hbm, ⟨31, _⟩ => ⟨S16x2064x1024, .f32⟩
  | .hbm, ⟨32, _⟩ => ⟨S16x2064x1024, .f32⟩
  | .hbm, ⟨33, _⟩ => ⟨S_, .f32⟩
  | .hbm, ⟨34, _⟩ => ⟨S16x2064, .f32⟩
  | .hbm, ⟨35, _⟩ => ⟨S16x2064x1, .f32⟩
  | .hbm, ⟨36, _⟩ => ⟨S_, .f32⟩
  | .hbm, ⟨37, _⟩ => ⟨S16x2064x1, .f32⟩
  | .hbm, ⟨38, _⟩ => ⟨S16x2064x1, .f32⟩
  | .hbm, ⟨39, _⟩ => ⟨S_, .f32⟩
  | .hbm, ⟨40, _⟩ => ⟨S16x2064x1, .f32⟩
  | .hbm, ⟨41, _⟩ => ⟨S16x2064x1, .f32⟩
  | .hbm, ⟨42, _⟩ => ⟨S16x2064x1, .f32⟩
  | .hbm, ⟨43, _⟩ => ⟨S16x2064x1024, .f32⟩
  | .hbm, ⟨44, _⟩ => ⟨S16x2064x1024, .f32⟩
  | .hbm, ⟨45, _⟩ => ⟨S1x1x1024, .f32⟩
  | .hbm, ⟨46, _⟩ => ⟨S16x2064x1024, .f32⟩
  | .hbm, ⟨47, _⟩ => ⟨S16x2064x1024, .f32⟩
  | .hbm, ⟨48, _⟩ => ⟨S16x2048x1024, .f32⟩
  | .hbm, ⟨49, _⟩ => ⟨S32768x1024, .f32⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel2.lean ====
abbrev S16x2064x1024 : Shape := ⟨3, ![16, 2064, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S33024x1024 : Shape := ⟨2, ![33024, 1024]⟩
abbrev S1x1024 : Shape := ⟨2, ![1, 1024]⟩
abbrev S688x1024 : Shape := ⟨2, ![688, 1024]⟩
abbrev S1024x2048 : Shape := ⟨2, ![1024, 2048]⟩
abbrev S2048x1024 : Shape := ⟨2, ![2048, 1024]⟩
abbrev S688 : Shape := ⟨1, ![688]⟩
abbrev S688x1 : Shape := ⟨2, ![688, 1]⟩
abbrev S688x2048 : Shape := ⟨2, ![688, 2048]⟩

abbrev nBuf : Space → Nat
  | .hbm => 16
  | .vmem => 14
  | .smem => 0
  | _ => 0

abbrev bufTy : (tb : Table) → Fin (tcTables nBuf tb) → BufTy
  | .hbm, ⟨0, _⟩ => ⟨S16x2064x1024, .f32⟩
  | .hbm, ⟨1, _⟩ => ⟨S16x2064x1024, .f32⟩
  | .hbm, ⟨2, _⟩ => ⟨S1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S33024x1024, .f32⟩
  | .hbm, ⟨8, _⟩ => ⟨S16x2064x1024, .bf16⟩
  | .hbm, ⟨9, _⟩ => ⟨S33024x1024, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S33024x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .bf16⟩
  | .local _ .vmem, ⟨3, _⟩ => ⟨S688x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024, .f32⟩
  | .local _ .vmem, ⟨11, _⟩ => ⟨S688x1024, .f32⟩
  | .local _ .vmem, ⟨12, _⟩ => ⟨S688x1024, .f32⟩
  | .local _ .vmem, ⟨13, _⟩ => ⟨S688x1024, .bf16⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![48, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x2064x1024 : Shape := ⟨3, ![16, 2064, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x4096 : Shape := ⟨3, ![16, 2064, 4096]⟩
abbrev S33024x1024 : Shape := ⟨2, ![33024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S16x2064x1024, .f32⟩
  | .hbm, ⟨2, _⟩ => ⟨S1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S16x2064x1024, .f32⟩
  | .hbm, ⟨8, _⟩ => ⟨S16x2064x1024, .f32⟩
  | .hbm, ⟨9, _⟩ => ⟨S16x2064x1024, .f32⟩
  | .hbm, ⟨10, _⟩ => ⟨S_, .f32⟩
  | .hbm, ⟨11, _⟩ => ⟨S16x2064, .f32⟩
  | .hbm, ⟨12, _⟩ => ⟨S16x2064x1, .f32⟩
  | .hbm, ⟨13, _⟩ => ⟨S_, .f32⟩
  | .hbm, ⟨14, _⟩ => ⟨S16x2064x1, .f32⟩
  | .hbm, ⟨15, _⟩ => ⟨S16x2064x1, .f32⟩
  | .hbm, ⟨16, _⟩ => ⟨S_, .f32⟩
  | .hbm, ⟨17, _⟩ => ⟨S16x2064x1, .f32⟩
  | .hbm, ⟨18, _⟩ => ⟨S16x2064x1, .f32⟩
  | .hbm, ⟨19, _⟩ => ⟨S16x2064x1, .f32⟩
  | .hbm, ⟨20, _⟩ => ⟨S16x2064x1024, .f32⟩
  | .hbm, ⟨21, _⟩ => ⟨S16x2064x1024, .f32⟩
  | .hbm, ⟨22, _⟩ => ⟨S1x1x1024, .f32⟩
  | .hbm, ⟨23, _⟩ => ⟨S16x2064x1024, .f32⟩
  | .hbm, ⟨24, _⟩ => ⟨S16x2064x1024, .f32⟩
  | .hbm, ⟨25, _⟩ => ⟨S16x2064x4096, .f32⟩
  | .hbm, ⟨26, _⟩ => ⟨S_, .f32⟩
  | .hbm, ⟨27, _⟩ => ⟨S16x2064x4096, .f32⟩
  | .hbm, ⟨28, _⟩ => ⟨S16x2064x4096, .f32⟩
  | .hbm, ⟨29, _⟩ => ⟨S16x2064x4096, .f32⟩
  | .hbm, ⟨30, _⟩ => ⟨S16x2064x1024, .f32⟩
  | .hbm, ⟨31, _⟩ => ⟨S16x2064x1024, .f32⟩
  | .hbm, ⟨32, _⟩ => ⟨S33024x1024, .f32⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel3.lean ====
abbrev S128x1x1024 : Shape := ⟨3, ![128, 1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S128x1024 : Shape := ⟨2, ![128, 1024]⟩
abbrev S1x1024 : Shape := ⟨2, ![1, 1024]⟩
abbrev S1024x2048 : Shape := ⟨2, ![1024, 2048]⟩
abbrev S2048x1024 : Shape := ⟨2, ![2048, 1024]⟩
abbrev S128 : Shape := ⟨1, ![128]⟩
abbrev S128x1 : Shape := ⟨2, ![128, 1]⟩
abbrev S128x2048 : Shape := ⟨2, ![128, 2048]⟩

abbrev nBuf : Space → Nat
  | .hbm => 16
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S128x1024, .f32⟩
  | .hbm, ⟨8, _⟩ => ⟨S128x1x1024, .bf16⟩
  | .hbm, ⟨9, _⟩ => ⟨S128x1024, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S128x1024, .f32⟩
  | .local _ .vmem, ⟨10, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference3Ideal.lean ====
abbrev S128x1x1024 : Shape := ⟨3, ![128, 1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x4096 : Shape := ⟨3, ![128, 1, 4096]⟩
abbrev S128x1024 : Shape := ⟨2, ![128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S1024, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x1024, .f32⟩
  | .hbm, ⟨21, _⟩ => ⟨S128x1x1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S128x1x4096, .f32⟩
  | .hbm, ⟨26, _⟩ => ⟨S_, .f32⟩
  | .hbm, ⟨27, _⟩ => ⟨S128x1x4096, .f32⟩
  | .hbm, ⟨28, _⟩ => ⟨S128x1x4096, .f32⟩
  | .hbm, ⟨29, _⟩ => ⟨S128x1x4096, .f32⟩
  | .hbm, ⟨30, _⟩ => ⟨S128x1x1024, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1, .f32⟩
  | .hbm, ⟨35, _⟩ => ⟨S128x1x1, .f32⟩
  | .hbm, ⟨36, _⟩ => ⟨S_, .f32⟩
  | .hbm, ⟨37, _⟩ => ⟨S128x1x1, .f32⟩
  | .hbm, ⟨38, _⟩ => ⟨S128x1x1, .f32⟩
  | .hbm, ⟨39, _⟩ => ⟨S_, .f32⟩
  | .hbm, ⟨40, _⟩ => ⟨S128x1x1, .f32⟩
  | .hbm, ⟨41, _⟩ => ⟨S128x1x1, .f32⟩
  | .hbm, ⟨42, _⟩ => ⟨S128x1x1, .f32⟩
  | .hbm, ⟨43, _⟩ => ⟨S128x1x1024, .f32⟩
  | .hbm, ⟨44, _⟩ => ⟨S128x1x1024, .f32⟩
  | .hbm, ⟨45, _⟩ => ⟨S1x1x1024, .f32⟩
  | .hbm, ⟨46, _⟩ => ⟨S128x1x1024, .f32⟩
  | .hbm, ⟨47, _⟩ => ⟨S128x1x1024, .f32⟩
  | .hbm, ⟨48, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel4.lean ====
abbrev S16x2064x1024 : Shape := ⟨3, ![16, 2064, 1024]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S2064 : Shape := ⟨1, ![2064]⟩
abbrev S32 : Shape := ⟨1, ![32]⟩
abbrev S_ : Shape := ⟨0, ![]⟩
abbrev S2064x1 : Shape := ⟨2, ![2064, 1]⟩
abbrev S1x32 : Shape := ⟨2, ![1, 32]⟩
abbrev S2064x32 : Shape := ⟨2, ![2064, 32]⟩
abbrev S2064x64 : Shape := ⟨2, ![2064, 64]⟩
abbrev S33024x1024 : Shape := ⟨2, ![33024, 1024]⟩
abbrev S1x1024 : Shape := ⟨2, ![1, 1024]⟩
abbrev S1x256 : Shape := ⟨2, ![1, 256]⟩
abbrev S1024x1x64 : Shape := ⟨3, ![1024, 1, 64]⟩
abbrev S1024x1x32 : Shape := ⟨3, ![1024, 1, 32]⟩
abbrev S33024x256 : Shape := ⟨2, ![33024, 256]⟩
abbrev S33024x64 : Shape := ⟨2, ![33024, 64]⟩
abbrev S33024x384 : Shape := ⟨2, ![33024, 384]⟩
abbrev S688x1024 : Shape := ⟨2, ![688, 1024]⟩
abbrev S688x64 : Shape := ⟨2, ![688, 64]⟩
abbrev S688x256 : Shape := ⟨2, ![688, 256]⟩
abbrev S688x384 : Shape := ⟨2, ![688, 384]⟩
abbrev S688 : Shape := ⟨1, ![688]⟩
abbrev S688x1 : Shape := ⟨2, ![688, 1]⟩

abbrev nBuf : Space → Nat
  | .hbm => 39
  | .vmem => 17
  | .smem => 0
  | _ => 0

abbrev bufTy : (tb : Table) → Fin (tcTables nBuf tb) → BufTy
  | .hbm, ⟨0, _⟩ => ⟨S16x2064x1024, .f32⟩
  | .hbm, ⟨1, _⟩ => ⟨S1024, .f32⟩
  | .hbm, ⟨2, _⟩ => ⟨S1024x256, .f32⟩
  | .hbm, ⟨3, _⟩ => ⟨S256, .f32⟩
  | .hbm, ⟨4, _⟩ => ⟨S1024x64, .f32⟩
  | .hbm, ⟨5, _⟩ => ⟨S2064, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2064, .f32⟩
  | .hbm, ⟨15, _⟩ => ⟨S2064x1, .f32⟩
  | .hbm, ⟨16, _⟩ => ⟨S1x32, .f32⟩
  | .hbm, ⟨17, _⟩ => ⟨S2064x32, .f32⟩
  | .hbm, ⟨18, _⟩ => ⟨S2064x32, .f32⟩
  | .hbm, ⟨19, _⟩ => ⟨S2064x32, .f32⟩
  | .hbm, ⟨20, _⟩ => ⟨S2064x32, .f32⟩
  | .hbm, ⟨21, _⟩ => ⟨S2064x32, .f32⟩
  | .hbm, ⟨22, _⟩ => ⟨S2064x64, .f32⟩
  | .hbm, ⟨23, _⟩ => ⟨S2064x32, .f32⟩
  | .hbm, ⟨24, _⟩ => ⟨S2064x64, .f32⟩
  | .hbm, ⟨25, _⟩ => ⟨S33024x1024, .f32⟩
  | .hbm, ⟨26, _⟩ => ⟨S1x1024, .f32⟩
  | .hbm, ⟨27, _⟩ => ⟨S1024x256, .bf16⟩
  | .hbm, ⟨28, _⟩ => ⟨S1x256, .f32⟩
  | .hbm, ⟨29, _⟩ => ⟨S1024x64, .bf16⟩
  | .hbm, ⟨30, _⟩ => ⟨S1024x1x64, .f32⟩
  | .hbm, ⟨31, _⟩ => ⟨S1024x1x32, .f32⟩
  | .hbm, ⟨32, _⟩ => ⟨S1024x1x32, .f32⟩
  | .hbm, ⟨33, _⟩ => ⟨S1024x1x64, .f32⟩
  | .hbm, ⟨34, _⟩ => ⟨S1024x64, .f32⟩
  | .hbm, ⟨35, _⟩ => ⟨S1024x64, .bf16⟩
  | .hbm, ⟨36, _⟩ => ⟨S33024x256, .f32⟩
  | .hbm, ⟨37, _⟩ => ⟨S33024x64, .f32⟩
  | .hbm, ⟨38, _⟩ => ⟨S33024x384, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x256, .bf16⟩
  | .local _ .vmem, ⟨4, _⟩ => ⟨S1x256, .f32⟩
  | .local _ .vmem, ⟨5, _⟩ => ⟨S1024x64, .bf16⟩
  | .local _ .vmem, ⟨6, _⟩ => ⟨S1024x64, .bf16⟩
  | .local _ .vmem, ⟨7, _⟩ => ⟨S688x64, .f32⟩
  | .local _ .vmem, ⟨8, _⟩ => ⟨S688x64, .f32⟩
  | .local _ .vmem, ⟨9, _⟩ => ⟨S688x64, .f32⟩
  | .local _ .vmem, ⟨10, _⟩ => ⟨S688x64, .f32⟩
  | .local _ .vmem, ⟨11, _⟩ => ⟨S688x256, .f32⟩
  | .local _ .vmem, ⟨12, _⟩ => ⟨S688x256, .f32⟩
  | .local _ .vmem, ⟨13, _⟩ => ⟨S688x64, .f32⟩
  | .local _ .vmem, ⟨14, _⟩ => ⟨S688x64, .f32⟩
  | .local _ .vmem, ⟨15, _⟩ => ⟨S688x384, .bf16⟩
  | .local _ .vmem, ⟨16, _⟩ => ⟨S688x384, .bf16⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S688x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16x2064x1024 : Shape := ⟨3, ![16, 2064, 1024]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S2064 : Shape := ⟨1, ![2064]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x256 : Shape := ⟨3, ![16, 2064, 256]⟩
abbrev S1x1x256 : Shape := ⟨3, ![1, 1, 256]⟩
abbrev S16x2064x64 : Shape := ⟨3, ![16, 2064, 64]⟩
abbrev S32 : Shape := ⟨1, ![32]⟩
abbrev S2064x1 : Shape := ⟨2, ![2064, 1]⟩
abbrev S1x32 : Shape := ⟨2, ![1, 32]⟩
abbrev S2064x32 : Shape := ⟨2, ![2064, 32]⟩
abbrev S16x2064x32 : Shape := ⟨3, ![16, 2064, 32]⟩
abbrev S1x2064x32 : Shape := ⟨3, ![1, 2064, 32]⟩
abbrev S16x2064x384 : Shape := ⟨3, ![16, 2064, 384]⟩
abbrev S33024x256 : Shape := ⟨2, ![33024, 256]⟩
abbrev S33024x64 : Shape := ⟨2, ![33024, 64]⟩
abbrev S33024x384 : Shape := ⟨2, ![33024, 384]⟩

abbrev nBuf : Space → Nat
  | .hbm => 80
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S1024, .f32⟩
  | .hbm, ⟨2, _⟩ => ⟨S1024x256, .f32⟩
  | .hbm, ⟨3, _⟩ => ⟨S256, .f32⟩
  | .hbm, ⟨4, _⟩ => ⟨S1024x64, .f32⟩
  | .hbm, ⟨5, _⟩ => ⟨S2064, .i32⟩
  | .hbm, ⟨6, _⟩ => ⟨S16x2064x1024, .f32⟩
  | .hbm, ⟨7, _⟩ => ⟨S_, .f32⟩
  | .hbm, ⟨8, _⟩ => ⟨S16x2064, .f32⟩
  | .hbm, ⟨9, _⟩ => ⟨S16x2064x1, .f32⟩
  | .hbm, ⟨10, _⟩ => ⟨S_, .f32⟩
  | .hbm, ⟨11, _⟩ => ⟨S16x2064x1, .f32⟩
  | .hbm, ⟨12, _⟩ => ⟨S16x2064x1, .f32⟩
  | .hbm, ⟨13, _⟩ => ⟨S_, .f32⟩
  | .hbm, ⟨14, _⟩ => ⟨S16x2064x1, .f32⟩
  | .hbm, ⟨15, _⟩ => ⟨S16x2064x1, .f32⟩
  | .hbm, ⟨16, _⟩ => ⟨S16x2064x1, .f32⟩
  | .hbm, ⟨17, _⟩ => ⟨S16x2064x1024, .f32⟩
  | .hbm, ⟨18, _⟩ => ⟨S16x2064x1024, .f32⟩
  | .hbm, ⟨19, _⟩ => ⟨S1x1x1024, .f32⟩
  | .hbm, ⟨20, _⟩ => ⟨S16x2064x1024, .f32⟩
  | .hbm, ⟨21, _⟩ => ⟨S16x2064x1024, .f32⟩
  | .hbm, ⟨22, _⟩ => ⟨S16x2064x256, .f32⟩
  | .hbm, ⟨23, _⟩ => ⟨S16x2064x256, .f32⟩
  | .hbm, ⟨24, _⟩ => ⟨S_, .f32⟩
  | .hbm, ⟨25, _⟩ => ⟨S16x2064, .f32⟩
  | .hbm, ⟨26, _⟩ => ⟨S16x2064x1, .f32⟩
  | .hbm, ⟨27, _⟩ => ⟨S_, .f32⟩
  | .hbm, ⟨28, _⟩ => ⟨S16x2064x1, .f32⟩
  | .hbm, ⟨29, _⟩ => ⟨S16x2064x1, .f32⟩
  | .hbm, ⟨30, _⟩ => ⟨S_, .f32⟩
  | .hbm, ⟨31, _⟩ => ⟨S16x2064x1, .f32⟩
  | .hbm, ⟨32, _⟩ => ⟨S16x2064x1, .f32⟩
  | .hbm, ⟨33, _⟩ => ⟨S16x2064x1, .f32⟩
  | .hbm, ⟨34, _⟩ => ⟨S16x2064x256, .f32⟩
  | .hbm, ⟨35, _⟩ => ⟨S16x2064x256, .f32⟩
  | .hbm, ⟨36, _⟩ => ⟨S1x1x256, .f32⟩
  | .hbm, ⟨37, _⟩ => ⟨S16x2064x256, .f32⟩
  | .hbm, ⟨38, _⟩ => ⟨S16x2064x256, .f32⟩
  | .hbm, ⟨39, _⟩ => ⟨S16x2064x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S2064, .f32⟩
  | .hbm, ⟨49, _⟩ => ⟨S2064x1, .f32⟩
  | .hbm, ⟨50, _⟩ => ⟨S1x32, .f32⟩
  | .hbm, ⟨51, _⟩ => ⟨S2064x32, .f32⟩
  | .hbm, ⟨52, _⟩ => ⟨S2064x32, .f32⟩
  | .hbm, ⟨53, _⟩ => ⟨S2064x32, .f32⟩
  | .hbm, ⟨54, _⟩ => ⟨S2064x32, .f32⟩
  | .hbm, ⟨55, _⟩ => ⟨S2064x32, .f32⟩
  | .hbm, ⟨56, _⟩ => ⟨S16x2064x32, .f32⟩
  | .hbm, ⟨57, _⟩ => ⟨S16x2064x32, .f32⟩
  | .hbm, ⟨58, _⟩ => ⟨S1x2064x32, .f32⟩
  | .hbm, ⟨59, _⟩ => ⟨S16x2064x32, .f32⟩
  | .hbm, ⟨60, _⟩ => ⟨S16x2064x32, .f32⟩
  | .hbm, ⟨61, _⟩ => ⟨S1x2064x32, .f32⟩
  | .hbm, ⟨62, _⟩ => ⟨S16x2064x32, .f32⟩
  | .hbm, ⟨63, _⟩ => ⟨S16x2064x32, .f32⟩
  | .hbm, ⟨64, _⟩ => ⟨S16x2064x32, .f32⟩
  | .hbm, ⟨65, _⟩ => ⟨S1x2064x32, .f32⟩
  | .hbm, ⟨66, _⟩ => ⟨S16x2064x32, .f32⟩
  | .hbm, ⟨67, _⟩ => ⟨S16x2064x32, .f32⟩
  | .hbm, ⟨68, _⟩ => ⟨S1x2064x32, .f32⟩
  | .hbm, ⟨69, _⟩ => ⟨S16x2064x32, .f32⟩
  | .hbm, ⟨70, _⟩ => ⟨S16x2064x32, .f32⟩
  | .hbm, ⟨71, _⟩ => ⟨S16x2064x32, .f32⟩
  | .hbm, ⟨72, _⟩ => ⟨S16x2064x64, .f32⟩
  | .hbm, ⟨73, _⟩ => ⟨S_, .f32⟩
  | .hbm, ⟨74, _⟩ => ⟨S16x2064x64, .f32⟩
  | .hbm, ⟨75, _⟩ => ⟨S16x2064x384, .f32⟩
  | .hbm, ⟨76, _⟩ => ⟨S33024x256, .f32⟩
  | .hbm, ⟨77, _⟩ => ⟨S33024x64, .f32⟩
  | .hbm, ⟨78, _⟩ => ⟨S33024x384, .f32⟩
  | .hbm, ⟨79, _⟩ => ⟨S33024x384, .bf16⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel5.lean ====
abbrev S128x1x1024 : Shape := ⟨3, ![128, 1, 1024]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S_ : Shape := ⟨0, ![]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S128x1024 : Shape := ⟨2, ![128, 1024]⟩
abbrev S1x1024 : Shape := ⟨2, ![1, 1024]⟩
abbrev S1x256 : Shape := ⟨2, ![1, 256]⟩
abbrev S1024x1x64 : Shape := ⟨3, ![1024, 1, 64]⟩
abbrev S1024x1x32 : Shape := ⟨3, ![1024, 1, 32]⟩
abbrev S128x256 : Shape := ⟨2, ![128, 256]⟩
abbrev S128x384 : Shape := ⟨2, ![128, 384]⟩

abbrev nBuf : Space → Nat
  | .hbm => 40
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x256, .f32⟩
  | .hbm, ⟨3, _⟩ => ⟨S256, .f32⟩
  | .hbm, ⟨4, _⟩ => ⟨S1024x64, .f32⟩
  | .hbm, ⟨5, _⟩ => ⟨S_, .i32⟩
  | .hbm, ⟨6, _⟩ => ⟨S128, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S128, .f32⟩
  | .hbm, ⟨16, _⟩ => ⟨S128x1, .f32⟩
  | .hbm, ⟨17, _⟩ => ⟨S1x32, .f32⟩
  | .hbm, ⟨18, _⟩ => ⟨S128x32, .f32⟩
  | .hbm, ⟨19, _⟩ => ⟨S128x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x64, .f32⟩
  | .hbm, ⟨24, _⟩ => ⟨S128x32, .f32⟩
  | .hbm, ⟨25, _⟩ => ⟨S128x64, .f32⟩
  | .hbm, ⟨26, _⟩ => ⟨S128x1024, .f32⟩
  | .hbm, ⟨27, _⟩ => ⟨S1x1024, .f32⟩
  | .hbm, ⟨28, _⟩ => ⟨S1024x256, .bf16⟩
  | .hbm, ⟨29, _⟩ => ⟨S1x256, .f32⟩
  | .hbm, ⟨30, _⟩ => ⟨S1024x64, .bf16⟩
  | .hbm, ⟨31, _⟩ => ⟨S1024x1x64, .f32⟩
  | .hbm, ⟨32, _⟩ => ⟨S1024x1x32, .f32⟩
  | .hbm, ⟨33, _⟩ => ⟨S1024x1x32, .f32⟩
  | .hbm, ⟨34, _⟩ => ⟨S1024x1x64, .f32⟩
  | .hbm, ⟨35, _⟩ => ⟨S1024x64, .f32⟩
  | .hbm, ⟨36, _⟩ => ⟨S1024x64, .bf16⟩
  | .hbm, ⟨37, _⟩ => ⟨S128x256, .f32⟩
  | .hbm, ⟨38, _⟩ => ⟨S128x64, .f32⟩
  | .hbm, ⟨39, _⟩ => ⟨S128x384, .bf16⟩
  | .local _ .vmem, ⟨0, _⟩ => ⟨S128x1024, .f32⟩
  | .local _ .vmem, ⟨1, _⟩ => ⟨S1x1024, .f32⟩
  | .local _ .vmem, ⟨2, _⟩ => ⟨S1024x256, .bf16⟩
  | .local _ .vmem, ⟨3, _⟩ => ⟨S1x256, .f32⟩
  | .local _ .vmem, ⟨4, _⟩ => ⟨S1024x64, .bf16⟩
  | .local _ .vmem, ⟨5, _⟩ => ⟨S1024x64, .bf16⟩
  | .local _ .vmem, ⟨6, _⟩ => ⟨S128x64, .f32⟩
  | .local _ .vmem, ⟨7, _⟩ => ⟨S128x64, .f32⟩
  | .local _ .vmem, ⟨8, _⟩ => ⟨S128x256, .f32⟩
  | .local _ .vmem, ⟨9, _⟩ => ⟨S128x64, .f32⟩
  | .local _ .vmem, ⟨10, _⟩ => ⟨S128x384, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference5Ideal.lean ====
abbrev S128x1x1024 : Shape := ⟨3, ![128, 1, 1024]⟩
abbrev S1024 : Shape := ⟨1, ![1024]⟩
abbrev S1024x256 : Shape := ⟨2, ![1024, 256]⟩
abbrev S256 : Shape := ⟨1, ![256]⟩
abbrev S1024x64 : Shape := ⟨2, ![1024, 64]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x256 : Shape := ⟨3, ![128, 1, 256]⟩
abbrev S1x1x256 : Shape := ⟨3, ![1, 1, 256]⟩
abbrev S128x1x64 : Shape := ⟨3, ![128, 1, 64]⟩
abbrev S32 : Shape := ⟨1, ![32]⟩
abbrev S1x1 : Shape := ⟨2, ![1, 1]⟩
abbrev S1x32 : Shape := ⟨2, ![1, 32]⟩
abbrev S128x1x32 : Shape := ⟨3, ![128, 1, 32]⟩
abbrev S1x1x32 : Shape := ⟨3, ![1, 1, 32]⟩
abbrev S128x1x384 : Shape := ⟨3, ![128, 1, 384]⟩
abbrev S128x256 : Shape := ⟨2, ![128, 256]⟩
abbrev S128x64 : Shape := ⟨2, ![128, 64]⟩
abbrev S128x384 : Shape := ⟨2, ![128, 384]⟩

abbrev nBuf : Space → Nat
  | .hbm => 82
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x256, .f32⟩
  | .hbm, ⟨3, _⟩ => ⟨S256, .f32⟩
  | .hbm, ⟨4, _⟩ => ⟨S1024x64, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S128x1x1024, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x1024, .f32⟩
  | .hbm, ⟨21, _⟩ => ⟨S128x1x1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S128x1x256, .f32⟩
  | .hbm, ⟨26, _⟩ => ⟨S128x1x256, .f32⟩
  | .hbm, ⟨27, _⟩ => ⟨S_, .f32⟩
  | .hbm, ⟨28, _⟩ => ⟨S128x1, .f32⟩
  | .hbm, ⟨29, _⟩ => ⟨S128x1x1, .f32⟩
  | .hbm, ⟨30, _⟩ => ⟨S_, .f32⟩
  | .hbm, ⟨31, _⟩ => ⟨S128x1x1, .f32⟩
  | .hbm, ⟨32, _⟩ => ⟨S128x1x1, .f32⟩
  | .hbm, ⟨33, _⟩ => ⟨S_, .f32⟩
  | .hbm, ⟨34, _⟩ => ⟨S128x1x1, .f32⟩
  | .hbm, ⟨35, _⟩ => ⟨S128x1x1, .f32⟩
  | .hbm, ⟨36, _⟩ => ⟨S128x1x1, .f32⟩
  | .hbm, ⟨37, _⟩ => ⟨S128x1x256, .f32⟩
  | .hbm, ⟨38, _⟩ => ⟨S128x1x256, .f32⟩
  | .hbm, ⟨39, _⟩ => ⟨S1x1x256, .f32⟩
  | .hbm, ⟨40, _⟩ => ⟨S128x1x256, .f32⟩
  | .hbm, ⟨41, _⟩ => ⟨S128x1x256, .f32⟩
  | .hbm, ⟨42, _⟩ => ⟨S128x1x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S1, .f32⟩
  | .hbm, ⟨52, _⟩ => ⟨S1x1, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S1x32, .f32⟩
  | .hbm, ⟨57, _⟩ => ⟨S1x32, .f32⟩
  | .hbm, ⟨58, _⟩ => ⟨S128x1x32, .f32⟩
  | .hbm, ⟨59, _⟩ => ⟨S128x1x32, .f32⟩
  | .hbm, ⟨60, _⟩ => ⟨S1x1x32, .f32⟩
  | .hbm, ⟨61, _⟩ => ⟨S128x1x32, .f32⟩
  | .hbm, ⟨62, _⟩ => ⟨S128x1x32, .f32⟩
  | .hbm, ⟨63, _⟩ => ⟨S1x1x32, .f32⟩
  | .hbm, ⟨64, _⟩ => ⟨S128x1x32, .f32⟩
  | .hbm, ⟨65, _⟩ => ⟨S128x1x32, .f32⟩
  | .hbm, ⟨66, _⟩ => ⟨S128x1x32, .f32⟩
  | .hbm, ⟨67, _⟩ => ⟨S1x1x32, .f32⟩
  | .hbm, ⟨68, _⟩ => ⟨S128x1x32, .f32⟩
  | .hbm, ⟨69, _⟩ => ⟨S128x1x32, .f32⟩
  | .hbm, ⟨70, _⟩ => ⟨S1x1x32, .f32⟩
  | .hbm, ⟨71, _⟩ => ⟨S128x1x32, .f32⟩
  | .hbm, ⟨72, _⟩ => ⟨S128x1x32, .f32⟩
  | .hbm, ⟨73, _⟩ => ⟨S128x1x32, .f32⟩
  | .hbm, ⟨74, _⟩ => ⟨S128x1x64, .f32⟩
  | .hbm, ⟨75, _⟩ => ⟨S_, .f32⟩
  | .hbm, ⟨76, _⟩ => ⟨S128x1x64, .f32⟩
  | .hbm, ⟨77, _⟩ => ⟨S128x1x384, .f32⟩
  | .hbm, ⟨78, _⟩ => ⟨S128x256, .f32⟩
  | .hbm, ⟨79, _⟩ => ⟨S128x64, .f32⟩
  | .hbm, ⟨80, _⟩ => ⟨S128x384, .f32⟩
  | .hbm, ⟨81, _⟩ => ⟨S128x384, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== Kernel6.lean ====
abbrev S16x2064x1024 : Shape := ⟨3, ![16, 2064, 1024]⟩
abbrev S1024 : Shape := ⟨1, ![1024]⟩
abbrev S1024x1024 : Shape := ⟨2, ![1024, 1024]⟩
abbrev S33024x1024 : Shape := ⟨2, ![33024, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩
abbrev S1024x256 : Shape := ⟨2, ![1024, 256]⟩
abbrev S688x256 : Shape := ⟨2, ![688, 256]⟩
abbrev S1x256 : Shape := ⟨2, ![1, 256]⟩

abbrev nBuf : Space → Nat
  | .hbm => 19
  | .vmem => 19
  | .smem => 0
  | _ => 0

abbrev bufTy : (tb : Table) → Fin (tcTables nBuf tb) → BufTy
  | .hbm, ⟨0, _⟩ => ⟨S16x2064x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S33024x1024, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S33024x1024, .bf16⟩
  | .hbm, ⟨15, _⟩ => ⟨S33024x1024, .f32⟩
  | .hbm, ⟨16, _⟩ => ⟨S33024x1024, .bf16⟩
  | .hbm, ⟨17, _⟩ => ⟨S33024x1024, .bf16⟩
  | .hbm, ⟨18, _⟩ => ⟨S33024x1024, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S688x1024, .bf16⟩
  | .local _ .vmem, ⟨9, _⟩ => ⟨S688x1024, .bf16⟩
  | .local _ .vmem, ⟨10, _⟩ => ⟨S688x1024, .f32⟩
  | .local _ .vmem, ⟨11, _⟩ => ⟨S688x1024, .f32⟩
  | .local _ .vmem, ⟨12, _⟩ => ⟨S688x1024, .bf16⟩
  | .local _ .vmem, ⟨13, _⟩ => ⟨S688x1024, .bf16⟩
  | .local _ .vmem, ⟨14, _⟩ => ⟨S688x1024, .bf16⟩
  | .local _ .vmem, ⟨15, _⟩ => ⟨S688x1024, .bf16⟩
  | .local _ .vmem, ⟨16, _⟩ => ⟨S688x1024, .bf16⟩
  | .local _ .vmem, ⟨17, _⟩ => ⟨S688x1024, .bf16⟩
  | .local _ .vmem, ⟨18, _⟩ => ⟨S688x1024, .bf16⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel6Ideal.lean ====
variable {F : FTy → Type} [FloatOps F] [Named F]
def κ : String → Option EReal := fun
  | "log2e" => some (((Real.log 2)⁻¹ : ℝ) : EReal)
  | _ => none
-- ==== Reference6Ideal.lean ====
abbrev S16x2064x1024 : Shape := ⟨3, ![16, 2064, 1024]⟩
abbrev S1024 : Shape := ⟨1, ![1024]⟩
abbrev S1024x1024 : Shape := ⟨2, ![1024, 1024]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S33024x1024 : Shape := ⟨2, ![33024, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S16x2064x1024, .f32⟩
  | .hbm, ⟨8, _⟩ => ⟨S_, .f32⟩
  | .hbm, ⟨9, _⟩ => ⟨S16x2064, .f32⟩
  | .hbm, ⟨10, _⟩ => ⟨S16x2064x1, .f32⟩
  | .hbm, ⟨11, _⟩ => ⟨S_, .f32⟩
  | .hbm, ⟨12, _⟩ => ⟨S16x2064x1, .f32⟩
  | .hbm, ⟨13, _⟩ => ⟨S16x2064x1, .f32⟩
  | .hbm, ⟨14, _⟩ => ⟨S_, .f32⟩
  | .hbm, ⟨15, _⟩ => ⟨S16x2064x1, .f32⟩
  | .hbm, ⟨16, _⟩ => ⟨S16x2064x1, .f32⟩
  | .hbm, ⟨17, _⟩ => ⟨S16x2064x1, .f32⟩
  | .hbm, ⟨18, _⟩ => ⟨S16x2064x1024, .f32⟩
  | .hbm, ⟨19, _⟩ => ⟨S16x2064x1024, .f32⟩
  | .hbm, ⟨20, _⟩ => ⟨S1x1x1024, .f32⟩
  | .hbm, ⟨21, _⟩ => ⟨S16x2064x1024, .f32⟩
  | .hbm, ⟨22, _⟩ => ⟨S16x2064x1024, .f32⟩
  | .hbm, ⟨23, _⟩ => ⟨S16x2064x1024, .f32⟩
  | .hbm, ⟨24, _⟩ => ⟨S16x2064x1024, .f32⟩
  | .hbm, ⟨25, _⟩ => ⟨S16x2064x1024, .f32⟩
  | .hbm, ⟨26, _⟩ => ⟨S_, .f32⟩
  | .hbm, ⟨27, _⟩ => ⟨S16x2064x1024, .f32⟩
  | .hbm, ⟨28, _⟩ => ⟨S16x2064x1024, .f32⟩
  | .hbm, ⟨29, _⟩ => ⟨S_, .f32⟩
  | .hbm, ⟨30, _⟩ => ⟨S16x2064x1024, .f32⟩
  | .hbm, ⟨31, _⟩ => ⟨S16x2064x1024, .f32⟩
  | .hbm, ⟨32, _⟩ => ⟨S16x2064x1024, .f32⟩
  | .hbm, ⟨33, _⟩ => ⟨S16x2064x1024, .f32⟩
  | .hbm, ⟨34, _⟩ => ⟨S1024, .f32⟩
  | .hbm, ⟨35, _⟩ => ⟨S1024, .f32⟩
  | .hbm, ⟨36, _⟩ => ⟨S16x2064x1024, .f32⟩
  | .hbm, ⟨37, _⟩ => ⟨S_, .f32⟩
  | .hbm, ⟨38, _⟩ => ⟨S16x2064x1024, .f32⟩
  | .hbm, ⟨39, _⟩ => ⟨S16x2064x1024, .f32⟩
  | .hbm, ⟨40, _⟩ => ⟨S16x2064x1024, .f32⟩
  | .hbm, ⟨41, _⟩ => ⟨S16x2064x1024, .f32⟩
  | .hbm, ⟨42, _⟩ => ⟨S16x2064x1024, .i1⟩
  | .hbm, ⟨43, _⟩ => ⟨S16x2064x1024, .f32⟩
  | .hbm, ⟨44, _⟩ => ⟨S16x2064x1024, .f32⟩
  | .hbm, ⟨45, _⟩ => ⟨S16x2064x1024, .f32⟩
  | .hbm, ⟨46, _⟩ => ⟨S16x2064x1024, .f32⟩
  | .hbm, ⟨47, _⟩ => ⟨S16x2064x1024, .f32⟩
  | .hbm, ⟨48, _⟩ => ⟨S16x2064x1024, .f32⟩
  | .hbm, ⟨49, _⟩ => ⟨S16x2064x1024, .f32⟩
  | .hbm, ⟨50, _⟩ => ⟨S16x2064x1024, .f32⟩
  | .hbm, ⟨51, _⟩ => ⟨S16x2064x1024, .f32⟩
  | .hbm, ⟨52, _⟩ => ⟨S1x1x1024, .f32⟩
  | .hbm, ⟨53, _⟩ => ⟨S16x2064x1024, .f32⟩
  | .hbm, ⟨54, _⟩ => ⟨S16x2064x1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S1x1x1024, .f32⟩
  | .hbm, ⟨60, _⟩ => ⟨S16x2064x1024, .f32⟩
  | .hbm, ⟨61, _⟩ => ⟨S16x2064x1024, .f32⟩
  | .hbm, ⟨62, _⟩ => ⟨S16x2064x1024, .f32⟩
  | .hbm, ⟨63, _⟩ => ⟨S16x2064x1024, .f32⟩
  | .hbm, ⟨64, _⟩ => ⟨S16x2064x1024, .i1⟩
  | .hbm, ⟨65, _⟩ => ⟨S16x2064x1024, .f32⟩
  | .hbm, ⟨66, _⟩ => ⟨S16x2064x1024, .f32⟩
  | .hbm, ⟨67, _⟩ => ⟨S16x2064x1024, .f32⟩
  | .hbm, ⟨68, _⟩ => ⟨S16x2064x1024, .f32⟩
  | .hbm, ⟨69, _⟩ => ⟨S16x2064x1024, .f32⟩
  | .hbm, ⟨70, _⟩ => ⟨S16x2064x1024, .f32⟩
  | .hbm, ⟨71, _⟩ => ⟨S16x2064x1024, .f32⟩
  | .hbm, ⟨72, _⟩ => ⟨S16x2064x1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S16x2064x1024, .f32⟩
  | .hbm, ⟨77, _⟩ => ⟨S16x2064x1024, .f32⟩
  | .hbm, ⟨78, _⟩ => ⟨S16x2064x1024, .f32⟩
  | .hbm, ⟨79, _⟩ => ⟨S_, .f32⟩
  | .hbm, ⟨80, _⟩ => ⟨S16x2064x1024, .f32⟩
  | .hbm, ⟨81, _⟩ => ⟨S16x2064x1024, .f32⟩
  | .hbm, ⟨82, _⟩ => ⟨S_, .f32⟩
  | .hbm, ⟨83, _⟩ => ⟨S16x2064x1024, .f32⟩
  | .hbm, ⟨84, _⟩ => ⟨S16x2064x1024, .f32⟩
  | .hbm, ⟨85, _⟩ => ⟨S1x1x1024, .f32⟩
  | .hbm, ⟨86, _⟩ => ⟨S16x2064x1024, .f32⟩
  | .hbm, ⟨87, _⟩ => ⟨S16x2064x1024, .f32⟩
  | .hbm, ⟨88, _⟩ => ⟨S16x2064x1024, .f32⟩
  | .hbm, ⟨89, _⟩ => ⟨S16x2064x1024, .f32⟩
  | .hbm, ⟨90, _⟩ => ⟨S16x2064x1024, .f32⟩
  | .hbm, ⟨91, _⟩ => ⟨S16x2064x1024, .f32⟩
  | .hbm, ⟨92, _⟩ => ⟨S_, .f32⟩
  | .hbm, ⟨93, _⟩ => ⟨S16x2064x1024, .f32⟩
  | .hbm, ⟨94, _⟩ => ⟨S16x2064x1024, .f32⟩
  | .hbm, ⟨95, _⟩ => ⟨S_, .f32⟩
  | .hbm, ⟨96, _⟩ => ⟨S16x2064x1024, .f32⟩
  | .hbm, ⟨97, _⟩ => ⟨S16x2064x1024, .f32⟩
  | .hbm, ⟨98, _⟩ => ⟨S16x2064x1024, .f32⟩
  | .hbm, ⟨99, _⟩ => ⟨S33024x1024, .f32⟩
  | .hbm, ⟨100, _⟩ => ⟨S33024x1024, .bf16⟩
  | .hbm, ⟨101, _⟩ => ⟨S33024x1024, .f32⟩
  | .hbm, ⟨102, _⟩ => ⟨S33024x1024, .f32⟩
  | .hbm, ⟨103, _⟩ => ⟨S33024x1024, .bf16⟩
  | .hbm, ⟨104, _⟩ => ⟨S33024x1024, .f32⟩
  | .hbm, ⟨105, _⟩ => ⟨S33024x1024, .bf16⟩
  | .hbm, ⟨106, _⟩ => ⟨S33024x1024, .f32⟩
  | .hbm, ⟨107, _⟩ => ⟨S33024x1024, .bf16⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_3 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_4 : Ref sig .tc := ⟨.hbm, 79, rfl⟩
abbrev main_v44 : Ref sig .tc := ⟨.hbm, 80, rfl⟩
abbrev main_v45 : Ref sig .tc := ⟨.hbm, 81, rfl⟩
abbrev main_cst_5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩

abbrev nD : Nat := 1
abbrev τ : Topo := Topo.v7x

variable {F : FTy → Type} [FloatOps F]
-- ==== Kernel7.lean ====
abbrev S16x2064x1024 : Shape := ⟨3, ![16, 2064, 1024]⟩
abbrev S1024 : Shape := ⟨1, ![1024]⟩
abbrev S1024x384 : Shape := ⟨2, ![1024, 384]⟩
abbrev S384 : Shape := ⟨1, ![384]⟩
abbrev S384x8x192 : Shape := ⟨3, ![384, 8, 192]⟩
abbrev S256x8x128 : Shape := ⟨3, ![256, 8, 128]⟩
abbrev S2064 : Shape := ⟨1, ![2064]⟩
abbrev S32 : Shape := ⟨1, ![32]⟩
abbrev S_ : Shape := ⟨0, ![]⟩
abbrev S2064x1 : Shape := ⟨2, ![2064, 1]⟩
abbrev S1x32 : Shape := ⟨2, ![1, 32]⟩
abbrev S2064x32 : Shape := ⟨2, ![2064, 32]⟩
abbrev S2064x64 : Shape := ⟨2, ![2064, 64]⟩
abbrev S33024x1024 : Shape := ⟨2, ![33024, 1024]⟩
abbrev S1x1024 : Shape := ⟨2, ![1, 1024]⟩
abbrev S1x384 : Shape := ⟨2, ![1, 384]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S8x128x256 : Shape := ⟨3, ![8, 128, 256]⟩
abbrev S1x2064x1x64 : Shape := ⟨4, ![1, 2064, 1, 64]⟩
abbrev S1x2064x8x64 : Shape := ⟨4, ![1, 2064, 8, 64]⟩
abbrev S2064x512 : Shape := ⟨2, ![2064, 512]⟩
abbrev S8x33024x384 : Shape := ⟨3, ![8, 33024, 384]⟩
abbrev S688x1024 : Shape := ⟨2, ![688, 1024]⟩
abbrev S688x512 : Shape := ⟨2, ![688, 512]⟩
abbrev S8x688x384 : Shape := ⟨3, ![8, 688, 384]⟩
abbrev S688 : Shape := ⟨1, ![688]⟩
abbrev S688x1 : Shape := ⟨2, ![688, 1]⟩
abbrev S688x384 : Shape := ⟨2, ![688, 384]⟩
abbrev S688x128 : Shape := ⟨2, ![688, 128]⟩
abbrev S1x128x256 : Shape := ⟨3, ![1, 128, 256]⟩
abbrev S128x256 : Shape := ⟨2, ![128, 256]⟩
abbrev S688x256 : Shape := ⟨2, ![688, 256]⟩
abbrev S1x688x256 : Shape := ⟨3, ![1, 688, 256]⟩
abbrev S688x64 : Shape := ⟨2, ![688, 64]⟩
abbrev S1x688x64 : Shape := ⟨3, ![1, 688, 64]⟩

abbrev nBuf : Space → Nat
  | .hbm => 45
  | .vmem => 14
  | .smem => 0
  | _ => 0

abbrev bufTy : (tb : Table) → Fin (tcTables nBuf tb) → BufTy
  | .hbm, ⟨0, _⟩ => ⟨S16x2064x1024, .f32⟩
  | .hbm, ⟨1, _⟩ => ⟨S1024, .f32⟩
  | .hbm, ⟨2, _⟩ => ⟨S1024x384, .f32⟩
  | .hbm, ⟨3, _⟩ => ⟨S384, .f32⟩
  | .hbm, ⟨4, _⟩ => ⟨S384x8x192, .f32⟩
  | .hbm, ⟨5, _⟩ => ⟨S256x8x128, .f32⟩
  | .hbm, ⟨6, _⟩ => ⟨S2064, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2064, .f32⟩
  | .hbm, ⟨16, _⟩ => ⟨S2064x1, .f32⟩
  | .hbm, ⟨17, _⟩ => ⟨S1x32, .f32⟩
  | .hbm, ⟨18, _⟩ => ⟨S2064x32, .f32⟩
  | .hbm, ⟨19, _⟩ => ⟨S2064x32, .f32⟩
  | .hbm, ⟨20, _⟩ => ⟨S2064x32, .f32⟩
  | .hbm, ⟨21, _⟩ => ⟨S2064x32, .f32⟩
  | .hbm, ⟨22, _⟩ => ⟨S2064x32, .f32⟩
  | .hbm, ⟨23, _⟩ => ⟨S2064x64, .f32⟩
  | .hbm, ⟨24, _⟩ => ⟨S2064x32, .f32⟩
  | .hbm, ⟨25, _⟩ => ⟨S2064x64, .f32⟩
  | .hbm, ⟨26, _⟩ => ⟨S33024x1024, .f32⟩
  | .hbm, ⟨27, _⟩ => ⟨S1x1024, .f32⟩
  | .hbm, ⟨28, _⟩ => ⟨S1024x384, .bf16⟩
  | .hbm, ⟨29, _⟩ => ⟨S1x384, .f32⟩
  | .hbm, ⟨30, _⟩ => ⟨S384x8x128, .f32⟩
  | .hbm, ⟨31, _⟩ => ⟨S384x1024, .f32⟩
  | .hbm, ⟨32, _⟩ => ⟨S384x1024, .bf16⟩
  | .hbm, ⟨33, _⟩ => ⟨S384x8x64, .f32⟩
  | .hbm, ⟨34, _⟩ => ⟨S384x512, .f32⟩
  | .hbm, ⟨35, _⟩ => ⟨S384x512, .bf16⟩
  | .hbm, ⟨36, _⟩ => ⟨S8x128x256, .f32⟩
  | .hbm, ⟨37, _⟩ => ⟨S8x128x256, .bf16⟩
  | .hbm, ⟨38, _⟩ => ⟨S1x2064x1x64, .f32⟩
  | .hbm, ⟨39, _⟩ => ⟨S1x2064x8x64, .f32⟩
  | .hbm, ⟨40, _⟩ => ⟨S2064x512, .f32⟩
  | .hbm, ⟨41, _⟩ => ⟨S1x2064x1x64, .f32⟩
  | .hbm, ⟨42, _⟩ => ⟨S1x2064x8x64, .f32⟩
  | .hbm, ⟨43, _⟩ => ⟨S2064x512, .f32⟩
  | .hbm, ⟨44, _⟩ => ⟨S8x33024x384, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x384, .bf16⟩
  | .local _ .vmem, ⟨4, _⟩ => ⟨S1x384, .f32⟩
  | .local _ .vmem, ⟨5, _⟩ => ⟨S384x1024, .bf16⟩
  | .local _ .vmem, ⟨6, _⟩ => ⟨S384x512, .bf16⟩
  | .local _ .vmem, ⟨7, _⟩ => ⟨S8x128x256, .bf16⟩
  | .local _ .vmem, ⟨8, _⟩ => ⟨S688x512, .f32⟩
  | .local _ .vmem, ⟨9, _⟩ => ⟨S688x512, .f32⟩
  | .local _ .vmem, ⟨10, _⟩ => ⟨S688x512, .f32⟩
  | .local _ .vmem, ⟨11, _⟩ => ⟨S688x512, .f32⟩
  | .local _ .vmem, ⟨12, _⟩ => ⟨S8x688x384, .bf16⟩
  | .local _ .vmem, ⟨13, _⟩ => ⟨S8x688x384, .bf16⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x688x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16x2064x1024 : Shape := ⟨3, ![16, 2064, 1024]⟩
abbrev S1024 : Shape := ⟨1, ![1024]⟩
abbrev S1024x384 : Shape := ⟨2, ![1024, 384]⟩
abbrev S384 : Shape := ⟨1, ![384]⟩
abbrev S384x8x192 : Shape := ⟨3, ![384, 8, 192]⟩
abbrev S256x8x128 : Shape := ⟨3, ![256, 8, 128]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x384 : Shape := ⟨3, ![16, 2064, 384]⟩
abbrev S1x1x384 : Shape := ⟨3, ![1, 1, 384]⟩
abbrev S16x2064x8x192 : Shape := ⟨4, ![16, 2064, 8, 192]⟩
abbrev S16x2064x8x128 : Shape := ⟨4, ![16, 2064, 8, 128]⟩
abbrev S8x256x16x2064 : Shape := ⟨4, ![8, 256, 16, 2064]⟩
abbrev S16x2064x8x256 : Shape := ⟨4, ![16, 2064, 8, 256]⟩
abbrev S16x2064x8x64 : Shape := ⟨4, ![16, 2064, 8, 64]⟩
abbrev S2064 : Shape := ⟨1, ![2064]⟩
abbrev S32 : Shape := ⟨1, ![32]⟩
abbrev S2064x1 : Shape := ⟨2, ![2064, 1]⟩
abbrev S1x32 : Shape := ⟨2, ![1, 32]⟩
abbrev S2064x32 : Shape := ⟨2, ![2064, 32]⟩
abbrev S2064x1x32 : Shape := ⟨3, ![2064, 1, 32]⟩
abbrev S16x2064x8x32 : Shape := ⟨4, ![16, 2064, 8, 32]⟩
abbrev S1x2064x1x32 : Shape := ⟨4, ![1, 2064, 1, 32]⟩
abbrev S16x2064x8x384 : Shape := ⟨4, ![16, 2064, 8, 384]⟩
abbrev S33024x8x384 : Shape := ⟨3, ![33024, 8, 384]⟩
abbrev S8x33024x384 : Shape := ⟨3, ![8, 33024, 384]⟩

abbrev nBuf : Space → Nat
  | .hbm => 92
  | .vmem => 0
  | .smem => 0
  | _ => 0

abbrev bufTy : (tb : Table) → Fin (tcTables nBuf tb) → BufTy
  | .hbm, ⟨0, _⟩ => ⟨S16x2064x1024, .f32⟩
  | .hbm, ⟨1, _⟩ => ⟨S1024, .f32⟩
  | .hbm, ⟨2, _⟩ => ⟨S1024x384, .f32⟩
  | .hbm, ⟨3, _⟩ => ⟨S384, .f32⟩
  | .hbm, ⟨4, _⟩ => ⟨S384x8x192, .f32⟩
  | .hbm, ⟨5, _⟩ => ⟨S256x8x128, .f32⟩
  | .hbm, ⟨6, _⟩ => ⟨S16x2064x1024, .f32⟩
  | .hbm, ⟨7, _⟩ => ⟨S_, .f32⟩
  | .hbm, ⟨8, _⟩ => ⟨S16x2064, .f32⟩
  | .hbm, ⟨9, _⟩ => ⟨S16x2064x1, .f32⟩
  | .hbm, ⟨10, _⟩ => ⟨S_, .f32⟩
  | .hbm, ⟨11, _⟩ => ⟨S16x2064x1, .f32⟩
  | .hbm, ⟨12, _⟩ => ⟨S16x2064x1, .f32⟩
  | .hbm, ⟨13, _⟩ => ⟨S_, .f32⟩
  | .hbm, ⟨14, _⟩ => ⟨S16x2064x1, .f32⟩
  | .hbm, ⟨15, _⟩ => ⟨S16x2064x1, .f32⟩
  | .hbm, ⟨16, _⟩ => ⟨S16x2064x1, .f32⟩
  | .hbm, ⟨17, _⟩ => ⟨S16x2064x1024, .f32⟩
  | .hbm, ⟨18, _⟩ => ⟨S16x2064x1024, .f32⟩
  | .hbm, ⟨19, _⟩ => ⟨S1x1x1024, .f32⟩
  | .hbm, ⟨20, _⟩ => ⟨S16x2064x1024, .f32⟩
  | .hbm, ⟨21, _⟩ => ⟨S16x2064x1024, .f32⟩
  | .hbm, ⟨22, _⟩ => ⟨S16x2064x384, .f32⟩
  | .hbm, ⟨23, _⟩ => ⟨S16x2064x384, .f32⟩
  | .hbm, ⟨24, _⟩ => ⟨S_, .f32⟩
  | .hbm, ⟨25, _⟩ => ⟨S16x2064, .f32⟩
  | .hbm, ⟨26, _⟩ => ⟨S16x2064x1, .f32⟩
  | .hbm, ⟨27, _⟩ => ⟨S_, .f32⟩
  | .hbm, ⟨28, _⟩ => ⟨S16x2064x1, .f32⟩
  | .hbm, ⟨29, _⟩ => ⟨S16x2064x1, .f32⟩
  | .hbm, ⟨30, _⟩ => ⟨S_, .f32⟩
  | .hbm, ⟨31, _⟩ => ⟨S16x2064x1, .f32⟩
  | .hbm, ⟨32, _⟩ => ⟨S16x2064x1, .f32⟩
  | .hbm, ⟨33, _⟩ => ⟨S16x2064x1, .f32⟩
  | .hbm, ⟨34, _⟩ => ⟨S16x2064x384, .f32⟩
  | .hbm, ⟨35, _⟩ => ⟨S16x2064x384, .f32⟩
  | .hbm, ⟨36, _⟩ => ⟨S1x1x384, .f32⟩
  | .hbm, ⟨37, _⟩ => ⟨S16x2064x384, .f32⟩
  | .hbm, ⟨38, _⟩ => ⟨S16x2064x384, .f32⟩
  | .hbm, ⟨39, _⟩ => ⟨S16x2064x8x192, .f32⟩
  | .hbm, ⟨40, _⟩ => ⟨S16x2064x8x128, .f32⟩
  | .hbm, ⟨41, _⟩ => ⟨S8x256x16x2064, .f32⟩
  | .hbm, ⟨42, _⟩ => ⟨S16x2064x8x256, .f32⟩
  | .hbm, ⟨43, _⟩ => ⟨S16x2064x8x64, .f32⟩
  | .hbm, ⟨44, _⟩ => ⟨S2064, .i32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S2064, .f32⟩
  | .hbm, ⟨54, _⟩ => ⟨S2064x1, .f32⟩
  | .hbm, ⟨55, _⟩ => ⟨S1x32, .f32⟩
  | .hbm, ⟨56, _⟩ => ⟨S2064x32, .f32⟩
  | .hbm, ⟨57, _⟩ => ⟨S2064x32, .f32⟩
  | .hbm, ⟨58, _⟩ => ⟨S2064x32, .f32⟩
  | .hbm, ⟨59, _⟩ => ⟨S2064x32, .f32⟩
  | .hbm, ⟨60, _⟩ => ⟨S2064x1x32, .f32⟩
  | .hbm, ⟨61, _⟩ => ⟨S2064x32, .f32⟩
  | .hbm, ⟨62, _⟩ => ⟨S2064x1x32, .f32⟩
  | .hbm, ⟨63, _⟩ => ⟨S16x2064x8x32, .f32⟩
  | .hbm, ⟨64, _⟩ => ⟨S16x2064x8x32, .f32⟩
  | .hbm, ⟨65, _⟩ => ⟨S1x2064x1x32, .f32⟩
  | .hbm, ⟨66, _⟩ => ⟨S16x2064x8x32, .f32⟩
  | .hbm, ⟨67, _⟩ => ⟨S16x2064x8x32, .f32⟩
  | .hbm, ⟨68, _⟩ => ⟨S1x2064x1x32, .f32⟩
  | .hbm, ⟨69, _⟩ => ⟨S16x2064x8x32, .f32⟩
  | .hbm, ⟨70, _⟩ => ⟨S16x2064x8x32, .f32⟩
  | .hbm, ⟨71, _⟩ => ⟨S16x2064x8x32, .f32⟩
  | .hbm, ⟨72, _⟩ => ⟨S1x2064x1x32, .f32⟩
  | .hbm, ⟨73, _⟩ => ⟨S16x2064x8x32, .f32⟩
  | .hbm, ⟨74, _⟩ => ⟨S16x2064x8x32, .f32⟩
  | .hbm, ⟨75, _⟩ => ⟨S1x2064x1x32, .f32⟩
  | .hbm, ⟨76, _⟩ => ⟨S16x2064x8x32, .f32⟩
  | .hbm, ⟨77, _⟩ => ⟨S16x2064x8x32, .f32⟩
  | .hbm, ⟨78, _⟩ => ⟨S16x2064x8x32, .f32⟩
  | .hbm, ⟨79, _⟩ => ⟨S16x2064x8x64, .f32⟩
  | .hbm, ⟨80, _⟩ => ⟨S_, .f32⟩
  | .hbm, ⟨81, _⟩ => ⟨S16x2064x8x256, .f32⟩
  | .hbm, ⟨82, _⟩ => ⟨S16x2064x8x256, .f32⟩
  | .hbm, ⟨83, _⟩ => ⟨S_, .f32⟩
  | .hbm, ⟨84, _⟩ => ⟨S16x2064x8x64, .f32⟩
  | .hbm, ⟨85, _⟩ => ⟨S16x2064x8x64, .f32⟩
  | .hbm, ⟨86, _⟩ => ⟨S_, .f32⟩
  | .hbm, ⟨87, _⟩ => ⟨S16x2064x8x64, .f32⟩
  | .hbm, ⟨88, _⟩ => ⟨S16x2064x8x384, .f32⟩
  | .hbm, ⟨89, _⟩ => ⟨S33024x8x384, .f32⟩
  | .hbm, ⟨90, _⟩ => ⟨S8x33024x384, .f32⟩
  | .hbm, ⟨91, _⟩ => ⟨S8x33024x384, .bf16⟩
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Kernel8.lean ====
abbrev S128x1024 : Shape := ⟨2, ![128, 1024]⟩
abbrev S1024 : Shape := ⟨1, ![1024]⟩
abbrev S2x128x8x128x128 : Shape := ⟨5, ![2, 128, 8, 128, 128]⟩
abbrev S1x1024 : Shape := ⟨2, ![1, 1024]⟩
abbrev S128x8x128 : Shape := ⟨3, ![128, 8, 128]⟩
abbrev S128x128x8 : Shape := ⟨3, ![128, 128, 8]⟩
abbrev S128x1x1024 : Shape := ⟨3, ![128, 1, 1024]⟩
abbrev S4x128x8 : Shape := ⟨3, ![4, 128, 8]⟩
abbrev S4x1x1024 : Shape := ⟨3, ![4, 1, 1024]⟩
abbrev S1x4x8x128x128 : Shape := ⟨5, ![1, 4, 8, 128, 128]⟩
abbrev S2x4x8x128x128 : Shape := ⟨5, ![2, 4, 8, 128, 128]⟩
abbrev S4x8x128x128 : Shape := ⟨4, ![4, 8, 128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S1x1x1x128x128 : Shape := ⟨5, ![1, 1, 1, 128, 128]⟩
abbrev S128x128 : Shape := ⟨2, ![128, 128]⟩
abbrev S128 : Shape := ⟨1, ![128]⟩
abbrev S1 : Shape := ⟨1, ![1]⟩
abbrev S1x1 : Shape := ⟨2, ![1, 1]⟩
abbrev S1x1x1024 : Shape := ⟨3, ![1, 1, 1024]⟩

abbrev nBuf : Space → Nat
  | .hbm => 18
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024, .f32⟩
  | .hbm, ⟨6, _⟩ => ⟨S2x128x8x128x128, .f32⟩
  | .hbm, ⟨7, _⟩ => ⟨S1x1024, .f32⟩
  | .hbm, ⟨8, _⟩ => ⟨S128x8x128, .f32⟩
  | .hbm, ⟨9, _⟩ => ⟨S128x128x8, .f32⟩
  | .hbm, ⟨10, _⟩ => ⟨S128x8x128, .f32⟩
  | .hbm, ⟨11, _⟩ => ⟨S128x128x8, .f32⟩
  | .hbm, ⟨12, _⟩ => ⟨S128x8x128, .f32⟩
  | .hbm, ⟨13, _⟩ => ⟨S128x128x8, .f32⟩
  | .hbm, ⟨14, _⟩ => ⟨S128x1x1024, .f32⟩
  | .hbm, ⟨15, _⟩ => ⟨S128x1x1024, .f32⟩
  | .hbm, ⟨16, _⟩ => ⟨S128x1x1024, .bf16⟩
  | .hbm, ⟨17, _⟩ => ⟨S2x128x8x128x128, .f32⟩
  | .local _ .vmem, ⟨0, _⟩ => ⟨S4x128x8, .f32⟩
  | .local _ .vmem, ⟨1, _⟩ => ⟨S4x128x8, .f32⟩
  | .local _ .vmem, ⟨2, _⟩ => ⟨S4x128x8, .f32⟩
  | .local _ .vmem, ⟨3, _⟩ => ⟨S4x128x8, .f32⟩
  | .local _ .vmem, ⟨4, _⟩ => ⟨S4x128x8, .f32⟩
  | .local _ .vmem, ⟨5, _⟩ => ⟨S4x128x8, .f32⟩
  | .local _ .vmem, ⟨6, _⟩ => ⟨S4x1x1024, .f32⟩
  | .local _ .vmem, ⟨7, _⟩ => ⟨S4x1x1024, .f32⟩
  | .local _ .vmem, ⟨8, _⟩ => ⟨S4x1x1024, .f32⟩
  | .local _ .vmem, ⟨9, _⟩ => ⟨S4x1x1024, .f32⟩
  | .local _ .vmem, ⟨10, _⟩ => ⟨S1x1024, .f32⟩
  | .local _ .vmem, ⟨11, _⟩ => ⟨S1x4x8x128x128, .f32⟩
  | .local _ .vmem, ⟨12, _⟩ => ⟨S1x4x8x128x128, .f32⟩
  | .local _ .vmem, ⟨13, _⟩ => ⟨S4x1x1024, .bf16⟩
  | .local _ .vmem, ⟨14, _⟩ => ⟨S4x1x1024, .bf16⟩
  | .local _ .vmem, ⟨15, _⟩ => ⟨S2x4x8x128x128, .f32⟩
  | .local _ .vmem, ⟨16, _⟩ => ⟨S2x4x8x128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S4x128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S128x1024 : Shape := ⟨2, ![128, 1024]⟩
abbrev S1024 : Shape := ⟨1, ![1024]⟩
abbrev S2x128x8x128x128 : Shape := ⟨5, ![2, 128, 8, 128, 128]⟩
abbrev S1x128x8x128x128 : Shape := ⟨5, ![1, 128, 8, 128, 128]⟩
abbrev S128x8x128x128 : Shape := ⟨4, ![128, 8, 128, 128]⟩
abbrev S128x8x128 : Shape := ⟨3, ![128, 8, 128]⟩
abbrev S128x8x128x1 : Shape := ⟨4, ![128, 8, 128, 1]⟩
abbrev S128x8x1x128 : Shape := ⟨4, ![128, 8, 1, 128]⟩
abbrev S_ : Shape := ⟨0, ![]⟩
abbrev S8x128 : Shape := ⟨2, ![8, 128]⟩
abbrev S128x8 : Shape := ⟨2, ![128, 8]⟩
abbrev S128x8x1 : Shape := ⟨3, ![128, 8, 1]⟩
abbrev S1x8x128 : Shape := ⟨3, ![1, 8, 128]⟩
abbrev S128x1x1024 : Shape := ⟨3, ![128, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024, .f32⟩
  | .hbm, ⟨6, _⟩ => ⟨S2x128x8x128x128, .f32⟩
  | .hbm, ⟨7, _⟩ => ⟨S1x128x8x128x128, .f32⟩
  | .hbm, ⟨8, _⟩ => ⟨S128x8x128x128, .f32⟩
  | .hbm, ⟨9, _⟩ => ⟨S128x8x128, .f32⟩
  | .hbm, ⟨10, _⟩ => ⟨S128x8x128, .f32⟩
  | .hbm, ⟨11, _⟩ => ⟨S128x8x128x1, .f32⟩
  | .hbm, ⟨12, _⟩ => ⟨S128x8x128x128, .f32⟩
  | .hbm, ⟨13, _⟩ => ⟨S128x8x128x128, .f32⟩
  | .hbm, ⟨14, _⟩ => ⟨S128x8x128, .f32⟩
  | .hbm, ⟨15, _⟩ => ⟨S128x8x128x1, .f32⟩
  | .hbm, ⟨16, _⟩ => ⟨S128x8x128, .f32⟩
  | .hbm, ⟨17, _⟩ => ⟨S128x8x1x128, .f32⟩
  | .hbm, ⟨18, _⟩ => ⟨S128x8x128x128, .f32⟩
  | .hbm, ⟨19, _⟩ => ⟨S128x8x128x128, .f32⟩
  | .hbm, ⟨20, _⟩ => ⟨S128x8x128x128, .f32⟩
  | .hbm, ⟨21, _⟩ => ⟨S128x8x128x128, .f32⟩
  | .hbm, ⟨22, _⟩ => ⟨S128x8x128, .f32⟩
  | .hbm, ⟨23, _⟩ => ⟨S128x8x128x1, .f32⟩
  | .hbm, ⟨24, _⟩ => ⟨S128x8x128x128, .f32⟩
  | .hbm, ⟨25, _⟩ => ⟨S128x8x128x128, .f32⟩
  | .hbm, ⟨26, _⟩ => ⟨S_, .f32⟩
  | .hbm, ⟨27, _⟩ => ⟨S128x8x128, .f32⟩
  | .hbm, ⟨28, _⟩ => ⟨S8x128, .f32⟩
  | .hbm, ⟨29, _⟩ => ⟨S128x8x128, .f32⟩
  | .hbm, ⟨30, _⟩ => ⟨S_, .f32⟩
  | .hbm, ⟨31, _⟩ => ⟨S128x8, .f32⟩
  | .hbm, ⟨32, _⟩ => ⟨S128x8x1, .f32⟩
  | .hbm, ⟨33, _⟩ => ⟨S_, .f32⟩
  | .hbm, ⟨34, _⟩ => ⟨S128x8x1, .f32⟩
  | .hbm, ⟨35, _⟩ => ⟨S128x8x1, .f32⟩
  | .hbm, ⟨36, _⟩ => ⟨S_, .f32⟩
  | .hbm, ⟨37, _⟩ => ⟨S128x8x1, .f32⟩
  | .hbm, ⟨38, _⟩ => ⟨S128x8x1, .f32⟩
  | .hbm, ⟨39, _⟩ => ⟨S128x8x1, .f32⟩
  | .hbm, ⟨40, _⟩ => ⟨S128x8x128, .f32⟩
  | .hbm, ⟨41, _⟩ => ⟨S128x8x128, .f32⟩
  | .hbm, ⟨42, _⟩ => ⟨S1x8x128, .f32⟩
  | .hbm, ⟨43, _⟩ => ⟨S128x8x128, .f32⟩
  | .hbm, ⟨44, _⟩ => ⟨S128x8x128, .f32⟩
  | .hbm, ⟨45, _⟩ => ⟨S128x8x128, .f32⟩
  | .hbm, ⟨46, _⟩ => ⟨S128x8x128, .f32⟩
  | .hbm, ⟨47, _⟩ => ⟨S128x1x1024, .f32⟩
  | .hbm, ⟨48, _⟩ => ⟨S128x1x1024, .bf16⟩
  | .hbm, ⟨49, _⟩ => ⟨S_, .f32⟩
  | .hbm, ⟨50, _⟩ => ⟨S128x8x128x128, .f32⟩
  | .hbm, ⟨51, _⟩ => ⟨S1x128x8x128x128, .f32⟩
  | .hbm, ⟨52, _⟩ => ⟨S1x128x8x128x128, .f32⟩
  | .hbm, ⟨53, _⟩ => ⟨S2x128x8x128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel9.lean ====
abbrev S128x1024 : Shape := ⟨2, ![128, 1024]⟩
abbrev S1024 : Shape := ⟨1, ![1024]⟩
abbrev S2x128x8x128x128 : Shape := ⟨5, ![2, 128, 8, 128, 128]⟩
abbrev S1x1024 : Shape := ⟨2, ![1, 1024]⟩
abbrev S128x8x128 : Shape := ⟨3, ![128, 8, 128]⟩
abbrev S128x128x8 : Shape := ⟨3, ![128, 128, 8]⟩
abbrev S128x1x1024 : Shape := ⟨3, ![128, 1, 1024]⟩
abbrev S4x128x8 : Shape := ⟨3, ![4, 128, 8]⟩
abbrev S4x1x1024 : Shape := ⟨3, ![4, 1, 1024]⟩
abbrev S1x4x8x128x128 : Shape := ⟨5, ![1, 4, 8, 128, 128]⟩
abbrev S1x128x1 : Shape := ⟨3, ![1, 128, 1]⟩
abbrev S128x1 : Shape := ⟨2, ![128, 1]⟩
abbrev S1x1x128 : Shape := ⟨3, ![1, 1, 128]⟩
abbrev S1x128 : Shape := ⟨2, ![1, 128]⟩
abbrev S1x1x1x128x128 : Shape := ⟨5, ![1, 1, 1, 128, 128]⟩
abbrev S128x128 : Shape := ⟨2, ![128, 128]⟩
abbrev S128 : Shape := ⟨1, ![128]⟩
abbrev S1 : Shape := ⟨1, ![1]⟩
abbrev S1x1 : Shape := ⟨2, ![1, 1]⟩
abbrev S1x1x1024 : Shape := ⟨3, ![1, 1, 1024]⟩

abbrev nBuf : Space → Nat
  | .hbm => 19
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024, .f32⟩
  | .hbm, ⟨6, _⟩ => ⟨S2x128x8x128x128, .f32⟩
  | .hbm, ⟨7, _⟩ => ⟨S2x128x8x128x128, .f32⟩
  | .hbm, ⟨8, _⟩ => ⟨S1x1024, .f32⟩
  | .hbm, ⟨9, _⟩ => ⟨S128x8x128, .f32⟩
  | .hbm, ⟨10, _⟩ => ⟨S128x128x8, .f32⟩
  | .hbm, ⟨11, _⟩ => ⟨S128x8x128, .f32⟩
  | .hbm, ⟨12, _⟩ => ⟨S128x128x8, .f32⟩
  | .hbm, ⟨13, _⟩ => ⟨S128x8x128, .f32⟩
  | .hbm, ⟨14, _⟩ => ⟨S128x128x8, .f32⟩
  | .hbm, ⟨15, _⟩ => ⟨S128x1x1024, .f32⟩
  | .hbm, ⟨16, _⟩ => ⟨S128x1x1024, .f32⟩
  | .hbm, ⟨17, _⟩ => ⟨S128x1x1024, .bf16⟩
  | .hbm, ⟨18, _⟩ => ⟨S2x128x8x128x128, .f32⟩
  | .local _ .vmem, ⟨0, _⟩ => ⟨S4x128x8, .f32⟩
  | .local _ .vmem, ⟨1, _⟩ => ⟨S4x128x8, .f32⟩
  | .local _ .vmem, ⟨2, _⟩ => ⟨S4x128x8, .f32⟩
  | .local _ .vmem, ⟨3, _⟩ => ⟨S4x128x8, .f32⟩
  | .local _ .vmem, ⟨4, _⟩ => ⟨S4x128x8, .f32⟩
  | .local _ .vmem, ⟨5, _⟩ => ⟨S4x128x8, .f32⟩
  | .local _ .vmem, ⟨6, _⟩ => ⟨S4x1x1024, .f32⟩
  | .local _ .vmem, ⟨7, _⟩ => ⟨S4x1x1024, .f32⟩
  | .local _ .vmem, ⟨8, _⟩ => ⟨S4x1x1024, .f32⟩
  | .local _ .vmem, ⟨9, _⟩ => ⟨S4x1x1024, .f32⟩
  | .local _ .vmem, ⟨10, _⟩ => ⟨S1x1024, .f32⟩
  | .local _ .vmem, ⟨11, _⟩ => ⟨S1x4x8x128x128, .f32⟩
  | .local _ .vmem, ⟨12, _⟩ => ⟨S1x4x8x128x128, .f32⟩
  | .local _ .vmem, ⟨13, _⟩ => ⟨S4x1x1024, .bf16⟩
  | .local _ .vmem, ⟨14, _⟩ => ⟨S4x1x1024, .bf16⟩
  | .local _ .vmem, ⟨15, _⟩ => ⟨S1x4x8x128x128, .f32⟩
  | .local _ .vmem, ⟨16, _⟩ => ⟨S1x4x8x128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S4x128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S128x1024 : Shape := ⟨2, ![128, 1024]⟩
abbrev S1024 : Shape := ⟨1, ![1024]⟩
abbrev S2x128x8x128x128 : Shape := ⟨5, ![2, 128, 8, 128, 128]⟩
abbrev S1x128x8x128x128 : Shape := ⟨5, ![1, 128, 8, 128, 128]⟩
abbrev S128x8x128x128 : Shape := ⟨4, ![128, 8, 128, 128]⟩
abbrev S128x8x128 : Shape := ⟨3, ![128, 8, 128]⟩
abbrev S128x8x128x1 : Shape := ⟨4, ![128, 8, 128, 1]⟩
abbrev S128x8x1x128 : Shape := ⟨4, ![128, 8, 1, 128]⟩
abbrev S_ : Shape := ⟨0, ![]⟩
abbrev S8x128 : Shape := ⟨2, ![8, 128]⟩
abbrev S128x8 : Shape := ⟨2, ![128, 8]⟩
abbrev S128x8x1 : Shape := ⟨3, ![128, 8, 1]⟩
abbrev S1x8x128 : Shape := ⟨3, ![1, 8, 128]⟩
abbrev S128x1x1024 : Shape := ⟨3, ![128, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1024, .f32⟩
  | .hbm, ⟨6, _⟩ => ⟨S2x128x8x128x128, .f32⟩
  | .hbm, ⟨7, _⟩ => ⟨S2x128x8x128x128, .f32⟩
  | .hbm, ⟨8, _⟩ => ⟨S1x128x8x128x128, .f32⟩
  | .hbm, ⟨9, _⟩ => ⟨S128x8x128x128, .f32⟩
  | .hbm, ⟨10, _⟩ => ⟨S128x8x128, .f32⟩
  | .hbm, ⟨11, _⟩ => ⟨S128x8x128, .f32⟩
  | .hbm, ⟨12, _⟩ => ⟨S128x8x128x1, .f32⟩
  | .hbm, ⟨13, _⟩ => ⟨S128x8x128x128, .f32⟩
  | .hbm, ⟨14, _⟩ => ⟨S128x8x128x128, .f32⟩
  | .hbm, ⟨15, _⟩ => ⟨S128x8x128, .f32⟩
  | .hbm, ⟨16, _⟩ => ⟨S128x8x128x1, .f32⟩
  | .hbm, ⟨17, _⟩ => ⟨S128x8x128, .f32⟩
  | .hbm, ⟨18, _⟩ => ⟨S128x8x1x128, .f32⟩
  | .hbm, ⟨19, _⟩ => ⟨S128x8x128x128, .f32⟩
  | .hbm, ⟨20, _⟩ => ⟨S128x8x128x128, .f32⟩
  | .hbm, ⟨21, _⟩ => ⟨S128x8x128x128, .f32⟩
  | .hbm, ⟨22, _⟩ => ⟨S128x8x128x128, .f32⟩
  | .hbm, ⟨23, _⟩ => ⟨S128x8x128, .f32⟩
  | .hbm, ⟨24, _⟩ => ⟨S128x8x128x1, .f32⟩
  | .hbm, ⟨25, _⟩ => ⟨S128x8x128x128, .f32⟩
  | .hbm, ⟨26, _⟩ => ⟨S128x8x128x128, .f32⟩
  | .hbm, ⟨27, _⟩ => ⟨S_, .f32⟩
  | .hbm, ⟨28, _⟩ => ⟨S128x8x128, .f32⟩
  | .hbm, ⟨29, _⟩ => ⟨S8x128, .f32⟩
  | .hbm, ⟨30, _⟩ => ⟨S128x8x128, .f32⟩
  | .hbm, ⟨31, _⟩ => ⟨S_, .f32⟩
  | .hbm, ⟨32, _⟩ => ⟨S128x8, .f32⟩
  | .hbm, ⟨33, _⟩ => ⟨S128x8x1, .f32⟩
  | .hbm, ⟨34, _⟩ => ⟨S_, .f32⟩
  | .hbm, ⟨35, _⟩ => ⟨S128x8x1, .f32⟩
  | .hbm, ⟨36, _⟩ => ⟨S128x8x1, .f32⟩
  | .hbm, ⟨37, _⟩ => ⟨S_, .f32⟩
  | .hbm, ⟨38, _⟩ => ⟨S128x8x1, .f32⟩
  | .hbm, ⟨39, _⟩ => ⟨S128x8x1, .f32⟩
  | .hbm, ⟨40, _⟩ => ⟨S128x8x1, .f32⟩
  | .hbm, ⟨41, _⟩ => ⟨S128x8x128, .f32⟩
  | .hbm, ⟨42, _⟩ => ⟨S128x8x128, .f32⟩
  | .hbm, ⟨43, _⟩ => ⟨S1x8x128, .f32⟩
  | .hbm, ⟨44, _⟩ => ⟨S128x8x128, .f32⟩
  | .hbm, ⟨45, _⟩ => ⟨S128x8x128, .f32⟩
  | .hbm, ⟨46, _⟩ => ⟨S128x8x128, .f32⟩
  | .hbm, ⟨47, _⟩ => ⟨S128x8x128, .f32⟩
  | .hbm, ⟨48, _⟩ => ⟨S128x1x1024, .f32⟩
  | .hbm, ⟨49, _⟩ => ⟨S128x1x1024, .bf16⟩
  | .hbm, ⟨50, _⟩ => ⟨S1x128x8x128x128, .f32⟩
  | .hbm, ⟨51, _⟩ => ⟨S128x8x128x128, .f32⟩
  | .hbm, ⟨52, _⟩ => ⟨S1x128x8x128x128, .f32⟩
  | .hbm, ⟨53, _⟩ => ⟨S1x128x8x128x128, .f32⟩
  | .hbm, ⟨54, _⟩ => ⟨S2x128x8x128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel10.lean ====
abbrev S8x33024x384 : Shape := ⟨3, ![8, 33024, 384]⟩
abbrev S33024x384 : Shape := ⟨2, ![33024, 384]⟩
abbrev S256x8x128 : Shape := ⟨3, ![256, 8, 128]⟩
abbrev S256x1024 : Shape := ⟨2, ![256, 1024]⟩
abbrev S16x2064x384 : Shape := ⟨3, ![16, 2064, 384]⟩
abbrev S16x2064x256 : Shape := ⟨3, ![16, 2064, 256]⟩
abbrev S16x256x2064 : Shape := ⟨3, ![16, 256, 2064]⟩
abbrev S8x16x2064x384 : Shape := ⟨4, ![8, 16, 2064, 384]⟩
abbrev S16x2064x1024 : Shape := ⟨3, ![16, 2064, 1024]⟩
abbrev S8x1x256x384 : Shape := ⟨4, ![8, 1, 256, 384]⟩
abbrev S1x2064x384 : Shape := ⟨3, ![1, 2064, 384]⟩
abbrev S1x256x2064 : Shape := ⟨3, ![1, 256, 2064]⟩
abbrev S1x256x1024 : Shape := ⟨3, ![1, 256, 1024]⟩
abbrev S8x1x256 : Shape := ⟨3, ![8, 1, 256]⟩
abbrev S8x256x256 : Shape := ⟨3, ![8, 256, 256]⟩
abbrev S1x256x384 : Shape := ⟨3, ![1, 256, 384]⟩
abbrev S256x384 : Shape := ⟨2, ![256, 384]⟩
abbrev S1x1x256x384 : Shape := ⟨4, ![1, 1, 256, 384]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x256x256 : Shape := ⟨3, ![1, 256, 256]⟩
abbrev S256x128 : Shape := ⟨2, ![256, 128]⟩
abbrev S1x256x128 : Shape := ⟨3, ![1, 256, 128]⟩
abbrev S8x1x16x384 : Shape := ⟨4, ![8, 1, 16, 384]⟩
abbrev S8x16x384 : Shape := ⟨3, ![8, 16, 384]⟩
abbrev S128x384 : Shape := ⟨2, ![128, 384]⟩
abbrev S2064x384 : Shape := ⟨2, ![2064, 384]⟩
abbrev S128x2064 : Shape := ⟨2, ![128, 2064]⟩
abbrev S128 : Shape := ⟨1, ![128]⟩
abbrev S128x1 : Shape := ⟨2, ![128, 1]⟩
abbrev S2064x256 : Shape := ⟨2, ![2064, 256]⟩
abbrev S128x256 : Shape := ⟨2, ![128, 256]⟩
abbrev S16x256 : Shape := ⟨2, ![16, 256]⟩
abbrev S16x128 : Shape := ⟨2, ![16, 128]⟩
abbrev S1x16x128 : Shape := ⟨3, ![1, 16, 128]⟩

abbrev nBuf : Space → Nat
  | .hbm => 12
  | .vmem => 12
  | .smem => 0
  | _ => 0

abbrev bufTy : (tb : Table) → Fin (tcTables nBuf tb) → BufTy
  | .hbm, ⟨0, _⟩ => ⟨S8x33024x384, .f32⟩
  | .hbm, ⟨1, _⟩ => ⟨S33024x384, .f32⟩
  | .hbm, ⟨2, _⟩ => ⟨S256x8x128, .f32⟩
  | .hbm, ⟨3, _⟩ => ⟨S8x33024x384, .bf16⟩
  | .hbm, ⟨4, _⟩ => ⟨S33024x384, .bf16⟩
  | .hbm, ⟨5, _⟩ => ⟨S256x1024, .f32⟩
  | .hbm, ⟨6, _⟩ => ⟨S256x1024, .bf16⟩
  | .hbm, ⟨7, _⟩ => ⟨S16x2064x384, .bf16⟩
  | .hbm, ⟨8, _⟩ => ⟨S16x2064x256, .bf16⟩
  | .hbm, ⟨9, _⟩ => ⟨S16x256x2064, .bf16⟩
  | .hbm, ⟨10, _⟩ => ⟨S8x16x2064x384, .bf16⟩
  | .hbm, ⟨11, _⟩ => ⟨S16x2064x1024, .bf16⟩
  | .local _ .vmem, ⟨0, _⟩ => ⟨S8x1x256x384, .bf16⟩
  | .local _ .vmem, ⟨1, _⟩ => ⟨S8x1x256x384, .bf16⟩
  | .local _ .vmem, ⟨2, _⟩ => ⟨S1x2064x384, .bf16⟩
  | .local _ .vmem, ⟨3, _⟩ => ⟨S1x2064x384, .bf16⟩
  | .local _ .vmem, ⟨4, _⟩ => ⟨S1x256x2064, .bf16⟩
  | .local _ .vmem, ⟨5, _⟩ => ⟨S1x256x2064, .bf16⟩
  | .local _ .vmem, ⟨6, _⟩ => ⟨S256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S8x1x256, .f32⟩
  | .local _ .vmem, ⟨10, _⟩ => ⟨S8x1x256, .f32⟩
  | .local _ .vmem, ⟨11, _⟩ => ⟨S8x256x256, .f32⟩
  | _, _ => ⟨S8x33024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_mult1 : BitVec 32 :=
  let c0_i32_12 : BitVec 32 := 0#32
  c0_i32_12
def k0_mult2 : BitVec 32 :=
  let c0_i32_20 : BitVec 32 := 0#32
  c0_i32_20
def k0_mult3 : BitVec 32 :=
  let c0_i32_27 : BitVec 32 := 0#32
  c0_i32_27
def k0_mult4 : BitVec 32 :=
  let c0_i32_34 : BitVec 32 := 0#32
  c0_i32_34
def k0_mult5 : BitVec 32 :=
  let c0_i32_41 : BitVec 32 := 0#32
  c0_i32_41
def k0_mult6 : BitVec 32 :=
  let c0_i32_48 : BitVec 32 := 0#32
  c0_i32_48
def k0_mult7 : BitVec 32 :=
  let c0_i32_55 : BitVec 32 := 0#32
  c0_i32_55
def k0_mult8 : BitVec 32 :=
  let c0_i32_62 : BitVec 32 := 0#32
  c0_i32_62
@[reducible] def k0_t1_loop (i : grid0.Coords) : Scf.Loop 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_70 : BitVec 32 := 1#32
  ⟨c0_i32_69, v78, c1_i32_70⟩
def k0_mult9 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_368 : BitVec 32 := 1#32
  let v531 : BitVec 32 := Scalar.addi arg10 c1_i32_368
  let c256_i32_369 : BitVec 32 := 256#32
  let v532 : BitVec 32 := Scalar.muli v531 c256_i32_369
  v532
def k0_off1 (i : grid0.Coords) (k0_t1 : Fin (k0_t1_loop i).trips) : Fin 3 → Nat :=
  let c0_370 : Index := 0#32
  let c0_i32_69 : BitVec 32 := 0#32
  let c1_i32_70 : BitVec 32 := 1#32
  let arg10 : BitVec 32 := Scf.iv c0_i32_69 c1_i32_70 k0_t1
  let c1_i32_368 : BitVec 32 := 1#32
  let v531 : BitVec 32 := Scalar.addi arg10 c1_i32_368
  let c256_i32_369 : BitVec 32 := 256#32
  let v532 : BitVec 32 := Scalar.muli v531 c256_i32_369
  let v533 : BitVec 32 := v532
  let v534 : Index := Scalar.indexCast v533
  let c0_371 : Index := 0#32
  ![0, v534.toNat, 0]
def k0_mult10 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_377 : BitVec 32 := 1#32
  let v540 : BitVec 32 := Scalar.addi arg10 c1_i32_377
  let c256_i32_378 : BitVec 32 := 256#32
  let v541 : BitVec 32 := Scalar.muli v540 c256_i32_378
  v541
def k0_mult11 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_400 : BitVec 32 := 256#32
  let v571 : BitVec 32 := Scalar.muli arg10 c256_i32_400
  v571
def k0_off2 (i : grid0.Coords) (k0_t1 : Fin (k0_t1_loop i).trips) : Fin 3 → Nat :=
  let c0_401 : Index := 0#32
  let c0_402 : Index := 0#32
  let c0_i32_69 : BitVec 32 := 0#32
  let c1_i32_70 : BitVec 32 := 1#32
  let arg10 : BitVec 32 := Scf.iv c0_i32_69 c1_i32_70 k0_t1
  let c256_i32_400 : BitVec 32 := 256#32
  let v571 : BitVec 32 := Scalar.muli arg10 c256_i32_400
  let v572 : BitVec 32 := v571
  let v573 : Index := Scalar.indexCast v572
  ![0, 0, v573.toNat]
def k0_mult12 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_404 : BitVec 32 := 1#32
  let v578 : BitVec 32 := Scalar.addi arg10 c1_i32_404
  let c256_i32_405 : BitVec 32 := 256#32
  let v579 : BitVec 32 := Scalar.muli v578 c256_i32_405
  v579
def k0_mult13 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_427 : BitVec 32 := 256#32
  let v609 : BitVec 32 := Scalar.muli arg10 c256_i32_427
  v609
def k0_mult14 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_437 : BitVec 32 := 1#32
  let v624 : BitVec 32 := Scalar.addi arg10 c1_i32_437
  let c256_i32_438 : BitVec 32 := 256#32
  let v625 : BitVec 32 := Scalar.muli v624 c256_i32_438
  v625
def k0_mult15 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_460 : BitVec 32 := 256#32
  let v655 : BitVec 32 := Scalar.muli arg10 c256_i32_460
  v655
def k0_mult16 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_470 : BitVec 32 := 1#32
  let v670 : BitVec 32 := Scalar.addi arg10 c1_i32_470
  let c256_i32_471 : BitVec 32 := 256#32
  let v671 : BitVec 32 := Scalar.muli v670 c256_i32_471
  v671
def k0_mult17 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_493 : BitVec 32 := 256#32
  let v701 : BitVec 32 := Scalar.muli arg10 c256_i32_493
  v701
def k0_mult18 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_503 : BitVec 32 := 1#32
  let v716 : BitVec 32 := Scalar.addi arg10 c1_i32_503
  let c256_i32_504 : BitVec 32 := 256#32
  let v717 : BitVec 32 := Scalar.muli v716 c256_i32_504
  v717
def k0_mult19 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_526 : BitVec 32 := 256#32
  let v747 : BitVec 32 := Scalar.muli arg10 c256_i32_526
  v747
def k0_mult20 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_536 : BitVec 32 := 1#32
  let v762 : BitVec 32 := Scalar.addi arg10 c1_i32_536
  let c256_i32_537 : BitVec 32 := 256#32
  let v763 : BitVec 32 := Scalar.muli v762 c256_i32_537
  v763
def k0_mult21 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_559 : BitVec 32 := 256#32
  let v793 : BitVec 32 := Scalar.muli arg10 c256_i32_559
  v793
def k0_mult22 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c1_i32_569 : BitVec 32 := 1#32
  let v808 : BitVec 32 := Scalar.addi arg10 c1_i32_569
  let c256_i32_570 : BitVec 32 := 256#32
  let v809 : BitVec 32 := Scalar.muli v808 c256_i32_570
  v809
def k0_mult23 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_592 : BitVec 32 := 256#32
  let v839 : BitVec 32 := Scalar.muli arg10 c256_i32_592
  v839
def k0_mult24 (i : grid0.Coords) (k0_t1 : Fin (k0_t1_loop i).trips) : BitVec 32 :=
  let c0_i32_69 : BitVec 32 := 0#32
  let c1_i32_70 : BitVec 32 := 1#32
  let arg10 : BitVec 32 := Scf.iv c0_i32_69 c1_i32_70 k0_t1
  let c256_i32_616 : BitVec 32 := 256#32
  let v876 : BitVec 32 := Scalar.muli arg10 c256_i32_616
  v876
@[reducible] def k0_t2_loop (i : grid0.Coords) : Scf.Loop 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let v75 : BitVec 32 := Scalar.addi c0_i32_69 v74
  let c1_i32_71 : BitVec 32 := 1#32
  ⟨v78, v75, c1_i32_71⟩
def k0_mult25 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_368 : BitVec 32 := 1#32
  let v531 : BitVec 32 := Scalar.addi arg10 c1_i32_368
  let c256_i32_369 : BitVec 32 := 256#32
  let v532 : BitVec 32 := Scalar.muli v531 c256_i32_369
  v532
def k0_off3 (i : grid0.Coords) (k0_t2 : Fin (k0_t2_loop i).trips) : Fin 3 → Nat :=
  let c0_370 : Index := 0#32
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_368 : BitVec 32 := 1#32
  let v531 : BitVec 32 := Scalar.addi arg10 c1_i32_368
  let c256_i32_369 : BitVec 32 := 256#32
  let v532 : BitVec 32 := Scalar.muli v531 c256_i32_369
  let v533 : BitVec 32 := v532
  let v534 : Index := Scalar.indexCast v533
  let c0_371 : Index := 0#32
  ![0, v534.toNat, 0]
def k0_mult26 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_377 : BitVec 32 := 1#32
  let v540 : BitVec 32 := Scalar.addi arg10 c1_i32_377
  let c256_i32_378 : BitVec 32 := 256#32
  let v541 : BitVec 32 := Scalar.muli v540 c256_i32_378
  v541
def k0_mult27 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_400 : BitVec 32 := 256#32
  let v571 : BitVec 32 := Scalar.muli arg10 c256_i32_400
  v571
def k0_off4 (i : grid0.Coords) (k0_t2 : Fin (k0_t2_loop i).trips) : Fin 3 → Nat :=
  let c0_401 : Index := 0#32
  let c0_402 : Index := 0#32
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_400 : BitVec 32 := 256#32
  let v571 : BitVec 32 := Scalar.muli arg10 c256_i32_400
  let v572 : BitVec 32 := v571
  let v573 : Index := Scalar.indexCast v572
  ![0, 0, v573.toNat]
def k0_mult28 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_404 : BitVec 32 := 1#32
  let v578 : BitVec 32 := Scalar.addi arg10 c1_i32_404
  let c256_i32_405 : BitVec 32 := 256#32
  let v579 : BitVec 32 := Scalar.muli v578 c256_i32_405
  v579
def k0_mult29 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_427 : BitVec 32 := 256#32
  let v609 : BitVec 32 := Scalar.muli arg10 c256_i32_427
  v609
def k0_mult30 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_437 : BitVec 32 := 1#32
  let v624 : BitVec 32 := Scalar.addi arg10 c1_i32_437
  let c256_i32_438 : BitVec 32 := 256#32
  let v625 : BitVec 32 := Scalar.muli v624 c256_i32_438
  v625
def k0_mult31 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_460 : BitVec 32 := 256#32
  let v655 : BitVec 32 := Scalar.muli arg10 c256_i32_460
  v655
def k0_mult32 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_470 : BitVec 32 := 1#32
  let v670 : BitVec 32 := Scalar.addi arg10 c1_i32_470
  let c256_i32_471 : BitVec 32 := 256#32
  let v671 : BitVec 32 := Scalar.muli v670 c256_i32_471
  v671
def k0_mult33 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_493 : BitVec 32 := 256#32
  let v701 : BitVec 32 := Scalar.muli arg10 c256_i32_493
  v701
def k0_mult34 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_503 : BitVec 32 := 1#32
  let v716 : BitVec 32 := Scalar.addi arg10 c1_i32_503
  let c256_i32_504 : BitVec 32 := 256#32
  let v717 : BitVec 32 := Scalar.muli v716 c256_i32_504
  v717
def k0_mult35 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_526 : BitVec 32 := 256#32
  let v747 : BitVec 32 := Scalar.muli arg10 c256_i32_526
  v747
def k0_mult36 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_536 : BitVec 32 := 1#32
  let v762 : BitVec 32 := Scalar.addi arg10 c1_i32_536
  let c256_i32_537 : BitVec 32 := 256#32
  let v763 : BitVec 32 := Scalar.muli v762 c256_i32_537
  v763
def k0_mult37 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_559 : BitVec 32 := 256#32
  let v793 : BitVec 32 := Scalar.muli arg10 c256_i32_559
  v793
def k0_mult38 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c1_i32_569 : BitVec 32 := 1#32
  let v808 : BitVec 32 := Scalar.addi arg10 c1_i32_569
  let c256_i32_570 : BitVec 32 := 256#32
  let v809 : BitVec 32 := Scalar.muli v808 c256_i32_570
  v809
def k0_mult39 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_592 : BitVec 32 := 256#32
  let v839 : BitVec 32 := Scalar.muli arg10 c256_i32_592
  v839
def k0_mult40 (i : grid0.Coords) (k0_t2 : Fin (k0_t2_loop i).trips) : BitVec 32 :=
  let c0_i32_69 : BitVec 32 := 0#32
  let arg1 : BitVec 32 := BitVec.ofNat 32 (i 1).val
  let v74 : BitVec 32 := Scalar.subi arg1 c0_i32_69
  let c1_i32 : BitVec 32 := 1#32
  let v76 : BitVec 32 := Scalar.divsi v74 c1_i32
  let v77 : BitVec 32 := Scalar.muli v76 c1_i32
  let v78 : BitVec 32 := Scalar.addi c0_i32_69 v77
  let c1_i32_71 : BitVec 32 := 1#32
  let arg10 : BitVec 32 := Scf.iv v78 c1_i32_71 k0_t2
  let c256_i32_616 : BitVec 32 := 256#32
  let v876 : BitVec 32 := Scalar.muli arg10 c256_i32_616
  v876
def k0_mult41 (i : grid0.Coords) : BitVec 32 :=
  let arg1 : BitVec 32 := BitVec.ofNat 32 (i 1).val
  let c256_i32 : BitVec 32 := 256#32
  let v115 : BitVec 32 := Scalar.muli arg1 c256_i32
  v115
def k0_off5 (i : grid0.Coords) : Fin 3 → Nat :=
  let c0_87 : Index := 0#32
  let c0_88 : Index := 0#32
  let arg1 : BitVec 32 := BitVec.ofNat 32 (i 1).val
  let c256_i32 : BitVec 32 := 256#32
  let v115 : BitVec 32 := Scalar.muli arg1 c256_i32
  let v116 : BitVec 32 := v115
  let v117 : Index := Scalar.indexCast v116
  ![0, 0, v117.toNat]
def k0_mult42 (i : grid0.Coords) : BitVec 32 :=
  let arg1 : BitVec 32 := BitVec.ofNat 32 (i 1).val
  let c256_i32_105 : BitVec 32 := 256#32
  let v146 : BitVec 32 := Scalar.muli arg1 c256_i32_105
  v146
def k0_mult43 (i : grid0.Coords) : BitVec 32 :=
  let arg1 : BitVec 32 := BitVec.ofNat 32 (i 1).val
  let c256_i32_130 : BitVec 32 := 256#32
  let v185 : BitVec 32 := Scalar.muli arg1 c256_i32_130
  v185
def k0_mult44 (i : grid0.Coords) : BitVec 32 :=
  let arg1 : BitVec 32 := BitVec.ofNat 32 (i 1).val
  let c256_i32_155 : BitVec 32 := 256#32
  let v224 : BitVec 32 := Scalar.muli arg1 c256_i32_155
  v224
def k0_mult45 (i : grid0.Coords) : BitVec 32 :=
  let arg1 : BitVec 32 := BitVec.ofNat 32 (i 1).val
  let c256_i32_180 : BitVec 32 := 256#32
  let v263 : BitVec 32 := Scalar.muli arg1 c256_i32_180
  v263
def k0_mult46 (i : grid0.Coords) : BitVec 32 :=
  let arg1 : BitVec 32 := BitVec.ofNat 32 (i 1).val
  let c256_i32_205 : BitVec 32 := 256#32
  let v302 : BitVec 32 := Scalar.muli arg1 c256_i32_205
  v302
def k0_mult47 (i : grid0.Coords) : BitVec 32 :=
  let arg1 : BitVec 32 := BitVec.ofNat 32 (i 1).val
  let c256_i32_230 : BitVec 32 := 256#32
  let v341 : BitVec 32 := Scalar.muli arg1 c256_i32_230
  v341
def k0_mult48 (i : grid0.Coords) : BitVec 32 :=
  let arg1 : BitVec 32 := BitVec.ofNat 32 (i 1).val
  let c256_i32_255 : BitVec 32 := 256#32
  let v380 : BitVec 32 := Scalar.muli arg1 c256_i32_255
  v380
def k0_cond2 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2064 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Proof.Rows.lean ====
/- One row of the layer's second half, as functions of rows of extended reals: the output projection added to the
   residual, the root-mean-square norm, the feed-forward with a squared ReLU, and their composition. Every variant of
   the kernel call and every reference is read down to these. -/
module

public import Idealize.ShloMosaic.Lib.Pointwise

@[expose] public section

noncomputable section

namespace Cert.Rows

open Idealize.ShloMosaic

/-- The norm of a row `x` with gain `g`: `x` over the square root of its mean square (plus the printed epsilon), times `g`. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- The residual row `h` plus the mixer's row `o` through the output weights. -/
def mix (h o : Fin 1024 → EReal) (w : Fin 1024 → Fin 1024 → EReal) (c : Fin 1024) : EReal :=
  h c + ∑ k, o k * w k c

/-- Hidden unit `f` of the feed-forward, before it is squared. -/
def act {n : ℕ} (x : Fin 1024 → EReal) (u : Fin 1024 → Fin n → EReal) (f : Fin n) : EReal :=
  max (∑ k, x k * u k f) 0

/-- The feed-forward of a row over `n` hidden units. -/
def ffn {n : ℕ} (x : Fin 1024 → EReal) (u : Fin 1024 → Fin n → EReal) (d : Fin n → Fin 1024 → EReal) (c : Fin 1024) : EReal :=
  ∑ f, act x u f * act x u f * d f c

/-- The half `j` (0 or 1) of 4096 hidden units, as units of the whole. -/
def half (j : ℕ) (f : Fin 2048) : Fin 4096 := ⟨j % 2 * 2048 + f.val, by omega⟩

/-- `half` depends on the parity of its number alone. -/
theorem half_parity {j j' : ℕ} (h : j % 2 = j' % 2) : half j = half j' := by
  funext f; apply Fin.ext; simp only [half, h]

/-- The feed-forward over all hidden units is the sum of those over its two halves. -/
theorem ffn_halves (x : Fin 1024 → EReal) (u : Fin 1024 → Fin 4096 → EReal) (d : Fin 4096 → Fin 1024 → EReal) (c : Fin 1024) :
    ffn x u d c = ffn x (fun k f => u k (half 0 f)) (fun f => d (half 0 f)) c
      + ffn x (fun k f => u k (half 1 f)) (fun f => d (half 1 f)) c := by
  unfold ffn
  rw [Fin.sum_univ_two_halves 2048 2048 rfl]
  refine congrArg₂ (· + ·) (Finset.sum_congr rfl fun f _ => ?_) (Finset.sum_congr rfl fun f _ => ?_)
  · have e : (⟨f.val, by omega⟩ : Fin 4096) = half 0 f := Fin.ext (by simp [half])
    simp only [act, ← e]
    first | done | rfl
  · have e : (⟨2048 + f.val, by omega⟩ : Fin 4096) = half 1 f := Fin.ext (by simp [half])
    simp only [act, ← e]
    first | done | rfl

/-- One row of the call without the final norm. -/
def layer (h o : Fin 1024 → EReal) (w : Fin 1024 → Fin 1024 → EReal) (g : Fin 1024 → EReal)
    (u : Fin 1024 → Fin 4096 → EReal) (d : Fin 4096 → Fin 1024 → EReal) (c : Fin 1024) : EReal :=
  mix h o w c + ffn (rms (mix h o w) g) u d c

/-- The residual after the projection, plus one half of the feed-forward, plus the other, is the whole row. -/
theorem layer_halves (h o : Fin 1024 → EReal) (w : Fin 1024 → Fin 1024 → EReal) (g : Fin 1024 → EReal)
    (u : Fin 1024 → Fin 4096 → EReal) (d : Fin 4096 → Fin 1024 → EReal) (c : Fin 1024) :
    mix h o w c + ffn (rms (mix h o w) g) (fun k f => u k (half 0 f)) (fun f => d (half 0 f)) c
      + ffn (rms (mix h o w) g) (fun k f => u k (half 1 f)) (fun f => d (half 1 f)) c = layer h o w g u d c := by
  unfold layer
  rw [ffn_halves, add_assoc]

end Cert.Rows

end
-- ==== Proof.MlpKernel.lean ====
/- What the Element-windowed call leaves in its result: row `r` of the 32768 kept rows is the layer's row, with the final
   norm, of position `16 + r % 2048` of sequence `r / 2048`. -/
module

public import proofs.«01_k».proof.Proof.Gen.KernelIdeal.Value
public import proofs.«01_k».proof.Proof.Rows
public import Idealize.ShloMosaic.Lib.StableHlo.ReadAt
public import Idealize.ShloMosaic.Lib.Tactic

@[expose] public section

set_option maxRecDepth 16384

noncomputable section

namespace Cert.MlpKernel

open Idealize.ShloMosaic Idealize.ShloMosaic.TcCoe Idealize.SL.Sem Cert.KernelIdeal Cert.KernelIdeal.Gen Cert.Rows

variable (m : (ℓ : Loc nD τ sig) → Buf (Elt Ideal) ℓ)

/-! ## The payloads, row by row -/

/-- The first payload at a place: the residual plus the projected mixer row. -/
theorem pay1_at (a : Vec Ideal S512x1024 .f32) (b : Vec Ideal S512x1024 .bf16) (w : Vec Ideal S1024x1024 .bf16)
    (r : Fin 512) (c : Fin 1024) :
    k0_pay1 (F := Ideal) a b w (ix2 r c) = mix (fun k => a (ix2 r k)) (fun k => b (ix2 r k)) (fun k l => w (ix2 k l)) c := by
  pointwise [k0_pay1]
  rfl

/-- The second payload at a place: the norm of that row. -/
theorem pay2_at (a : Vec Ideal S512x1024 .f32) (b : Vec Ideal S512x1024 .bf16) (w : Vec Ideal S1024x1024 .bf16)
    (g : Vec Ideal S1x1024 .f32) (r : Fin 512) (c : Fin 1024) :
    k0_pay2 (F := Ideal) a b w g (ix2 r c)
      = rms (mix (fun k => a (ix2 r k)) (fun k => b (ix2 r k)) (fun k l => w (ix2 k l))) (fun l => g (ix2 0 l)) c := by
  pointwise [k0_pay2]
  simp only [pay1_at]
  rfl

/-- The third payload at a place: what the row held plus the feed-forward over one block of hidden units. -/
theorem pay3_at (x : Vec Ideal S512x1024 .bf16) (u : Vec Ideal S1024x2048 .bf16) (y : Vec Ideal S512x1024 .f32)
    (d : Vec Ideal S2048x1024 .bf16) (r : Fin 512) (c : Fin 1024) :
    k0_pay3 (F := Ideal) x u y d (ix2 r c)
      = y (ix2 r c) + ffn (fun k => x (ix2 r k)) (fun k f => u (ix2 k f)) (fun f l => d (ix2 f l)) c := by
  pointwise [k0_pay3]
  rfl

/-- The fourth payload at a place: the final norm of a row. -/
theorem pay4_at (x : Vec Ideal S512x1024 .f32) (g : Vec Ideal S1x1024 .f32) (r : Fin 512) (c : Fin 1024) :
    k0_pay4 (F := Ideal) x g (ix2 r c) = rms (fun k => x (ix2 r k)) (fun l => g (ix2 0 l)) c := by
  pointwise [k0_pay4]
  rfl

/-! ## What the two kinds of grid point leave -/

/-- The zero start, as a constant function. -/
theorem hz : (![0, 0] : Fin 2 → Nat) = fun _ => 0 := funext fun a => by fin_cases a <;> rfl

/-- A point with an even number starts a row tile: it leaves the projection plus the first half of the feed-forward, and the
    normed rows in the scratch. -/
theorem outs_even (c : Dev nD) (t : Fin cfg0.N) (h0 : t.val % 2 = 0) (h1 : ¬t.val % 2 = 1) : outsAt0 m c t.val t.isLt =
    (k0_pay3 (k0_pay2 (iblk m c 0 t) (iblk m c 1 t) (iblk m c 2 t) (iblk m c 3 t)) (iblk m c 4 t)
        (k0_pay1 (iblk m c 0 t) (iblk m c 1 t) (iblk m c 2 t)) (iblk m c 5 t),
     k0_pay2 (iblk m c 0 t) (iblk m c 1 t) (iblk m c 2 t) (iblk m c 3 t)) := by
  rw [outsAt0_A m c t h0 h1]
  apply Prod.ext
  · dsimp only
    unfold out0_A_7
    refine (View.read_writes_eq_canon _ _ _ (fun y => ?_)).trans ?_
    · exact cover0_A_7 (y := y) ..
    unfold kernelRun0_A
    dsimp only
    sl_unfold_words
    rw [View.canon_cons_unit_zero (S := S512x1024) hz]
    simp only [View.readAt_eq_ld, Memref.IsWhole.read_unread, View.ld_unit_zero (S := S512x1024) hz,
      View.ld_unit_zero (S := S1024x1024) hz, View.ld_unit_zero (S := S1x1024) hz, View.ld_unit_zero (S := S1024x2048) hz,
      View.ld_unit_zero (S := S2048x1024) hz, View.readCov_unit_zero (S := S512x1024) _ hz]
  · dsimp only
    unfold sout0_A_0
    refine (View.read_writes_eq_canon _ _ _ (fun y => ?_)).trans ?_
    · exact scover0_A_0 (y := y) ..
    unfold kernelRun0_A
    dsimp only
    sl_unfold_words
    rw [View.canon_unit_zero (S := S512x1024) hz]
    simp only [View.readAt_eq_ld, Memref.IsWhole.read_unread, View.ld_unit_zero (S := S512x1024) hz,
      View.ld_unit_zero (S := S1024x1024) hz, View.ld_unit_zero (S := S1x1024) hz]

/-- A point with an odd number ends the row tile: it adds the second half of the feed-forward and takes the final norm. -/
theorem outs_odd (c : Dev nD) (t : Fin cfg0.N) (h0 : ¬t.val % 2 = 0) (h1 : t.val % 2 = 1)
    (p : Vec Ideal S512x1024 .f32 × Vec Ideal S512x1024 .bf16)
    (hp : outsAt0 m c (t.val - 1) (Nat.lt_of_le_of_lt (Nat.sub_le _ _) t.isLt) = p) :
    (outsAt0 m c t.val t.isLt).1 = k0_pay4 (k0_pay3 p.2 (iblk m c 4 t) p.1 (iblk m c 5 t)) (iblk m c 6 t) := by
  rw [outsAt0_B m c t h0 h1, hp]
  dsimp only
  unfold out0_B_7
  refine (View.read_writes_eq_canon _ _ _ (fun y => ?_)).trans ?_
  · exact cover0_B_7 (y := y) ..
  unfold kernelRun0_B
  dsimp only
  sl_unfold_words
  rw [View.canon_cons_unit_zero (S := S512x1024) hz]
  simp only [View.readAt_eq_ld, Memref.IsWhole.read_unread, View.ld_unit_zero (S := S512x1024) hz,
    View.ld_unit_zero (S := S1x1024) hz, View.ld_unit_zero (S := S1024x2048) hz,
    View.ld_unit_zero (S := S2048x1024) hz, View.readCov_unit_zero (S := S512x1024) _ hz]
  exact congrArg (fun z => k0_pay4 (k0_pay3 z (iblk m c 4 t) p.1 (iblk m c 5 t)) (iblk m c 6 t))
    ((Memref.isWhole_whole cc0_scratch0).read_unread p.2)

/-! ## The arrays the windows read -/

/-- The kept row `r`'s sequence. -/
def bOf (r : Fin 32768) : Fin 16 := ⟨r.val / 2048, by omega⟩
/-- The kept row `r`'s position in its sequence: the first sixteen are dropped. -/
def sOf (r : Fin 32768) : Fin 2064 := ⟨16 + r.val % 2048, by omega⟩

variable (c : Dev nD)

/-- The residual's row. -/
def hRow (r : Fin 32768) (k : Fin 1024) : EReal := m ((c : Thread nD τ).loc main_arg0) (ix3 (bOf r) (sOf r) k)
/-- The mixer's row. -/
def oRow (r : Fin 32768) (k : Fin 1024) : EReal := m ((c : Thread nD τ).loc main_arg1) (ix3 (bOf r) (sOf r) k)
/-- The gain of the layer's norm. -/
def gain (k : Fin 1024) : EReal := m ((c : Thread nD τ).loc main_arg2) (ix1 k)
/-- The output weights. -/
def wo (k l : Fin 1024) : EReal := m ((c : Thread nD τ).loc main_arg3) (ix2 k l)
/-- The feed-forward's first weights. -/
def wup (k : Fin 1024) (f : Fin 4096) : EReal := m ((c : Thread nD τ).loc main_arg4) (ix2 k f)
/-- The feed-forward's second weights. -/
def wdown (f : Fin 4096) (l : Fin 1024) : EReal := m ((c : Thread nD τ).loc main_arg5) (ix2 f l)
/-- The gain of the final norm. -/
def fgain (k : Fin 1024) : EReal := m ((c : Thread nD τ).loc main_arg6) (ix1 k)

/-- The host's reshape of the residual, at an entry. -/
theorem V_v0 (a : Fin 33024) (l : Fin 1024) : V m c main_v0 (ix2 a l)
    = m ((c : Thread nD τ).loc main_arg0) (ix3 ⟨a / 2064, by omega⟩ ⟨a % 2064, by omega⟩ l) := by
  unfold V
  after_reads_at
/-- The host's reshape of the mixer's output, at an entry. -/
theorem V_v2 (a : Fin 33024) (l : Fin 1024) : V m c main_v2 (ix2 a l)
    = m ((c : Thread nD τ).loc main_arg1) (ix3 ⟨a / 2064, by omega⟩ ⟨a % 2064, by omega⟩ l) := by
  unfold V
  after_reads_at
/-- The host's cast of the output projection, at an entry. -/
theorem V_v3 (a l : Fin 1024) : V m c main_v3 (ix2 a l) = wo m c a l := by
  unfold V wo
  after_reads_at
/-- The host's row of the gain, at an entry. -/
theorem V_v4 (a : Fin 1) (l : Fin 1024) : V m c main_v4 (ix2 a l) = gain m c l := by
  unfold V gain
  after_reads_at
/-- The host's cast of the up weights, at an entry. -/
theorem V_v5 (a : Fin 1024) (l : Fin 4096) : V m c main_v5 (ix2 a l) = wup m c a l := by
  unfold V wup
  after_reads_at
/-- The host's cast of the down weights, at an entry. -/
theorem V_v6 (a : Fin 4096) (l : Fin 1024) : V m c main_v6 (ix2 a l) = wdown m c a l := by
  unfold V wdown
  after_reads_at
/-- The host's row of the final gain, at an entry. -/
theorem V_v7 (a : Fin 1) (l : Fin 1024) : V m c main_v7 (ix2 a l) = fgain m c l := by
  unfold V fgain
  after_reads_at

/-- Where each window's block starts at grid point `t` (in elements for the two Element windows, in blocks for the others). -/
theorem starts : ∀ t : Fin cfg0.N,
    (cc0_transform_0 (grid0.coords t) 0 = t.val / 8 * 2064 + 16 + t.val / 2 % 4 * 512 ∧ cc0_transform_0 (grid0.coords t) 1 = 0)
    ∧ (cc0_transform_1 (grid0.coords t) 0 = t.val / 8 * 2064 + 16 + t.val / 2 % 4 * 512 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = t.val % 2)
    ∧ (cc0_transform_5 (grid0.coords t) 0 = t.val % 2 ∧ cc0_transform_5 (grid0.coords t) 1 = 0)
    ∧ (cc0_transform_6 (grid0.coords t) 0 = 0 ∧ cc0_transform_6 (grid0.coords t) 1 = 0) :=
  (by decide +kernel : ∀ t : Fin grid0.N, _)

/-- The row of the whole array that the windows read at point `n` and local row `r`, as a sequence and a position. -/
theorem kept_row {n r q : ℕ} (hr : r < 512) (hq : q = n / 2 * 512 + r) :
    (n / 8 * 2064 + 16 + n / 2 % 4 * 512 + r) / 2064 = q / 2048
      ∧ (n / 8 * 2064 + 16 + n / 2 % 4 * 512 + r) % 2064 = 16 + q % 2048 := by
  have hd : n / 2 = 4 * (n / 8) + n / 2 % 4 := by omega
  have hi : n / 2 % 4 < 4 := Nat.mod_lt _ (by decide)
  rw [hd] at hq
  clear hd
  generalize n / 2 % 4 = i at hq hi ⊢
  generalize n / 8 = b at hq ⊢
  have hx : i * 512 + r < 2048 := by omega
  have e1 : b * 2064 + 16 + i * 512 + r = 2064 * b + (16 + (i * 512 + r)) := by omega
  have e2 : q = 2048 * b + (i * 512 + r) := by omega
  rw [e1, e2, Nat.mul_add_div (by decide), Nat.mul_add_mod, Nat.mul_add_div (by decide), Nat.mul_add_mod,
    Nat.div_eq_of_lt hx, Nat.mod_eq_of_lt hx, Nat.div_eq_of_lt (by omega : 16 + (i * 512 + r) < 2064),
    Nat.mod_eq_of_lt (by omega : 16 + (i * 512 + r) < 2064)]
  exact ⟨rfl, rfl⟩

/-- Row `r` of the residual's block at point `t` is the kept row `512 * (t / 2) + r` of the residual. -/
theorem blk0 (t : Fin cfg0.N) (r : Fin 512) (l : Fin 1024) (q : Fin 32768) (hq : q.val = t.val / 2 * 512 + r.val) :
    (iblk m c 0 t : Vec Ideal S512x1024 .f32) (ix2 r l) = hRow m c q l := by
  have hN : t.val < 128 := lt_of_lt_of_eq t.isLt N_0
  obtain ⟨e0, e1⟩ := (starts t).1
  have hr := r.isLt
  refine Eq.trans ?_ ((V_v0 m c ⟨t.val / 8 * 2064 + 16 + t.val / 2 % 4 * 512 + r.val, by omega⟩ l).trans ?_)
  · unfold iblk
    rw [View.read_apply]
    show V m c main_v0 _ = _
    congr 1
    funext d
    apply Fin.ext
    match d with
    | ⟨0, _⟩ => show cc0_transform_0 (grid0.coords t) 0 + 1 * r.val = t.val / 8 * 2064 + 16 + t.val / 2 % 4 * 512 + r.val; rw [e0]; omega
    | ⟨1, _⟩ => show cc0_transform_0 (grid0.coords t) 1 + 1 * l.val = l.val; rw [e1]; omega
  · unfold hRow
    congr 2
    · exact Fin.ext (kept_row hr hq).1
    · exact Fin.ext (kept_row hr hq).2

/-- The same of the mixer's block. -/
theorem blk1 (t : Fin cfg0.N) (r : Fin 512) (l : Fin 1024) (q : Fin 32768) (hq : q.val = t.val / 2 * 512 + r.val) :
    (iblk m c 1 t : Vec Ideal S512x1024 .bf16) (ix2 r l) = oRow m c q l := by
  have hN : t.val < 128 := lt_of_lt_of_eq t.isLt N_0
  obtain ⟨e0, e1⟩ := (starts t).2.1
  have hr := r.isLt
  refine Eq.trans ?_ ((V_v2 m c ⟨t.val / 8 * 2064 + 16 + t.val / 2 % 4 * 512 + r.val, by omega⟩ l).trans ?_)
  · unfold iblk
    rw [View.read_apply]
    show V m c main_v2 _ = _
    congr 1
    funext d
    apply Fin.ext
    match d with
    | ⟨0, _⟩ => show cc0_transform_1 (grid0.coords t) 0 + 1 * r.val = t.val / 8 * 2064 + 16 + t.val / 2 % 4 * 512 + r.val; rw [e0]; omega
    | ⟨1, _⟩ => show cc0_transform_1 (grid0.coords t) 1 + 1 * l.val = l.val; rw [e1]; omega
  · unfold oRow
    congr 2
    · exact Fin.ext (kept_row hr hq).1
    · exact Fin.ext (kept_row hr hq).2

/-- The output weights' block is the whole matrix. -/
theorem blk2 (t : Fin cfg0.N) (k l : Fin 1024) : (iblk m c 2 t : Vec Ideal S1024x1024 .bf16) (ix2 k l) = wo m c k l := by
  obtain ⟨e0, e1⟩ := (starts t).2.2.1
  rw [← V_v3]
  unfold iblk
  rw [View.read_apply]
  show V m c main_v3 _ = _
  congr 1
  funext d
  apply Fin.ext
  match d with
  | ⟨0, _⟩ => change cc0_transform_2 (grid0.coords t) 0 * 1024 + 1 * k.val = k.val; rw [e0]; omega
  | ⟨1, _⟩ => change cc0_transform_2 (grid0.coords t) 1 * 1024 + 1 * l.val = l.val; rw [e1]; omega

/-- The gain's block is the whole row. -/
theorem blk3 (t : Fin cfg0.N) (l : Fin 1024) : (iblk m c 3 t : Vec Ideal S1x1024 .f32) (ix2 0 l) = gain m c l := by
  obtain ⟨e0, e1⟩ := (starts t).2.2.2.1
  rw [← V_v4 m c 0 l]
  unfold iblk
  rw [View.read_apply]
  show V m c main_v4 _ = _
  congr 1
  funext d
  apply Fin.ext
  match d with
  | ⟨0, _⟩ => change cc0_transform_3 (grid0.coords t) 0 * 1 + 1 * 0 = 0; rw [e0]
  | ⟨1, _⟩ => change cc0_transform_3 (grid0.coords t) 1 * 1024 + 1 * l.val = l.val; rw [e1]; omega

/-- The first weights' block at point `t` holds the columns of half `t % 2` of the hidden units. -/
theorem blk4 (t : Fin cfg0.N) (k : Fin 1024) (f : Fin 2048) :
    (iblk m c 4 t : Vec Ideal S1024x2048 .bf16) (ix2 k f) = wup m c k (half t.val f) := by
  obtain ⟨e0, e1⟩ := (starts t).2.2.2.2.1
  rw [← V_v5]
  unfold iblk
  rw [View.read_apply]
  show V m c main_v5 _ = _
  congr 1
  funext d
  apply Fin.ext
  match d with
  | ⟨0, _⟩ => change cc0_transform_4 (grid0.coords t) 0 * 1024 + 1 * k.val = k.val; rw [e0]; omega
  | ⟨1, _⟩ => change cc0_transform_4 (grid0.coords t) 1 * 2048 + 1 * f.val = t.val % 2 * 2048 + f.val; rw [e1]; omega

/-- The second weights' block at point `t` holds the rows of half `t % 2` of the hidden units. -/
theorem blk5 (t : Fin cfg0.N) (f : Fin 2048) (l : Fin 1024) :
    (iblk m c 5 t : Vec Ideal S2048x1024 .bf16) (ix2 f l) = wdown m c (half t.val f) l := by
  obtain ⟨e0, e1⟩ := (starts t).2.2.2.2.2.1
  rw [← V_v6]
  unfold iblk
  rw [View.read_apply]
  show V m c main_v6 _ = _
  congr 1
  funext d
  apply Fin.ext
  match d with
  | ⟨0, _⟩ => change cc0_transform_5 (grid0.coords t) 0 * 2048 + 1 * f.val = t.val % 2 * 2048 + f.val; rw [e0]; omega
  | ⟨1, _⟩ => change cc0_transform_5 (grid0.coords t) 1 * 1024 + 1 * l.val = l.val; rw [e1]; omega

/-- The final gain's block is the whole row. -/
theorem blk6 (t : Fin cfg0.N) (l : Fin 1024) : (iblk m c 6 t : Vec Ideal S1x1024 .f32) (ix2 0 l) = fgain m c l := by
  obtain ⟨e0, e1⟩ := (starts t).2.2.2.2.2.2
  rw [← V_v7 m c 0 l]
  unfold iblk
  rw [View.read_apply]
  show V m c main_v7 _ = _
  congr 1
  funext d
  apply Fin.ext
  match d with
  | ⟨0, _⟩ => change cc0_transform_6 (grid0.coords t) 0 * 1 + 1 * 0 = 0; rw [e0]
  | ⟨1, _⟩ => change cc0_transform_6 (grid0.coords t) 1 * 1024 + 1 * l.val = l.val; rw [e1]; omega

/-! ## The result, row by row -/

/-- After an odd point `t`, row `r` of the result's block is the finished row. -/
theorem tile_at (t : Fin cfg0.N) (h1 : t.val % 2 = 1) (r : Fin 512) (l : Fin 1024) (q : Fin 32768)
    (hq : q.val = t.val / 2 * 512 + r.val) :
    (outsAt0 m c t.val t.isLt).1 (ix2 r l)
      = rms (layer (hRow m c q) (oRow m c q) (wo m c) (gain m c) (wup m c) (wdown m c)) (fgain m c) l := by
  have hp : t.val - 1 < cfg0.N := Nat.lt_of_le_of_lt (Nat.sub_le _ _) t.isLt
  have hq' : q.val = (t.val - 1) / 2 * 512 + r.val := by omega
  rw [outs_odd m c t (by omega) h1 _ (outs_even m c ⟨t.val - 1, hp⟩ (by dsimp only; omega) (by dsimp only; omega)), pay4_at]
  simp only [pay3_at, pay2_at, pay1_at, blk2, blk3, blk4, blk5, blk6, blk0 m c t r _ q hq, blk1 m c t r _ q hq,
    blk0 m c ⟨t.val - 1, hp⟩ r _ q hq', blk1 m c ⟨t.val - 1, hp⟩ r _ q hq',
    half_parity (show t.val % 2 = 1 % 2 by omega), half_parity (show (t.val - 1) % 2 = 0 % 2 by omega)]
  refine congrArg (fun z => rms z (fgain m c) l) (funext fun k => ?_)
  exact layer_halves _ _ _ _ _ _ _

/-- The result array after the run, at row `r` and column `l`. -/
theorem result_at (r : Fin 32768) (l : Fin 1024) :
    Value.G7 m c (ix2 r l)
      = rms (layer (hRow m c r) (oRow m c r) (wo m c) (gain m c) (wup m c) (wdown m c)) (fgain m c) l := by
  have hN : cfg0.N = 128 := N_0
  have hr := r.isLt
  have hl := l.isLt
  have hpt : Value.pt7Of (ix2 r l) = 2 * (r.val / 512) + 1 := by
    show 2 * (1 * (r.val / 512 - 0) + 1 * (l.val / 1024 - 0)) + 1 = _
    omega
  have hb : 2 * (r.val / 512) + 1 < cfg0.N := by rw [hN]; omega
  have hloc : Value.loc7Of (ix2 r l) = ix2 ⟨r.val % 512, by omega⟩ l := by
    funext a
    apply Fin.ext
    match a with
    | ⟨0, _⟩ => rfl
    | ⟨1, _⟩ => show l.val % 1024 = l.val; omega
  unfold Value.G7
  rw [dif_pos (by rw [hpt]; exact hb), hloc, Value.fold0_congr m c _ _ _ (by omega) hpt, ← Value.outsAt0_sweep m c _ hb]
  exact tile_at m c ⟨2 * (r.val / 512) + 1, hb⟩ (by dsimp only; omega) ⟨r.val % 512, by omega⟩ l r (by dsimp only; omega)

end Cert.MlpKernel

end
-- ==== Proof.MlpReference.lean ====
/- The reference of the Element-windowed call, row by row: the same rows of the same arguments. -/
module

public import proofs.«01_k».proof.Proof.Gen.ReferenceIdeal.Run
public import proofs.«01_k».proof.Proof.Rows

@[expose] public section

set_option maxRecDepth 16384

noncomputable section

namespace Cert.MlpReference

open Idealize.ShloMosaic Idealize.SL.Sem Cert.ReferenceIdeal Cert.ReferenceIdeal.Gen Cert.Rows

/-- The reference's norm over the last axis, as the printed operations. -/
def normed (x : FVec Ideal S16x2064x1024 .f32) (g : FVec Ideal S1024 .f32) : FVec Ideal S16x2064x1024 .f32 :=
  mulf (mulf x (broadcastInDim S16x2064x1024 ![0, 1, 2] bcast_S16x2064x1_S16x2064x1024_0_1_2
    (Host.rsqrt (addf (Host.divf (broadcastInDim S16x2064x1 ![0, 1] bcast_S16x2064_S16x2064x1_0_1
      (Host.reduceAdd (mulf x x) (constant S_ .f32 0x00000000#32) reducesTo_S16x2064x1024_S16x2064_d2 h_S_))
      (broadcastInDim S16x2064x1 ![] bcast_S_S16x2064x1 (constant S_ .f32 0x44800000#32)))
      (broadcastInDim S16x2064x1 ![] bcast_S_S16x2064x1 (constant S_ .f32 0x358637BD#32))))))
    (broadcastInDim S16x2064x1024 ![0, 1, 2] bcast_S1x1x1024_S16x2064x1024_0_1_2
      (broadcastInDim S1x1x1024 ![2] bcast_S1024_S1x1x1024_2 g))

/-- The reference's residual after the output projection. -/
def mixed (h o : FVec Ideal S16x2064x1024 .f32) (w : FVec Ideal S1024x1024 .f32) : FVec Ideal S16x2064x1024 .f32 :=
  addf h (Host.dotGeneral dot_S16x2064x1024_S1024x1024_S16x2064x1024_2_0_01_1_n_n none o w)

/-- The reference's hidden units before they are squared. -/
def hidden (x : FVec Ideal S16x2064x1024 .f32) (w : FVec Ideal S1024x4096 .f32) : FVec Ideal S16x2064x4096 .f32 :=
  maximumf (Host.dotGeneral dot_S16x2064x1024_S1024x4096_S16x2064x4096_2_0_01_1_n_n none x w)
    (broadcastInDim S16x2064x4096 ![] bcast_S_S16x2064x4096 (constant S_ .f32 0x00000000#32))

/-- The reference's residual after the feed-forward. -/
def fed (h : FVec Ideal S16x2064x1024 .f32) (u : FVec Ideal S16x2064x4096 .f32) (w : FVec Ideal S4096x1024 .f32) :
    FVec Ideal S16x2064x1024 .f32 :=
  addf h (Host.dotGeneral dot_S16x2064x4096_S4096x1024_S16x2064x1024_2_0_01_1_n_n none (mulf u u) w)

/-- The norm at a place is the norm of its row. -/
theorem normed_at (x : FVec Ideal S16x2064x1024 .f32) (g : FVec Ideal S1024 .f32) (b : Fin 16) (s : Fin 2064) (l : Fin 1024) :
    normed x g (ix3 b s l) = rms (fun k => x (ix3 b s k)) (fun k => g (ix1 k)) l := by
  pointwise [normed]
  rfl
/-- The residual plus the projected mixer output, at a place. -/
theorem mixed_at (h o : FVec Ideal S16x2064x1024 .f32) (w : FVec Ideal S1024x1024 .f32) (b : Fin 16) (s : Fin 2064) (l : Fin 1024) :
    mixed h o w (ix3 b s l) = mix (fun k => h (ix3 b s k)) (fun k => o (ix3 b s k)) (fun k j => w (ix2 k j)) l := by
  pointwise [mixed]
  rfl
/-- The squared rectified hidden value, at a place. -/
theorem hidden_at (x : FVec Ideal S16x2064x1024 .f32) (w : FVec Ideal S1024x4096 .f32) (b : Fin 16) (s : Fin 2064) (f : Fin 4096) :
    hidden x w (ix3 b s f) = act (fun k => x (ix3 b s k)) (fun k j => w (ix2 k j)) f := by
  pointwise [hidden]
  rfl
/-- The feed-forward's sum, at a place. -/
theorem fed_at (h : FVec Ideal S16x2064x1024 .f32) (u : FVec Ideal S16x2064x4096 .f32) (w : FVec Ideal S4096x1024 .f32)
    (b : Fin 16) (s : Fin 2064) (l : Fin 1024) :
    fed h u w (ix3 b s l) = h (ix3 b s l) + ∑ f, u (ix3 b s f) * u (ix3 b s f) * w (ix2 f l) := by
  pointwise [fed]

/-- The reference's result, of its seven arguments. -/
def result (h o : FVec Ideal S16x2064x1024 .f32) (g : FVec Ideal S1024 .f32) (wo : FVec Ideal S1024x1024 .f32)
    (wu : FVec Ideal S1024x4096 .f32) (wd : FVec Ideal S4096x1024 .f32) (gf : FVec Ideal S1024 .f32) : FVec Ideal S32768x1024 .f32 :=
  shapeCast S32768x1024 (extractStridedSlice S16x2048x1024 ![0, 16, 0]
    (normed (fed (mixed h o wo) (hidden (normed (mixed h o wo) g) wu) wd) gf) slices_S16x2064x1024_S16x2048x1024_0_16_0)
    shapeCasts_S16x2048x1024_S32768x1024

/-- The run's composed term is that function of the arguments. -/
theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- The reference's result at row `r` and column `l`: the layer's row, with the final norm, of position `16 + r % 2048` of
    sequence `r / 2048`. -/
theorem result_at (h o : FVec Ideal S16x2064x1024 .f32) (g : FVec Ideal S1024 .f32) (wo : FVec Ideal S1024x1024 .f32)
    (wu : FVec Ideal S1024x4096 .f32) (wd : FVec Ideal S4096x1024 .f32) (gf : FVec Ideal S1024 .f32) (r : Fin 32768) (l : Fin 1024) :
    result h o g wo wu wd gf (ix2 r l)
      = rms (layer (fun k => h (ix3 (⟨r.val / 2048, by omega⟩ : Fin 16) (⟨16 + r.val % 2048, by omega⟩ : Fin 2064) k))
          (fun k => o (ix3 (⟨r.val / 2048, by omega⟩ : Fin 16) (⟨16 + r.val % 2048, by omega⟩ : Fin 2064) k))
          (fun k j => wo (ix2 k j)) (fun k => g (ix1 k)) (fun k f => wu (ix2 k f)) (fun f j => wd (ix2 f j)))
          (fun k => gf (ix1 k)) l := by
  pointwise [result]
  rw [normed_at]
  simp only [fed_at, hidden_at, normed_at, mixed_at]
  rfl

end Cert.MlpReference

end
-- ==== Proof.MlpMidKernel.lean ====
/- What the call of the other layers leaves in its result: row `r` of the 33024 rows is the layer's row, without a final
   norm, of position `r % 2064` of sequence `r / 2064`. -/
module

public import proofs.«01_k».proof.Proof.Gen.Kernel2Ideal.Value
public import proofs.«01_k».proof.Proof.Rows
public import Idealize.ShloMosaic.Lib.StableHlo.ReadAt
public import Idealize.ShloMosaic.Lib.Tactic

@[expose] public section

set_option maxRecDepth 16384

noncomputable section

namespace Cert.MlpMidKernel

open Idealize.ShloMosaic Idealize.ShloMosaic.TcCoe Idealize.SL.Sem Cert.Kernel2Ideal Cert.Kernel2Ideal.Gen Cert.Rows

variable (m : (ℓ : Loc nD τ sig) → Buf (Elt Ideal) ℓ)

/-! ## The payloads, row by row -/

/-- The first payload at a place: the residual plus the projected mixer row. -/
theorem pay1_at (a : Vec Ideal S688x1024 .f32) (b : Vec Ideal S688x1024 .bf16) (w : Vec Ideal S1024x1024 .bf16)
    (r : Fin 688) (c : Fin 1024) :
    k0_pay1 (F := Ideal) a b w (ix2 r c) = mix (fun k => a (ix2 r k)) (fun k => b (ix2 r k)) (fun k l => w (ix2 k l)) c := by
  pointwise [k0_pay1]
  rfl

/-- The second payload at a place: the norm of that row. -/
theorem pay2_at (a : Vec Ideal S688x1024 .f32) (b : Vec Ideal S688x1024 .bf16) (w : Vec Ideal S1024x1024 .bf16)
    (g : Vec Ideal S1x1024 .f32) (r : Fin 688) (c : Fin 1024) :
    k0_pay2 (F := Ideal) a b w g (ix2 r c)
      = rms (mix (fun k => a (ix2 r k)) (fun k => b (ix2 r k)) (fun k l => w (ix2 k l))) (fun l => g (ix2 0 l)) c := by
  pointwise [k0_pay2]
  simp only [pay1_at]
  rfl

/-- The third payload at a place: what the row held plus the feed-forward over one block of hidden units. -/
theorem pay3_at (x : Vec Ideal S688x1024 .bf16) (u : Vec Ideal S1024x2048 .bf16) (y : Vec Ideal S688x1024 .f32)
    (d : Vec Ideal S2048x1024 .bf16) (r : Fin 688) (c : Fin 1024) :
    k0_pay3 (F := Ideal) x u y d (ix2 r c)
      = y (ix2 r c) + ffn (fun k => x (ix2 r k)) (fun k f => u (ix2 k f)) (fun f l => d (ix2 f l)) c := by
  pointwise [k0_pay3]
  rfl

/-! ## What the two kinds of grid point leave -/

/-- The zero start, as a constant function. -/
theorem hz : (![0, 0] : Fin 2 → Nat) = fun _ => 0 := funext fun a => by fin_cases a <;> rfl

/-- A point with an even number starts a row tile: it leaves the projection plus the first half of the feed-forward, and the
    normed rows in the scratch. -/
theorem outs_even (c : Dev nD) (t : Fin cfg0.N) (h0 : t.val % 2 = 0) : outsAt0 m c t.val t.isLt =
    (k0_pay3 (k0_pay2 (iblk m c 0 t) (iblk m c 1 t) (iblk m c 2 t) (iblk m c 3 t)) (iblk m c 4 t)
        (k0_pay1 (iblk m c 0 t) (iblk m c 1 t) (iblk m c 2 t)) (iblk m c 5 t),
     k0_pay2 (iblk m c 0 t) (iblk m c 1 t) (iblk m c 2 t) (iblk m c 3 t)) := by
  rw [outsAt0_A m c t h0]
  apply Prod.ext
  · dsimp only
    unfold out0_A_7
    refine (View.read_writes_eq_canon _ _ _ (fun y => ?_)).trans ?_
    · exact cover0_A_7 (y := y) ..
    unfold kernelRun0_A
    dsimp only
    sl_unfold_words
    rw [View.canon_cons_unit_zero (S := S688x1024) hz]
    simp only [View.readAt_eq_ld, Memref.IsWhole.read_unread, View.ld_unit_zero (S := S688x1024) hz,
      View.ld_unit_zero (S := S1024x1024) hz, View.ld_unit_zero (S := S1x1024) hz, View.ld_unit_zero (S := S1024x2048) hz,
      View.ld_unit_zero (S := S2048x1024) hz, View.readCov_unit_zero (S := S688x1024) _ hz]
  · dsimp only
    unfold sout0_A_0
    refine (View.read_writes_eq_canon _ _ _ (fun y => ?_)).trans ?_
    · exact scover0_A_0 (y := y) ..
    unfold kernelRun0_A
    dsimp only
    sl_unfold_words
    rw [View.canon_unit_zero (S := S688x1024) hz]
    simp only [View.readAt_eq_ld, Memref.IsWhole.read_unread, View.ld_unit_zero (S := S688x1024) hz,
      View.ld_unit_zero (S := S1024x1024) hz, View.ld_unit_zero (S := S1x1024) hz]

/-- A point with an odd number ends the row tile: it adds the second half of the feed-forward. -/
theorem outs_odd (c : Dev nD) (t : Fin cfg0.N) (h0 : ¬t.val % 2 = 0)
    (p : Vec Ideal S688x1024 .f32 × Vec Ideal S688x1024 .bf16)
    (hp : outsAt0 m c (t.val - 1) (Nat.lt_of_le_of_lt (Nat.sub_le _ _) t.isLt) = p) :
    (outsAt0 m c t.val t.isLt).1 = k0_pay3 p.2 (iblk m c 4 t) p.1 (iblk m c 5 t) := by
  rw [outsAt0_B m c t h0, hp]
  dsimp only
  unfold out0_B_7
  refine (View.read_writes_eq_canon _ _ _ (fun y => ?_)).trans ?_
  · exact cover0_B_7 (y := y) ..
  unfold kernelRun0_B
  dsimp only
  sl_unfold_words
  rw [View.canon_cons_unit_zero (S := S688x1024) hz]
  simp only [View.readAt_eq_ld, Memref.IsWhole.read_unread, View.ld_unit_zero (S := S688x1024) hz,
    View.ld_unit_zero (S := S1x1024) hz, View.ld_unit_zero (S := S1024x2048) hz,
    View.ld_unit_zero (S := S2048x1024) hz, View.readCov_unit_zero (S := S688x1024) _ hz]
  exact congrArg (fun z => k0_pay3 z (iblk m c 4 t) p.1 (iblk m c 5 t))
    ((Memref.isWhole_whole cc0_scratch0).read_unread p.2)

/-! ## The arrays the windows read -/

/-- Row `r`'s sequence. -/
def bOf (r : Fin 33024) : Fin 16 := ⟨r.val / 2064, by omega⟩
/-- Row `r`'s position in its sequence. -/
def sOf (r : Fin 33024) : Fin 2064 := ⟨r.val % 2064, by omega⟩

variable (c : Dev nD)

/-- The residual's row. -/
def hRow (r : Fin 33024) (k : Fin 1024) : EReal := m ((c : Thread nD τ).loc main_arg0) (ix3 (bOf r) (sOf r) k)
/-- The mixer's row. -/
def oRow (r : Fin 33024) (k : Fin 1024) : EReal := m ((c : Thread nD τ).loc main_arg1) (ix3 (bOf r) (sOf r) k)
/-- The gain of the layer's norm. -/
def gain (k : Fin 1024) : EReal := m ((c : Thread nD τ).loc main_arg2) (ix1 k)
/-- The output weights. -/
def wo (k l : Fin 1024) : EReal := m ((c : Thread nD τ).loc main_arg3) (ix2 k l)
/-- The feed-forward's first weights. -/
def wup (k : Fin 1024) (f : Fin 4096) : EReal := m ((c : Thread nD τ).loc main_arg4) (ix2 k f)
/-- The feed-forward's second weights. -/
def wdown (f : Fin 4096) (l : Fin 1024) : EReal := m ((c : Thread nD τ).loc main_arg5) (ix2 f l)
/-- The host's reshape of the residual, at an entry. -/
theorem V_v0 (a : Fin 33024) (l : Fin 1024) : V m c main_v0 (ix2 a l)
    = m ((c : Thread nD τ).loc main_arg0) (ix3 ⟨a / 2064, by omega⟩ ⟨a % 2064, by omega⟩ l) := by
  unfold V
  after_reads_at
/-- The host's reshape of the mixer's output, at an entry. -/
theorem V_v2 (a : Fin 33024) (l : Fin 1024) : V m c main_v2 (ix2 a l)
    = m ((c : Thread nD τ).loc main_arg1) (ix3 ⟨a / 2064, by omega⟩ ⟨a % 2064, by omega⟩ l) := by
  unfold V
  after_reads_at
/-- The host's cast of the output projection, at an entry. -/
theorem V_v3 (a l : Fin 1024) : V m c main_v3 (ix2 a l) = wo m c a l := by
  unfold V wo
  after_reads_at
/-- The host's row of the gain, at an entry. -/
theorem V_v4 (a : Fin 1) (l : Fin 1024) : V m c main_v4 (ix2 a l) = gain m c l := by
  unfold V gain
  after_reads_at
/-- The host's cast of the up weights, at an entry. -/
theorem V_v5 (a : Fin 1024) (l : Fin 4096) : V m c main_v5 (ix2 a l) = wup m c a l := by
  unfold V wup
  after_reads_at
/-- The host's cast of the down weights, at an entry. -/
theorem V_v6 (a : Fin 4096) (l : Fin 1024) : V m c main_v6 (ix2 a l) = wdown m c a l := by
  unfold V wdown
  after_reads_at
/-- Where each window's block starts at grid point `t` (in blocks). -/
theorem starts : ∀ t : Fin cfg0.N,
    (cc0_transform_0 (grid0.coords t) 0 = t.val / 2 ∧ cc0_transform_0 (grid0.coords t) 1 = 0)
    ∧ (cc0_transform_1 (grid0.coords t) 0 = t.val / 2 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = t.val % 2)
    ∧ (cc0_transform_5 (grid0.coords t) 0 = t.val % 2 ∧ cc0_transform_5 (grid0.coords t) 1 = 0) :=
  (by decide +kernel : ∀ t : Fin grid0.N, _)

/-- Row `r` of the residual's block at point `t` is row `688 * (t / 2) + r` of the residual. -/
theorem blk0 (t : Fin cfg0.N) (r : Fin 688) (l : Fin 1024) (q : Fin 33024) (hq : q.val = t.val / 2 * 688 + r.val) :
    (iblk m c 0 t : Vec Ideal S688x1024 .f32) (ix2 r l) = hRow m c q l := by
  obtain ⟨e0, e1⟩ := (starts t).1
  refine Eq.trans ?_ (V_v0 m c q l)
  unfold iblk
  rw [View.read_apply]
  show V m c main_v0 _ = _
  congr 1
  funext d
  apply Fin.ext
  match d with
  | ⟨0, _⟩ => change cc0_transform_0 (grid0.coords t) 0 * 688 + 1 * r.val = q.val; rw [e0]; omega
  | ⟨1, _⟩ => change cc0_transform_0 (grid0.coords t) 1 * 1024 + 1 * l.val = l.val; rw [e1]; omega

/-- The same of the mixer's block. -/
theorem blk1 (t : Fin cfg0.N) (r : Fin 688) (l : Fin 1024) (q : Fin 33024) (hq : q.val = t.val / 2 * 688 + r.val) :
    (iblk m c 1 t : Vec Ideal S688x1024 .bf16) (ix2 r l) = oRow m c q l := by
  obtain ⟨e0, e1⟩ := (starts t).2.1
  refine Eq.trans ?_ (V_v2 m c q l)
  unfold iblk
  rw [View.read_apply]
  show V m c main_v2 _ = _
  congr 1
  funext d
  apply Fin.ext
  match d with
  | ⟨0, _⟩ => change cc0_transform_1 (grid0.coords t) 0 * 688 + 1 * r.val = q.val; rw [e0]; omega
  | ⟨1, _⟩ => change cc0_transform_1 (grid0.coords t) 1 * 1024 + 1 * l.val = l.val; rw [e1]; omega

/-- The output weights' block is the whole matrix. -/
theorem blk2 (t : Fin cfg0.N) (k l : Fin 1024) : (iblk m c 2 t : Vec Ideal S1024x1024 .bf16) (ix2 k l) = wo m c k l := by
  obtain ⟨e0, e1⟩ := (starts t).2.2.1
  rw [← V_v3]
  unfold iblk
  rw [View.read_apply]
  show V m c main_v3 _ = _
  congr 1
  funext d
  apply Fin.ext
  match d with
  | ⟨0, _⟩ => change cc0_transform_2 (grid0.coords t) 0 * 1024 + 1 * k.val = k.val; rw [e0]; omega
  | ⟨1, _⟩ => change cc0_transform_2 (grid0.coords t) 1 * 1024 + 1 * l.val = l.val; rw [e1]; omega

/-- The gain's block is the whole row. -/
theorem blk3 (t : Fin cfg0.N) (l : Fin 1024) : (iblk m c 3 t : Vec Ideal S1x1024 .f32) (ix2 0 l) = gain m c l := by
  obtain ⟨e0, e1⟩ := (starts t).2.2.2.1
  rw [← V_v4 m c 0 l]
  unfold iblk
  rw [View.read_apply]
  show V m c main_v4 _ = _
  congr 1
  funext d
  apply Fin.ext
  match d with
  | ⟨0, _⟩ => change cc0_transform_3 (grid0.coords t) 0 * 1 + 1 * 0 = 0; rw [e0]
  | ⟨1, _⟩ => change cc0_transform_3 (grid0.coords t) 1 * 1024 + 1 * l.val = l.val; rw [e1]; omega

/-- The first weights' block at point `t` holds the columns of half `t % 2` of the hidden units. -/
theorem blk4 (t : Fin cfg0.N) (k : Fin 1024) (f : Fin 2048) :
    (iblk m c 4 t : Vec Ideal S1024x2048 .bf16) (ix2 k f) = wup m c k (half t.val f) := by
  obtain ⟨e0, e1⟩ := (starts t).2.2.2.2.1
  rw [← V_v5]
  unfold iblk
  rw [View.read_apply]
  show V m c main_v5 _ = _
  congr 1
  funext d
  apply Fin.ext
  match d with
  | ⟨0, _⟩ => change cc0_transform_4 (grid0.coords t) 0 * 1024 + 1 * k.val = k.val; rw [e0]; omega
  | ⟨1, _⟩ => change cc0_transform_4 (grid0.coords t) 1 * 2048 + 1 * f.val = t.val % 2 * 2048 + f.val; rw [e1]; omega

/-- The second weights' block at point `t` holds the rows of half `t % 2` of the hidden units. -/
theorem blk5 (t : Fin cfg0.N) (f : Fin 2048) (l : Fin 1024) :
    (iblk m c 5 t : Vec Ideal S2048x1024 .bf16) (ix2 f l) = wdown m c (half t.val f) l := by
  obtain ⟨e0, e1⟩ := (starts t).2.2.2.2.2
  rw [← V_v6]
  unfold iblk
  rw [View.read_apply]
  show V m c main_v6 _ = _
  congr 1
  funext d
  apply Fin.ext
  match d with
  | ⟨0, _⟩ => change cc0_transform_5 (grid0.coords t) 0 * 2048 + 1 * f.val = t.val % 2 * 2048 + f.val; rw [e0]; omega
  | ⟨1, _⟩ => change cc0_transform_5 (grid0.coords t) 1 * 1024 + 1 * l.val = l.val; rw [e1]; omega

/-! ## The result, row by row -/

/-- After an odd point `t`, row `r` of the result's block is the layer's row. -/
theorem tile_at (t : Fin cfg0.N) (h1 : t.val % 2 = 1) (r : Fin 688) (l : Fin 1024) (q : Fin 33024)
    (hq : q.val = t.val / 2 * 688 + r.val) :
    (outsAt0 m c t.val t.isLt).1 (ix2 r l)
      = layer (hRow m c q) (oRow m c q) (wo m c) (gain m c) (wup m c) (wdown m c) l := by
  have hp : t.val - 1 < cfg0.N := Nat.lt_of_le_of_lt (Nat.sub_le _ _) t.isLt
  have hq' : q.val = (t.val - 1) / 2 * 688 + r.val := by omega
  rw [outs_odd m c t (by omega) _ (outs_even m c ⟨t.val - 1, hp⟩ (by dsimp only; omega))]
  simp only [pay3_at, pay2_at, pay1_at, blk2, blk3, blk4, blk5, blk0 m c t r _ q hq, blk1 m c t r _ q hq,
    blk0 m c ⟨t.val - 1, hp⟩ r _ q hq', blk1 m c ⟨t.val - 1, hp⟩ r _ q hq',
    half_parity (show t.val % 2 = 1 % 2 by omega), half_parity (show (t.val - 1) % 2 = 0 % 2 by omega)]
  exact layer_halves _ _ _ _ _ _ _

/-- The result array after the run, at row `r` and column `l`. -/
theorem result_at (r : Fin 33024) (l : Fin 1024) :
    Value.G7 m c (ix2 r l)
      = layer (hRow m c r) (oRow m c r) (wo m c) (gain m c) (wup m c) (wdown m c) l := by
  have hN : cfg0.N = 96 := N_0
  have hr := r.isLt
  have hl := l.isLt
  have hpt : Value.pt7Of (ix2 r l) = 2 * (r.val / 688) + 1 := by
    show 2 * (1 * (r.val / 688 - 0) + 1 * (l.val / 1024 - 0)) + 1 = _
    omega
  have hb : 2 * (r.val / 688) + 1 < cfg0.N := by rw [hN]; omega
  have hloc : Value.loc7Of (ix2 r l) = ix2 ⟨r.val % 688, by omega⟩ l := by
    funext a
    apply Fin.ext
    match a with
    | ⟨0, _⟩ => rfl
    | ⟨1, _⟩ => show l.val % 1024 = l.val; omega
  unfold Value.G7
  rw [dif_pos (by rw [hpt]; exact hb), hloc, Value.fold0_congr m c _ _ _ (by omega) hpt, ← Value.outsAt0_sweep m c _ hb]
  exact tile_at m c ⟨2 * (r.val / 688) + 1, hb⟩ (by dsimp only; omega) ⟨r.val % 688, by omega⟩ l r (by dsimp only; omega)

end Cert.MlpMidKernel

end
-- ==== Proof.MlpMidReference.lean ====
/- The reference of the other layers' call, row by row: the Element call's without the final norm, of every row. -/
module

public import proofs.«01_k».proof.Proof.Gen.Reference2Ideal.Run
public import proofs.«01_k».proof.Proof.MlpReference

@[expose] public section

set_option maxRecDepth 16384

noncomputable section

namespace Cert.MlpMidReference

open Idealize.ShloMosaic Idealize.ShloMosaic.TcCoe Idealize.SL.Sem Cert.Reference2Ideal Cert.Reference2Ideal.Gen Cert.Rows Cert.MlpReference

/-- The reference's result, of its first six arguments. -/
def result (h o : FVec Ideal S16x2064x1024 .f32) (g : FVec Ideal S1024 .f32) (wo : FVec Ideal S1024x1024 .f32)
    (wu : FVec Ideal S1024x4096 .f32) (wd : FVec Ideal S4096x1024 .f32) : FVec Ideal S33024x1024 .f32 :=
  shapeCast S33024x1024 (fed (mixed h o wo) (hidden (normed (mixed h o wo) g) wu) wd) shapeCasts_S16x2064x1024_S33024x1024

/-- The reference's run, with its result as that function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2⟩) (Value.run (F := Ideal) m ρ)

/-- The reference's result at row `r` and column `l`: the layer's row of position `r % 2064` of sequence `r / 2064`. -/
theorem result_at (h o : FVec Ideal S16x2064x1024 .f32) (g : FVec Ideal S1024 .f32) (wo : FVec Ideal S1024x1024 .f32)
    (wu : FVec Ideal S1024x4096 .f32) (wd : FVec Ideal S4096x1024 .f32) (r : Fin 33024) (l : Fin 1024) :
    result h o g wo wu wd (ix2 r l)
      = layer (fun k => h (ix3 (⟨r.val / 2064, by omega⟩ : Fin 16) (⟨r.val % 2064, by omega⟩ : Fin 2064) k))
          (fun k => o (ix3 (⟨r.val / 2064, by omega⟩ : Fin 16) (⟨r.val % 2064, by omega⟩ : Fin 2064) k))
          (fun k j => wo (ix2 k j)) (fun k => g (ix1 k)) (fun k f => wu (ix2 k f)) (fun f j => wd (ix2 f j)) l := by
  pointwise [result]
  rw [fed_at]
  simp only [hidden_at, normed_at, mixed_at]
  rfl

end Cert.MlpMidReference

end
-- ==== Proof.MlpSampleKernel.lean ====
/- What the last layer's call for the sample group leaves in its result: row `r` of the 128 rows is the layer's row, with
   the final norm, of sequence `r`. -/
module

public import proofs.«01_k».proof.Proof.Gen.Kernel3Ideal.Value
public import proofs.«01_k».proof.Proof.Rows
public import Idealize.ShloMosaic.Lib.StableHlo.ReadAt
public import Idealize.ShloMosaic.Lib.Tactic

@[expose] public section

set_option maxRecDepth 16384

noncomputable section

namespace Cert.MlpSampleKernel

open Idealize.ShloMosaic Idealize.ShloMosaic.TcCoe Idealize.SL.Sem Cert.Kernel3Ideal Cert.Kernel3Ideal.Gen Cert.Rows

variable (m : (ℓ : Loc nD τ sig) → Buf (Elt Ideal) ℓ)

/-! ## The payloads, row by row -/

/-- The first payload at a place: the residual plus the projected mixer row. -/
theorem pay1_at (a : Vec Ideal S128x1024 .f32) (b : Vec Ideal S128x1024 .bf16) (w : Vec Ideal S1024x1024 .bf16)
    (r : Fin 128) (c : Fin 1024) :
    k0_pay1 (F := Ideal) a b w (ix2 r c) = mix (fun k => a (ix2 r k)) (fun k => b (ix2 r k)) (fun k l => w (ix2 k l)) c := by
  pointwise [k0_pay1]
  rfl

/-- The second payload at a place: the norm of that row. -/
theorem pay2_at (a : Vec Ideal S128x1024 .f32) (b : Vec Ideal S128x1024 .bf16) (w : Vec Ideal S1024x1024 .bf16)
    (g : Vec Ideal S1x1024 .f32) (r : Fin 128) (c : Fin 1024) :
    k0_pay2 (F := Ideal) a b w g (ix2 r c)
      = rms (mix (fun k => a (ix2 r k)) (fun k => b (ix2 r k)) (fun k l => w (ix2 k l))) (fun l => g (ix2 0 l)) c := by
  pointwise [k0_pay2]
  simp only [pay1_at]
  rfl

/-- The third payload at a place: what the row held plus the feed-forward over one block of hidden units. -/
theorem pay3_at (x : Vec Ideal S128x1024 .bf16) (u : Vec Ideal S1024x2048 .bf16) (y : Vec Ideal S128x1024 .f32)
    (d : Vec Ideal S2048x1024 .bf16) (r : Fin 128) (c : Fin 1024) :
    k0_pay3 (F := Ideal) x u y d (ix2 r c)
      = y (ix2 r c) + ffn (fun k => x (ix2 r k)) (fun k f => u (ix2 k f)) (fun f l => d (ix2 f l)) c := by
  pointwise [k0_pay3]
  rfl

/-- The fourth payload at a place: the final norm of a row. -/
theorem pay4_at (x : Vec Ideal S128x1024 .f32) (g : Vec Ideal S1x1024 .f32) (r : Fin 128) (c : Fin 1024) :
    k0_pay4 (F := Ideal) x g (ix2 r c) = rms (fun k => x (ix2 r k)) (fun l => g (ix2 0 l)) c := by
  pointwise [k0_pay4]
  rfl

/-! ## What the two kinds of grid point leave -/

/-- The zero start, as a constant function. -/
theorem hz : (![0, 0] : Fin 2 → Nat) = fun _ => 0 := funext fun a => by fin_cases a <;> rfl

/-- A point with an even number starts a row tile: it leaves the projection plus the first half of the feed-forward, and the
    normed rows in the scratch. -/
theorem outs_even (c : Dev nD) (t : Fin cfg0.N) (h0 : t.val % 2 = 0) (h1 : ¬t.val % 2 = 1) : outsAt0 m c t.val t.isLt =
    (k0_pay3 (k0_pay2 (iblk m c 0 t) (iblk m c 1 t) (iblk m c 2 t) (iblk m c 3 t)) (iblk m c 4 t)
        (k0_pay1 (iblk m c 0 t) (iblk m c 1 t) (iblk m c 2 t)) (iblk m c 5 t),
     k0_pay2 (iblk m c 0 t) (iblk m c 1 t) (iblk m c 2 t) (iblk m c 3 t)) := by
  rw [outsAt0_A m c t h0 h1]
  apply Prod.ext
  · dsimp only
    unfold out0_A_7
    refine (View.read_writes_eq_canon _ _ _ (fun y => ?_)).trans ?_
    · exact cover0_A_7 (y := y) ..
    unfold kernelRun0_A
    dsimp only
    sl_unfold_words
    rw [View.canon_cons_unit_zero (S := S128x1024) hz]
    simp only [View.readAt_eq_ld, Memref.IsWhole.read_unread, View.ld_unit_zero (S := S128x1024) hz,
      View.ld_unit_zero (S := S1024x1024) hz, View.ld_unit_zero (S := S1x1024) hz, View.ld_unit_zero (S := S1024x2048) hz,
      View.ld_unit_zero (S := S2048x1024) hz, View.readCov_unit_zero (S := S128x1024) _ hz]
  · dsimp only
    unfold sout0_A_0
    refine (View.read_writes_eq_canon _ _ _ (fun y => ?_)).trans ?_
    · exact scover0_A_0 (y := y) ..
    unfold kernelRun0_A
    dsimp only
    sl_unfold_words
    rw [View.canon_unit_zero (S := S128x1024) hz]
    simp only [View.readAt_eq_ld, Memref.IsWhole.read_unread, View.ld_unit_zero (S := S128x1024) hz,
      View.ld_unit_zero (S := S1024x1024) hz, View.ld_unit_zero (S := S1x1024) hz]

/-- A point with an odd number ends the row tile: it adds the second half of the feed-forward and takes the final norm. -/
theorem outs_odd (c : Dev nD) (t : Fin cfg0.N) (h0 : ¬t.val % 2 = 0) (h1 : t.val % 2 = 1)
    (p : Vec Ideal S128x1024 .f32 × Vec Ideal S128x1024 .bf16)
    (hp : outsAt0 m c (t.val - 1) (Nat.lt_of_le_of_lt (Nat.sub_le _ _) t.isLt) = p) :
    (outsAt0 m c t.val t.isLt).1 = k0_pay4 (k0_pay3 p.2 (iblk m c 4 t) p.1 (iblk m c 5 t)) (iblk m c 6 t) := by
  rw [outsAt0_B m c t h0 h1, hp]
  dsimp only
  unfold out0_B_7
  refine (View.read_writes_eq_canon _ _ _ (fun y => ?_)).trans ?_
  · exact cover0_B_7 (y := y) ..
  unfold kernelRun0_B
  dsimp only
  sl_unfold_words
  rw [View.canon_cons_unit_zero (S := S128x1024) hz]
  simp only [View.readAt_eq_ld, Memref.IsWhole.read_unread, View.ld_unit_zero (S := S128x1024) hz,
    View.ld_unit_zero (S := S1x1024) hz, View.ld_unit_zero (S := S1024x2048) hz,
    View.ld_unit_zero (S := S2048x1024) hz, View.readCov_unit_zero (S := S128x1024) _ hz]
  exact congrArg (fun z => k0_pay4 (k0_pay3 z (iblk m c 4 t) p.1 (iblk m c 5 t)) (iblk m c 6 t))
    ((Memref.isWhole_whole cc0_scratch0).read_unread p.2)

/-! ## The arrays the windows read -/

variable (c : Dev nD)

/-- The residual's row. -/
def hRow (r : Fin 128) (k : Fin 1024) : EReal := m ((c : Thread nD τ).loc main_arg0) (ix3 r 0 k)
/-- The mixer's row. -/
def oRow (r : Fin 128) (k : Fin 1024) : EReal := m ((c : Thread nD τ).loc main_arg1) (ix3 r 0 k)
/-- The gain of the layer's norm. -/
def gain (k : Fin 1024) : EReal := m ((c : Thread nD τ).loc main_arg2) (ix1 k)
/-- The output weights. -/
def wo (k l : Fin 1024) : EReal := m ((c : Thread nD τ).loc main_arg3) (ix2 k l)
/-- The feed-forward's first weights. -/
def wup (k : Fin 1024) (f : Fin 4096) : EReal := m ((c : Thread nD τ).loc main_arg4) (ix2 k f)
/-- The feed-forward's second weights. -/
def wdown (f : Fin 4096) (l : Fin 1024) : EReal := m ((c : Thread nD τ).loc main_arg5) (ix2 f l)
/-- The gain of the final norm. -/
def fgain (k : Fin 1024) : EReal := m ((c : Thread nD τ).loc main_arg6) (ix1 k)

/-- The host's reshape of the residual, at an entry. -/
theorem V_v0 (a : Fin 128) (l : Fin 1024) : V m c main_v0 (ix2 a l)
    = m ((c : Thread nD τ).loc main_arg0) (ix3 a 0 l) := by
  unfold V
  after_reads_at
/-- The host's reshape of the mixer's output, at an entry. -/
theorem V_v2 (a : Fin 128) (l : Fin 1024) : V m c main_v2 (ix2 a l)
    = m ((c : Thread nD τ).loc main_arg1) (ix3 a 0 l) := by
  unfold V
  after_reads_at
/-- The host's cast of the output projection, at an entry. -/
theorem V_v3 (a l : Fin 1024) : V m c main_v3 (ix2 a l) = wo m c a l := by
  unfold V wo
  after_reads_at
/-- The host's row of the gain, at an entry. -/
theorem V_v4 (a : Fin 1) (l : Fin 1024) : V m c main_v4 (ix2 a l) = gain m c l := by
  unfold V gain
  after_reads_at
/-- The host's cast of the up weights, at an entry. -/
theorem V_v5 (a : Fin 1024) (l : Fin 4096) : V m c main_v5 (ix2 a l) = wup m c a l := by
  unfold V wup
  after_reads_at
/-- The host's cast of the down weights, at an entry. -/
theorem V_v6 (a : Fin 4096) (l : Fin 1024) : V m c main_v6 (ix2 a l) = wdown m c a l := by
  unfold V wdown
  after_reads_at
/-- The host's row of the final gain, at an entry. -/
theorem V_v7 (a : Fin 1) (l : Fin 1024) : V m c main_v7 (ix2 a l) = fgain m c l := by
  unfold V fgain
  after_reads_at

/-- Where each window's block starts at grid point `t` (in blocks). -/
theorem starts : ∀ t : Fin cfg0.N,
    (cc0_transform_0 (grid0.coords t) 0 = 0 ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = t.val % 2)
    ∧ (cc0_transform_5 (grid0.coords t) 0 = t.val % 2 ∧ cc0_transform_5 (grid0.coords t) 1 = 0)
    ∧ (cc0_transform_6 (grid0.coords t) 0 = 0 ∧ cc0_transform_6 (grid0.coords t) 1 = 0) :=
  (by decide +kernel : ∀ t : Fin grid0.N, _)

/-- The residual's block is its whole array. -/
theorem blk0 (t : Fin cfg0.N) (r : Fin 128) (l : Fin 1024) :
    (iblk m c 0 t : Vec Ideal S128x1024 .f32) (ix2 r l) = hRow m c r l := by
  obtain ⟨e0, e1⟩ := (starts t).1
  refine Eq.trans ?_ (V_v0 m c r l)
  unfold iblk
  rw [View.read_apply]
  show V m c main_v0 _ = _
  congr 1
  funext d
  apply Fin.ext
  match d with
  | ⟨0, _⟩ => change cc0_transform_0 (grid0.coords t) 0 * 128 + 1 * r.val = r.val; rw [e0]; omega
  | ⟨1, _⟩ => change cc0_transform_0 (grid0.coords t) 1 * 1024 + 1 * l.val = l.val; rw [e1]; omega

/-- The same of the mixer's block. -/
theorem blk1 (t : Fin cfg0.N) (r : Fin 128) (l : Fin 1024) :
    (iblk m c 1 t : Vec Ideal S128x1024 .bf16) (ix2 r l) = oRow m c r l := by
  obtain ⟨e0, e1⟩ := (starts t).2.1
  refine Eq.trans ?_ (V_v2 m c r l)
  unfold iblk
  rw [View.read_apply]
  show V m c main_v2 _ = _
  congr 1
  funext d
  apply Fin.ext
  match d with
  | ⟨0, _⟩ => change cc0_transform_1 (grid0.coords t) 0 * 128 + 1 * r.val = r.val; rw [e0]; omega
  | ⟨1, _⟩ => change cc0_transform_1 (grid0.coords t) 1 * 1024 + 1 * l.val = l.val; rw [e1]; omega

/-- The output weights' block is the whole matrix. -/
theorem blk2 (t : Fin cfg0.N) (k l : Fin 1024) : (iblk m c 2 t : Vec Ideal S1024x1024 .bf16) (ix2 k l) = wo m c k l := by
  obtain ⟨e0, e1⟩ := (starts t).2.2.1
  rw [← V_v3]
  unfold iblk
  rw [View.read_apply]
  show V m c main_v3 _ = _
  congr 1
  funext d
  apply Fin.ext
  match d with
  | ⟨0, _⟩ => change cc0_transform_2 (grid0.coords t) 0 * 1024 + 1 * k.val = k.val; rw [e0]; omega
  | ⟨1, _⟩ => change cc0_transform_2 (grid0.coords t) 1 * 1024 + 1 * l.val = l.val; rw [e1]; omega

/-- The gain's block is the whole row. -/
theorem blk3 (t : Fin cfg0.N) (l : Fin 1024) : (iblk m c 3 t : Vec Ideal S1x1024 .f32) (ix2 0 l) = gain m c l := by
  obtain ⟨e0, e1⟩ := (starts t).2.2.2.1
  rw [← V_v4 m c 0 l]
  unfold iblk
  rw [View.read_apply]
  show V m c main_v4 _ = _
  congr 1
  funext d
  apply Fin.ext
  match d with
  | ⟨0, _⟩ => change cc0_transform_3 (grid0.coords t) 0 * 1 + 1 * 0 = 0; rw [e0]
  | ⟨1, _⟩ => change cc0_transform_3 (grid0.coords t) 1 * 1024 + 1 * l.val = l.val; rw [e1]; omega

/-- The first weights' block at point `t` holds the columns of half `t % 2` of the hidden units. -/
theorem blk4 (t : Fin cfg0.N) (k : Fin 1024) (f : Fin 2048) :
    (iblk m c 4 t : Vec Ideal S1024x2048 .bf16) (ix2 k f) = wup m c k (half t.val f) := by
  obtain ⟨e0, e1⟩ := (starts t).2.2.2.2.1
  rw [← V_v5]
  unfold iblk
  rw [View.read_apply]
  show V m c main_v5 _ = _
  congr 1
  funext d
  apply Fin.ext
  match d with
  | ⟨0, _⟩ => change cc0_transform_4 (grid0.coords t) 0 * 1024 + 1 * k.val = k.val; rw [e0]; omega
  | ⟨1, _⟩ => change cc0_transform_4 (grid0.coords t) 1 * 2048 + 1 * f.val = t.val % 2 * 2048 + f.val; rw [e1]; omega

/-- The second weights' block at point `t` holds the rows of half `t % 2` of the hidden units. -/
theorem blk5 (t : Fin cfg0.N) (f : Fin 2048) (l : Fin 1024) :
    (iblk m c 5 t : Vec Ideal S2048x1024 .bf16) (ix2 f l) = wdown m c (half t.val f) l := by
  obtain ⟨e0, e1⟩ := (starts t).2.2.2.2.2.1
  rw [← V_v6]
  unfold iblk
  rw [View.read_apply]
  show V m c main_v6 _ = _
  congr 1
  funext d
  apply Fin.ext
  match d with
  | ⟨0, _⟩ => change cc0_transform_5 (grid0.coords t) 0 * 2048 + 1 * f.val = t.val % 2 * 2048 + f.val; rw [e0]; omega
  | ⟨1, _⟩ => change cc0_transform_5 (grid0.coords t) 1 * 1024 + 1 * l.val = l.val; rw [e1]; omega

/-- The final gain's block is the whole row. -/
theorem blk6 (t : Fin cfg0.N) (l : Fin 1024) : (iblk m c 6 t : Vec Ideal S1x1024 .f32) (ix2 0 l) = fgain m c l := by
  obtain ⟨e0, e1⟩ := (starts t).2.2.2.2.2.2
  rw [← V_v7 m c 0 l]
  unfold iblk
  rw [View.read_apply]
  show V m c main_v7 _ = _
  congr 1
  funext d
  apply Fin.ext
  match d with
  | ⟨0, _⟩ => change cc0_transform_6 (grid0.coords t) 0 * 1 + 1 * 0 = 0; rw [e0]
  | ⟨1, _⟩ => change cc0_transform_6 (grid0.coords t) 1 * 1024 + 1 * l.val = l.val; rw [e1]; omega

/-! ## The result, row by row -/

/-- After the second point, row `r` of the result's block is the finished row. -/
theorem tile_at (h1 : 1 < cfg0.N) (r : Fin 128) (l : Fin 1024) :
    (outsAt0 m c 1 h1).1 (ix2 r l)
      = rms (layer (hRow m c r) (oRow m c r) (wo m c) (gain m c) (wup m c) (wdown m c)) (fgain m c) l := by
  have h0 : 0 < cfg0.N := by omega
  rw [outs_odd m c ⟨1, h1⟩ (by dsimp only; omega) (by dsimp only) _ (outs_even m c ⟨0, h0⟩ (by dsimp only) (by dsimp only; omega)),
    pay4_at]
  simp only [pay3_at, pay2_at, pay1_at, blk0, blk1, blk2, blk3, blk4, blk5, blk6]
  refine congrArg (fun z => rms z (fgain m c) l) (funext fun k => ?_)
  exact layer_halves _ _ _ _ _ _ _

/-- The result array after the run, at row `r` and column `l`. -/
theorem result_at (r : Fin 128) (l : Fin 1024) :
    Value.G7 m c (ix2 r l)
      = rms (layer (hRow m c r) (oRow m c r) (wo m c) (gain m c) (wup m c) (wdown m c)) (fgain m c) l := by
  have hb : 1 < cfg0.N := lt_of_lt_of_eq (by decide) N_0.symm
  rw [Value.G7_last, ← Value.outsAt0_sweep m c _ hb]
  exact tile_at m c hb r l

end Cert.MlpSampleKernel

end
-- ==== Proof.MlpSampleReference.lean ====
/- The reference of the last layer's call for the sample group, row by row. -/
module

public import proofs.«01_k».proof.Proof.Gen.Reference3Ideal.Run
public import proofs.«01_k».proof.Proof.Rows

@[expose] public section

set_option maxRecDepth 16384

noncomputable section

namespace Cert.MlpSampleReference

open Idealize.ShloMosaic Idealize.SL.Sem Cert.Reference3Ideal Cert.Reference3Ideal.Gen Cert.Rows

/-- The reference's norm over the last axis, as the printed operations. -/
def normed (x : FVec Ideal S128x1x1024 .f32) (g : FVec Ideal S1024 .f32) : FVec Ideal S128x1x1024 .f32 :=
  mulf (mulf x (broadcastInDim S128x1x1024 ![0, 1, 2] bcast_S128x1x1_S128x1x1024_0_1_2
    (Host.rsqrt (addf (Host.divf (broadcastInDim S128x1x1 ![0, 1] bcast_S128x1_S128x1x1_0_1
      (Host.reduceAdd (mulf x x) (constant S_ .f32 0x00000000#32) reducesTo_S128x1x1024_S128x1_d2 h_S_))
      (broadcastInDim S128x1x1 ![] bcast_S_S128x1x1 (constant S_ .f32 0x44800000#32)))
      (broadcastInDim S128x1x1 ![] bcast_S_S128x1x1 (constant S_ .f32 0x358637BD#32))))))
    (broadcastInDim S128x1x1024 ![0, 1, 2] bcast_S1x1x1024_S128x1x1024_0_1_2
      (broadcastInDim S1x1x1024 ![2] bcast_S1024_S1x1x1024_2 g))

/-- The reference's residual after the output projection. -/
def mixed (h o : FVec Ideal S128x1x1024 .f32) (w : FVec Ideal S1024x1024 .f32) : FVec Ideal S128x1x1024 .f32 :=
  addf h (Host.dotGeneral dot_S128x1x1024_S1024x1024_S128x1x1024_2_0_01_1_n_n none o w)

/-- The reference's hidden units before they are squared. -/
def hidden (x : FVec Ideal S128x1x1024 .f32) (w : FVec Ideal S1024x4096 .f32) : FVec Ideal S128x1x4096 .f32 :=
  maximumf (Host.dotGeneral dot_S128x1x1024_S1024x4096_S128x1x4096_2_0_01_1_n_n none x w)
    (broadcastInDim S128x1x4096 ![] bcast_S_S128x1x4096 (constant S_ .f32 0x00000000#32))

/-- The reference's residual after the feed-forward. -/
def fed (h : FVec Ideal S128x1x1024 .f32) (u : FVec Ideal S128x1x4096 .f32) (w : FVec Ideal S4096x1024 .f32) :
    FVec Ideal S128x1x1024 .f32 :=
  addf h (Host.dotGeneral dot_S128x1x4096_S4096x1024_S128x1x1024_2_0_01_1_n_n none (mulf u u) w)

/-- The norm at a place is the norm of its row. -/
theorem normed_at (x : FVec Ideal S128x1x1024 .f32) (g : FVec Ideal S1024 .f32) (b : Fin 128) (s : Fin 1) (l : Fin 1024) :
    normed x g (ix3 b s l) = rms (fun k => x (ix3 b s k)) (fun k => g (ix1 k)) l := by
  obtain rfl : s = 0 := Subsingleton.elim _ _
  pointwise [normed]
  rfl
/-- The residual plus the projected mixer output, at a place. -/
theorem mixed_at (h o : FVec Ideal S128x1x1024 .f32) (w : FVec Ideal S1024x1024 .f32) (b : Fin 128) (s : Fin 1) (l : Fin 1024) :
    mixed h o w (ix3 b s l) = mix (fun k => h (ix3 b s k)) (fun k => o (ix3 b s k)) (fun k j => w (ix2 k j)) l := by
  obtain rfl : s = 0 := Subsingleton.elim _ _
  pointwise [mixed]
  rfl
/-- The squared rectified hidden value, at a place. -/
theorem hidden_at (x : FVec Ideal S128x1x1024 .f32) (w : FVec Ideal S1024x4096 .f32) (b : Fin 128) (s : Fin 1) (f : Fin 4096) :
    hidden x w (ix3 b s f) = act (fun k => x (ix3 b s k)) (fun k j => w (ix2 k j)) f := by
  obtain rfl : s = 0 := Subsingleton.elim _ _
  pointwise [hidden]
  rfl
/-- The feed-forward's sum, at a place. -/
theorem fed_at (h : FVec Ideal S128x1x1024 .f32) (u : FVec Ideal S128x1x4096 .f32) (w : FVec Ideal S4096x1024 .f32)
    (b : Fin 128) (s : Fin 1) (l : Fin 1024) :
    fed h u w (ix3 b s l) = h (ix3 b s l) + ∑ f, u (ix3 b s f) * u (ix3 b s f) * w (ix2 f l) := by
  pointwise [fed]

/-- The reference's result, of its seven arguments. -/
def result (h o : FVec Ideal S128x1x1024 .f32) (g : FVec Ideal S1024 .f32) (wo : FVec Ideal S1024x1024 .f32)
    (wu : FVec Ideal S1024x4096 .f32) (wd : FVec Ideal S4096x1024 .f32) (gf : FVec Ideal S1024 .f32) : FVec Ideal S128x1024 .f32 :=
  shapeCast S128x1024 (normed (fed (mixed h o wo) (hidden (normed (mixed h o wo) g) wu) wd) gf) shapeCasts_S128x1x1024_S128x1024

/-- The run's composed term is that function of the arguments. -/
theorem res_eq (m : (ℓ : Loc nD τ sig) → Buf (Elt Ideal) ℓ) (c : Dev nD) :
    Value.res_out0 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- The reference's result at row `r` and column `l`: the layer's row, with the final norm, of sequence `r`. -/
theorem result_at (h o : FVec Ideal S128x1x1024 .f32) (g : FVec Ideal S1024 .f32) (wo : FVec Ideal S1024x1024 .f32)
    (wu : FVec Ideal S1024x4096 .f32) (wd : FVec Ideal S4096x1024 .f32) (gf : FVec Ideal S1024 .f32) (r : Fin 128) (l : Fin 1024) :
    result h o g wo wu wd gf (ix2 r l)
      = rms (layer (fun k => h (ix3 r 0 k))
          (fun k => o (ix3 r 0 k))
          (fun k j => wo (ix2 k j)) (fun k => g (ix1 k)) (fun k f => wu (ix2 k f)) (fun f j => wd (ix2 f j)))
          (fun k => gf (ix1 k)) l := by
  pointwise [result]
  rw [normed_at]
  simp only [fed_at, hidden_at, normed_at, mixed_at]
  rfl

end Cert.MlpSampleReference

end
-- ==== Proof.KvRows.lean ====
/- One row of the shared keys and values, as functions of rows of extended reals: the latent (a product and a norm), the
   rotary key (a product and a rotation of its two halves), and the two side by side with zeros behind. -/
module

public import proofs.«01_k».proof.Proof.Rows

@[expose] public section

noncomputable section

namespace Cert.KvRows

open Idealize.ShloMosaic Cert.Rows

/-- A normed row through a matrix. -/
def proj {n : ℕ} (h g : Fin 1024 → EReal) (w : Fin 1024 → Fin n → EReal) (j : Fin n) : EReal :=
  ∑ k, rms h g k * w k j

/-- The norm of a row of 256. -/
def rms256 (x g : Fin 256 → EReal) (j : Fin 256) : EReal :=
  x j * Ideal.rsqrt (Ideal.div (∑ k, x k * x k) (Ideal.ofBits .f32 0x43800000#32) + Ideal.ofBits .f32 0x358637BD#32) * g j

/-- The latent row. -/
def latent (h g : Fin 1024 → EReal) (w : Fin 1024 → Fin 256 → EReal) (gk : Fin 256 → EReal) (j : Fin 256) : EReal :=
  rms256 (proj h g w) gk j

/-- The angle of position `p` at frequency `f`. -/
def angle (p : BitVec 32) (f : ℕ) : EReal :=
  FloatOps.sitofp (F := Ideal) FTy.f32 p * Ideal.pow (Ideal.ofBits FTy.f32 0x461C4000#32)
    (Ideal.div (-FloatOps.sitofp (F := Ideal) FTy.f32 (BitVec.ofNat 32 f)) (Ideal.ofBits FTy.f32 0x42000000#32))

/-- Its cosine at frequency `f`. -/
def cosAt (p : BitVec 32) (f : Fin 32) : EReal := Ideal.cos (angle p f.val)

/-- Its sine. -/
def sinAt (p : BitVec 32) (f : Fin 32) : EReal := Ideal.sin (angle p f.val)

/-- The rotation of a row's two halves by the cosines `co` and the sines `si`. -/
def rotated (x : Fin 64 → EReal) (co si : Fin 32 → EReal) (j : Fin 64) : EReal :=
  if h : j.val < 32 then x j * co ⟨j.val, h⟩ - x ⟨32 + j.val, by omega⟩ * si ⟨j.val, h⟩
  else x j * co ⟨j.val - 32, by omega⟩ + x ⟨j.val - 32, by omega⟩ * si ⟨j.val - 32, by omega⟩

/-- The rotation as two products, the second of the row with its halves exchanged by the sines with the first half negated. -/
theorem rotated_eq (x y : Fin 64 → EReal) (co si : Fin 32 → EReal) (c s : Fin 64 → EReal)
    (hy : ∀ j : Fin 64, y j = if h : j.val < 32 then x ⟨32 + j.val, by omega⟩ else x ⟨j.val - 32, by omega⟩)
    (hc : ∀ j : Fin 64, c j = if h : j.val < 32 then co ⟨j.val, h⟩ else co ⟨j.val - 32, by omega⟩)
    (hs : ∀ j : Fin 64, s j = if h : j.val < 32 then -si ⟨j.val, h⟩ else si ⟨j.val - 32, by omega⟩) (j : Fin 64) :
    x j * c j + y j * s j = rotated x co si j := by
  unfold rotated
  rw [hy, hc, hs]
  split
  · rw [mul_neg, sub_eq_add_neg]
  · rfl

/-- The latent row, the rotary key and zeros, side by side. -/
def joined (a : Fin 256 → EReal) (b : Fin 64 → EReal) (j : Fin 384) : EReal :=
  if h : j.val < 256 then a ⟨j.val, h⟩ else if h' : j.val - 256 < 64 then b ⟨j.val - 256, h'⟩ else 0

end Cert.KvRows

end
-- ==== Proof.Pieces.lean ====
/- What a buffer written in three pieces holds at a place of one of them. -/
module

public import Idealize.ShloMosaic.Lib.Pipeline.FrameBody

@[expose] public section

namespace Cert.Pieces

open Idealize.ShloMosaic

variable {Val : EltTy → Type} [∀ e, Nonempty (Val e)] {s : Shape} {e : EltTy}

/-- At a place of the piece written last it holds that piece. -/
theorem canon_first (r₁ r₂ r₃ : Rect s) (w₁ : r₁.shape.Idx → Val e) (w₂ : r₂.shape.Idx → Val e) (w₃ : r₃.shape.Idx → Val e)
    {y : s.Idx} {x : r₁.shape.Idx} (h : y = r₁.emb x) :
    View.canon [⟨r₁, w₁⟩, ⟨r₂, w₂⟩, ⟨r₃, w₃⟩] y = w₁ x := by
  rw [h]
  exact View.canon_cons_emb r₁ w₁ _ x

/-- At a place of the second, outside the last, it holds the second. -/
theorem canon_second (r₁ r₂ r₃ : Rect s) (w₁ : r₁.shape.Idx → Val e) (w₂ : r₂.shape.Idx → Val e) (w₃ : r₃.shape.Idx → Val e)
    {y : s.Idx} (h₁ : y ∉ r₁.set) {x : r₂.shape.Idx} (h : y = r₂.emb x) :
    View.canon [⟨r₁, w₁⟩, ⟨r₂, w₂⟩, ⟨r₃, w₃⟩] y = w₂ x := by
  rw [View.canon_cons_of_not_mem _ _ h₁, h]
  exact View.canon_cons_emb r₂ w₂ _ x

/-- At a place of the first alone it holds the first. -/
theorem canon_third (r₁ r₂ r₃ : Rect s) (w₁ : r₁.shape.Idx → Val e) (w₂ : r₂.shape.Idx → Val e) (w₃ : r₃.shape.Idx → Val e)
    {y : s.Idx} (h₁ : y ∉ r₁.set) (h₂ : y ∉ r₂.set) {x : r₃.shape.Idx} (h : y = r₃.emb x) :
    View.canon [⟨r₁, w₁⟩, ⟨r₂, w₂⟩, ⟨r₃, w₃⟩] y = w₃ x := by
  rw [View.canon_cons_of_not_mem _ _ h₁, View.canon_cons_of_not_mem _ _ h₂, h]
  exact View.canon_cons_emb r₃ w₃ _ x

end Cert.Pieces
-- ==== Proof.KvKernel.lean ====
/- What the call for the prompt group's shared keys and values leaves in its three results: row `r` of the 33024 rows is
   that of position `r % 2064` of sequence `r / 2064`. -/
module

public import proofs.«01_k».proof.Proof.Gen.Kernel4Ideal.Value
public import proofs.«01_k».proof.Proof.KvRows
public import Idealize.ShloMosaic.Lib.StableHlo.ReadAt
public import Idealize.ShloMosaic.Lib.Tactic
public import Idealize.ShloMosaic.Lib.Pipeline.ValueKit
public import proofs.«01_k».proof.Proof.Pieces

@[expose] public section

set_option maxRecDepth 16384

noncomputable section

namespace Cert.KvKernel

open Idealize.ShloMosaic Idealize.ShloMosaic.TcCoe Idealize.SL.Sem Cert.Kernel4Ideal Cert.Kernel4Ideal.Gen Cert.Rows Cert.KvRows Cert.Pieces

variable (m : (ℓ : Loc nD τ sig) → Buf (Elt Ideal) ℓ) (c : Dev nD)

/-! ## The payloads, row by row -/

/-- The latent's payload at a place. -/
theorem pay6_at (x0 : Vec Ideal S688x1024 .f32) (x1 : Vec Ideal S1x1024 .f32) (x2 : Vec Ideal S1024x256 .bf16)
    (x3 : Vec Ideal S1x256 .f32) (r : Fin 688) (j : Fin 256) :
    k0_pay6 (F := Ideal) x0 x1 x2 x3 (ix2 r j)
      = latent (fun k => x0 (ix2 r k)) (fun k => x1 (ix2 0 k)) (fun k j => x2 (ix2 k j)) (fun j => x3 (ix2 0 j)) j := by
  pointwise [k0_pay6, k0_pay5]
  rfl

/-- The rotary key's payload at a place. -/
theorem pay1_at (x0 : Vec Ideal S688x1024 .f32) (x1 : Vec Ideal S1x1024 .f32) (x4 x5 : Vec Ideal S1024x64 .bf16)
    (x6 x7 : Vec Ideal S688x64 .f32) (r : Fin 688) (j : Fin 64) :
    k0_pay1 (F := Ideal) (k0_pay5 x0 x1) (k0_pay7 x0 x1 x4) (k0_pay8 x6) x5 x7 (ix2 r j)
      = proj (fun k => x0 (ix2 r k)) (fun k => x1 (ix2 0 k)) (fun k j => x4 (ix2 k j)) j * x6 (ix2 r j)
        + proj (fun k => x0 (ix2 r k)) (fun k => x1 (ix2 0 k)) (fun k j => x5 (ix2 k j)) j * x7 (ix2 r j) := by
  pointwise [k0_pay1, k0_pay7, k0_pay8, k0_pay5]
  rfl

/-- A block written in three pieces side by side, at a place. -/
theorem pieces_at (z b : Vec Ideal S688x64 .bf16) (a : Vec Ideal S688x256 .bf16) (r : Fin 688) (j : Fin 384) :
    View.canon (Val := Elt Ideal) (s := S688x384) (e := .bf16)
        [⟨Rect.unit (s := S688x384) ![0, 320] ![688, 64] inb_S688x384_S688x64_0_320, z⟩,
        ⟨Rect.unit (s := S688x384) ![0, 256] ![688, 64] inb_S688x384_S688x64_0_256, b⟩,
        ⟨Rect.unit (s := S688x384) ![0, 0] ![688, 256] inb_S688x384_S688x256_0_0, a⟩] (ix2 r j)
      = if h : j.val < 256 then a (ix2 r ⟨j.val, h⟩) else if h' : j.val - 256 < 64 then b (ix2 r ⟨j.val - 256, h'⟩)
        else z (ix2 r ⟨j.val - 320, by omega⟩) := by
  have hj := j.isLt
  have off : ∀ (o n : ℕ) (inb : ∀ a, (![0, o] : Fin 2 → ℕ) a + (![688, n] : Fin 2 → ℕ) a ≤ S688x384.size a),
      ¬(o ≤ j.val ∧ j.val < o + n) → (ix2 r j : S688x384.Idx) ∉ (Rect.unit (s := S688x384) ![0, o] ![688, n] inb).set :=
    fun o n inb h hm => h (Rect.mem_set_unit.1 hm 1)
  have at_ : ∀ (o n : ℕ) (inb : ∀ a, (![0, o] : Fin 2 → ℕ) a + (![688, n] : Fin 2 → ℕ) a ≤ S688x384.size a)
      (k : Fin n), o + k.val = j.val →
      (ix2 r j : S688x384.Idx) = (Rect.unit (s := S688x384) ![0, o] ![688, n] inb).emb (ix2 r k) := by
    intro o n inb k hk
    funext d
    apply Fin.ext
    match d with
    | ⟨0, _⟩ => show r.val = 0 + 1 * r.val; omega
    | ⟨1, _⟩ => show j.val = o + 1 * k.val; omega
  split
  · next h =>
    exact canon_third (Val := Elt Ideal) (e := .bf16)
          (Rect.unit (s := S688x384) ![0, 320] ![688, 64] inb_S688x384_S688x64_0_320)
          (Rect.unit (s := S688x384) ![0, 256] ![688, 64] inb_S688x384_S688x64_0_256)
          (Rect.unit (s := S688x384) ![0, 0] ![688, 256] inb_S688x384_S688x256_0_0) z b a (off 320 64 inb_S688x384_S688x64_0_320 (by omega))
      (off 256 64 inb_S688x384_S688x64_0_256 (by omega))
      (at_ 0 256 inb_S688x384_S688x256_0_0 ⟨j.val, h⟩ (by dsimp only; omega))
  · split
    · next h h' =>
      exact canon_second (Val := Elt Ideal) (e := .bf16)
          (Rect.unit (s := S688x384) ![0, 320] ![688, 64] inb_S688x384_S688x64_0_320)
          (Rect.unit (s := S688x384) ![0, 256] ![688, 64] inb_S688x384_S688x64_0_256)
          (Rect.unit (s := S688x384) ![0, 0] ![688, 256] inb_S688x384_S688x256_0_0) z b a (off 320 64 inb_S688x384_S688x64_0_320 (by omega))
        (at_ 256 64 inb_S688x384_S688x64_0_256 ⟨j.val - 256, h'⟩ (by dsimp only; omega))
    · next h h' =>
      exact canon_first (Val := Elt Ideal) (e := .bf16)
          (Rect.unit (s := S688x384) ![0, 320] ![688, 64] inb_S688x384_S688x64_0_320)
          (Rect.unit (s := S688x384) ![0, 256] ![688, 64] inb_S688x384_S688x64_0_256)
          (Rect.unit (s := S688x384) ![0, 0] ![688, 256] inb_S688x384_S688x256_0_0) z b a
        (at_ 320 64 inb_S688x384_S688x64_0_320 ⟨j.val - 320, by omega⟩ (by dsimp only; omega))

/-! ## The arrays the windows read -/

/-- The residual's row. -/
def hRow (r : Fin 33024) (k : Fin 1024) : EReal := m ((c : Thread nD τ).loc main_arg0) (ix3 (⟨r.val / 2064, by omega⟩ : Fin 16) (⟨r.val % 2064, by omega⟩ : Fin 2064) k)
/-- Its position, as the host's word. -/
def pos (r : Fin 33024) : BitVec 32 := BitVec.ofNat 32 (r.val % 2064)
/-- The gain of the first norm. -/
def gain (k : Fin 1024) : EReal := m ((c : Thread nD τ).loc main_arg1) (ix1 k)
/-- The latent's weights. -/
def wkv (k : Fin 1024) (j : Fin 256) : EReal := m ((c : Thread nD τ).loc main_arg2) (ix2 k j)
/-- The gain of the latent's norm. -/
def gainKv (j : Fin 256) : EReal := m ((c : Thread nD τ).loc main_arg3) (ix1 j)
/-- The rotary key's weights. -/
def wkr (k : Fin 1024) (j : Fin 64) : EReal := m ((c : Thread nD τ).loc main_arg4) (ix2 k j)

/-- The host's reshape of the rows, at an entry. -/
theorem V_h (a : Fin 33024) (l : Fin 1024) : V m c main_v18 (ix2 a l) = hRow m c a l := by
  unfold V hRow
  after_reads_at
/-- The host's row of the first gain, at an entry. -/
theorem V_gain (a : Fin 1) (l : Fin 1024) : V m c main_v19 (ix2 a l) = gain m c l := by
  unfold V gain
  after_reads_at
/-- The host's cast of the latent's weights, at an entry. -/
theorem V_wkv (a : Fin 1024) (l : Fin 256) : V m c main_v20 (ix2 a l) = wkv m c a l := by
  unfold V wkv
  after_reads_at
/-- The host's row of the latent's gain, at an entry. -/
theorem V_gainKv (a : Fin 1) (l : Fin 256) : V m c main_v21 (ix2 a l) = gainKv m c l := by
  unfold V gainKv
  after_reads_at
/-- The host's cast of the rotary key's weights, at an entry. -/
theorem V_wkr (a : Fin 1024) (l : Fin 64) : V m c main_v22 (ix2 a l) = wkr m c a l := by
  unfold V wkr
  after_reads_at
/-- The host's copy of those weights with the halves exchanged, at an entry. -/
theorem V_swapped (a : Fin 1024) (l : Fin 64) : V m c main_v28 (ix2 a l)
    = if h : l.val < 32 then wkr m c a ⟨32 + l.val, by omega⟩ else wkr m c a ⟨l.val - 32, by omega⟩ := by
  unfold V wkr
  after_reads_at
  split
  · after_reads_at
  · after_reads_at
/-- The host's table of cosines, at an entry. -/
theorem V_cos (a : Fin 2064) (l : Fin 64) : V m c main_v15 (ix2 a l)
    = if h : l.val < 32 then cosAt (BitVec.ofNat 32 a.val) ⟨l.val, h⟩ else cosAt (BitVec.ofNat 32 a.val) ⟨l.val - 32, by omega⟩ := by
  unfold V cosAt angle
  after_reads_at
/-- The host's table of signed sines, at an entry. -/
theorem V_sin (a : Fin 2064) (l : Fin 64) : V m c main_v17 (ix2 a l)
    = if h : l.val < 32 then -sinAt (BitVec.ofNat 32 a.val) ⟨l.val, h⟩ else sinAt (BitVec.ofNat 32 a.val) ⟨l.val - 32, by omega⟩ := by
  unfold V sinAt angle
  after_reads_at

/-- Where each window's block starts at grid point `t` (in blocks). -/
theorem starts : ∀ t : Fin cfg0.N,
    (cc0_transform_0 (grid0.coords t) 0 = t.val ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = 0)
    ∧ (cc0_transform_5 (grid0.coords t) 0 = 0 ∧ cc0_transform_5 (grid0.coords t) 1 = 0)
    ∧ (cc0_transform_6 (grid0.coords t) 0 = t.val % 3 ∧ cc0_transform_6 (grid0.coords t) 1 = 0)
    ∧ (cc0_transform_7 (grid0.coords t) 0 = t.val % 3 ∧ cc0_transform_7 (grid0.coords t) 1 = 0)
    ∧ (cc0_transform_8 (grid0.coords t) 0 = t.val ∧ cc0_transform_8 (grid0.coords t) 1 = 0)
    ∧ (cc0_transform_9 (grid0.coords t) 0 = t.val ∧ cc0_transform_9 (grid0.coords t) 1 = 0)
    ∧ (cc0_transform_10 (grid0.coords t) 0 = t.val ∧ cc0_transform_10 (grid0.coords t) 1 = 0) :=
  (by decide +kernel : ∀ t : Fin grid0.N, _)

/-- Row `r` of the residual's block at point `t` is row `688 * t + r` of the residual. -/
theorem blk0 (t : Fin cfg0.N) (r : Fin 688) (l : Fin 1024) (q : Fin 33024) (hq : q.val = t.val * 688 + r.val) :
    (iblk m c 0 t : Vec Ideal S688x1024 .f32) (ix2 r l) = hRow m c q l := by
  obtain ⟨e0, e1⟩ := (starts t).1
  refine Eq.trans ?_ (V_h m c q l)
  unfold iblk
  rw [View.read_apply]
  show V m c main_v18 _ = _
  congr 1
  funext d
  apply Fin.ext
  match d with
  | ⟨0, _⟩ => change cc0_transform_0 (grid0.coords t) 0 * 688 + 1 * r.val = q.val; rw [e0]; omega
  | ⟨1, _⟩ => change cc0_transform_0 (grid0.coords t) 1 * 1024 + 1 * l.val = l.val; rw [e1]; omega

/-- The gain's block is the whole row. -/
theorem blk1 (t : Fin cfg0.N) (l : Fin 1024) :
    (iblk m c 1 t : Vec Ideal S1x1024 .f32) (ix2 0 l) = gain m c l := by
  obtain ⟨e0, e1⟩ := (starts t).2.1
  refine Eq.trans ?_ (V_gain m c 0 l)
  unfold iblk
  rw [View.read_apply]
  show V m c main_v19 _ = _
  congr 1
  funext d
  apply Fin.ext
  match d with
  | ⟨0, _⟩ => change cc0_transform_1 (grid0.coords t) 0 * 1 + 1 * 0 = 0; rw [e0]
  | ⟨1, _⟩ => change cc0_transform_1 (grid0.coords t) 1 * 1024 + 1 * l.val = l.val; rw [e1]; omega

/-- The latent's weights' block is the whole matrix. -/
theorem blk2 (t : Fin cfg0.N) (k : Fin 1024) (l : Fin 256) :
    (iblk m c 2 t : Vec Ideal S1024x256 .bf16) (ix2 k l) = wkv m c k l := by
  obtain ⟨e0, e1⟩ := (starts t).2.2.1
  refine Eq.trans ?_ (V_wkv m c k l)
  unfold iblk
  rw [View.read_apply]
  show V m c main_v20 _ = _
  congr 1
  funext d
  apply Fin.ext
  match d with
  | ⟨0, _⟩ => change cc0_transform_2 (grid0.coords t) 0 * 1024 + 1 * k.val = k.val; rw [e0]; omega
  | ⟨1, _⟩ => change cc0_transform_2 (grid0.coords t) 1 * 256 + 1 * l.val = l.val; rw [e1]; omega

/-- The second gain's block is the whole row. -/
theorem blk3 (t : Fin cfg0.N) (l : Fin 256) :
    (iblk m c 3 t : Vec Ideal S1x256 .f32) (ix2 0 l) = gainKv m c l := by
  obtain ⟨e0, e1⟩ := (starts t).2.2.2.1
  refine Eq.trans ?_ (V_gainKv m c 0 l)
  unfold iblk
  rw [View.read_apply]
  show V m c main_v21 _ = _
  congr 1
  funext d
  apply Fin.ext
  match d with
  | ⟨0, _⟩ => change cc0_transform_3 (grid0.coords t) 0 * 1 + 1 * 0 = 0; rw [e0]
  | ⟨1, _⟩ => change cc0_transform_3 (grid0.coords t) 1 * 256 + 1 * l.val = l.val; rw [e1]; omega

/-- The rotary weights' block is the whole matrix. -/
theorem blk4 (t : Fin cfg0.N) (k : Fin 1024) (l : Fin 64) :
    (iblk m c 4 t : Vec Ideal S1024x64 .bf16) (ix2 k l) = wkr m c k l := by
  obtain ⟨e0, e1⟩ := (starts t).2.2.2.2.1
  refine Eq.trans ?_ (V_wkr m c k l)
  unfold iblk
  rw [View.read_apply]
  show V m c main_v22 _ = _
  congr 1
  funext d
  apply Fin.ext
  match d with
  | ⟨0, _⟩ => change cc0_transform_4 (grid0.coords t) 0 * 1024 + 1 * k.val = k.val; rw [e0]; omega
  | ⟨1, _⟩ => change cc0_transform_4 (grid0.coords t) 1 * 64 + 1 * l.val = l.val; rw [e1]; omega

/-- The other rotary weights' block is that matrix with its columns' halves exchanged. -/
theorem blk5 (t : Fin cfg0.N) (k : Fin 1024) (l : Fin 64) :
    (iblk m c 5 t : Vec Ideal S1024x64 .bf16) (ix2 k l) = if h : l.val < 32 then wkr m c k ⟨32 + l.val, by omega⟩ else wkr m c k ⟨l.val - 32, by omega⟩ := by
  obtain ⟨e0, e1⟩ := (starts t).2.2.2.2.2.1
  refine Eq.trans ?_ (V_swapped m c k l)
  unfold iblk
  rw [View.read_apply]
  show V m c main_v28 _ = _
  congr 1
  funext d
  apply Fin.ext
  match d with
  | ⟨0, _⟩ => change cc0_transform_5 (grid0.coords t) 0 * 1024 + 1 * k.val = k.val; rw [e0]; omega
  | ⟨1, _⟩ => change cc0_transform_5 (grid0.coords t) 1 * 64 + 1 * l.val = l.val; rw [e1]; omega

/-- The block of cosines at point `t` holds those of its rows' positions. -/
theorem blk6 (t : Fin cfg0.N) (r : Fin 688) (l : Fin 64) (q : Fin 33024) (hq : q.val = t.val * 688 + r.val) :
    (iblk m c 6 t : Vec Ideal S688x64 .f32) (ix2 r l) = if h : l.val < 32 then cosAt (pos q) ⟨l.val, h⟩ else cosAt (pos q) ⟨l.val - 32, by omega⟩ := by
  obtain ⟨e0, e1⟩ := (starts t).2.2.2.2.2.2.1
  refine Eq.trans ?_ (V_cos m c ⟨q.val % 2064, by omega⟩ l)
  unfold iblk
  rw [View.read_apply]
  show V m c main_v15 _ = _
  congr 1
  funext d
  apply Fin.ext
  match d with
  | ⟨0, _⟩ => change cc0_transform_6 (grid0.coords t) 0 * 688 + 1 * r.val = q.val % 2064; rw [e0]; omega
  | ⟨1, _⟩ => change cc0_transform_6 (grid0.coords t) 1 * 64 + 1 * l.val = l.val; rw [e1]; omega

/-- The block of sines at point `t` holds those of its rows' positions. -/
theorem blk7 (t : Fin cfg0.N) (r : Fin 688) (l : Fin 64) (q : Fin 33024) (hq : q.val = t.val * 688 + r.val) :
    (iblk m c 7 t : Vec Ideal S688x64 .f32) (ix2 r l) = if h : l.val < 32 then -sinAt (pos q) ⟨l.val, h⟩ else sinAt (pos q) ⟨l.val - 32, by omega⟩ := by
  obtain ⟨e0, e1⟩ := (starts t).2.2.2.2.2.2.2.1
  refine Eq.trans ?_ (V_sin m c ⟨q.val % 2064, by omega⟩ l)
  unfold iblk
  rw [View.read_apply]
  show V m c main_v17 _ = _
  congr 1
  funext d
  apply Fin.ext
  match d with
  | ⟨0, _⟩ => change cc0_transform_7 (grid0.coords t) 0 * 688 + 1 * r.val = q.val % 2064; rw [e0]; omega
  | ⟨1, _⟩ => change cc0_transform_7 (grid0.coords t) 1 * 64 + 1 * l.val = l.val; rw [e1]; omega

/-! ## The three results, row by row -/

/-- The latent's array. -/
def latents : FVec Ideal S33024x256 .f32 := fun i => latent (hRow m c (i 0)) (gain m c) (wkv m c) (gainKv m c) (i 1)
/-- The rotary key's array. -/
def rotaries : FVec Ideal S33024x64 .f32 := fun i => rotated (proj (hRow m c (i 0)) (gain m c) (wkr m c)) (cosAt (pos (i 0))) (sinAt (pos (i 0))) (i 1)
/-- The two and zeros, side by side. -/
def both : FVec Ideal S33024x384 .bf16 := fun i => joined (latent (hRow m c (i 0)) (gain m c) (wkv m c) (gainKv m c)) (rotated (proj (hRow m c (i 0)) (gain m c) (wkr m c)) (cosAt (pos (i 0))) (sinAt (pos (i 0)))) (i 1)

/-- The latent's payload at point `t`. -/
theorem tile8 (t : Fin cfg0.N) (r : Fin 688) (j : Fin 256) (q : Fin 33024) (hq : q.val = t.val * 688 + r.val) :
    k0_pay6 (F := Ideal) (iblk m c 0 t) (iblk m c 1 t) (iblk m c 2 t) (iblk m c 3 t) (ix2 r j)
      = latent (hRow m c q) (gain m c) (wkv m c) (gainKv m c) j := by
  rw [pay6_at]
  simp only [blk0 m c t r _ q hq, blk1, blk2, blk3]

/-- The rotary key's payload at point `t`. -/
theorem tile9 (t : Fin cfg0.N) (r : Fin 688) (j : Fin 64) (q : Fin 33024) (hq : q.val = t.val * 688 + r.val) :
    k0_pay1 (F := Ideal) (k0_pay5 (iblk m c 0 t) (iblk m c 1 t)) (k0_pay7 (iblk m c 0 t) (iblk m c 1 t) (iblk m c 4 t))
        (k0_pay8 (iblk m c 6 t)) (iblk m c 5 t) (iblk m c 7 t) (ix2 r j)
      = rotated (proj (hRow m c q) (gain m c) (wkr m c)) (cosAt (pos q)) (sinAt (pos q)) j := by
  have e0 : (fun k => (iblk m c 0 t : Vec Ideal S688x1024 .f32) (ix2 r k)) = hRow m c q := funext fun k => blk0 m c t r k q hq
  have e1 : (fun k => (iblk m c 1 t : Vec Ideal S1x1024 .f32) (ix2 0 k)) = gain m c := funext fun k => blk1 m c t k
  have e4 : (fun k j => (iblk m c 4 t : Vec Ideal S1024x64 .bf16) (ix2 k j)) = wkr m c := funext fun k => funext fun j => blk4 m c t k j
  refine (pay1_at (iblk m c 0 t) (iblk m c 1 t) (iblk m c 4 t) (iblk m c 5 t) (iblk m c 6 t) (iblk m c 7 t) r j).trans ?_
  rw [e0, e1, e4]
  refine rotated_eq (proj (hRow m c q) (gain m c) (wkr m c))
    (proj (hRow m c q) (gain m c) fun k j => (iblk m c 5 t : Vec Ideal S1024x64 .bf16) (ix2 k j)) (cosAt (pos q)) (sinAt (pos q))
    (fun j => (iblk m c 6 t : Vec Ideal S688x64 .f32) (ix2 r j)) (fun j => (iblk m c 7 t : Vec Ideal S688x64 .f32) (ix2 r j)) (fun j => ?_) (fun j => ?_) (fun j => ?_) j
  · unfold proj
    simp only [blk5]
    split <;> rfl
  · exact blk6 m c t r j q hq
  · exact blk7 m c t r j q hq

/-- Window 8's array after the run. -/
theorem arr8 : (dats m 0 c).arrAt 8 cfg0.N = latents m c := by
  refine (dats m 0 c).arrAt_eq_of_covers 8 _ (by decide +kernel) fun t hf y => ?_
  obtain ⟨r, j, rfl⟩ : ∃ (r : Fin 688) (j : Fin 256), y = ix2 r j := ⟨y 0, y 1, eq_ix2 y⟩
  have ht : t.val < 48 := lt_of_lt_of_eq t.isLt N_0
  have hr := r.isLt
  obtain ⟨e0, e1⟩ := (starts t).2.2.2.2.2.2.2.2.1
  have e : ((cfg0.win 8).blk t).view.emb (ix2 r j) = ix2 (⟨t.val * 688 + r.val, by omega⟩ : Fin 33024) j := by
    funext d
    apply Fin.ext
    match d with
    | ⟨0, _⟩ => change cc0_transform_8 (grid0.coords t) 0 * 688 + 1 * r.val = t.val * 688 + r.val; rw [e0]; omega
    | ⟨1, _⟩ => change cc0_transform_8 (grid0.coords t) 1 * 256 + 1 * j.val = j.val; rw [e1]; omega
  rw [e]
  rw [after0_8]
  unfold outsAt0
  dsimp only
  frame_out
  exact tile8 m c t r j ⟨t.val * 688 + r.val, by omega⟩ rfl

/-- Window 9's array after the run. -/
theorem arr9 : (dats m 0 c).arrAt 9 cfg0.N = rotaries m c := by
  refine (dats m 0 c).arrAt_eq_of_covers 9 _ (by decide +kernel) fun t hf y => ?_
  obtain ⟨r, j, rfl⟩ : ∃ (r : Fin 688) (j : Fin 64), y = ix2 r j := ⟨y 0, y 1, eq_ix2 y⟩
  have ht : t.val < 48 := lt_of_lt_of_eq t.isLt N_0
  have hr := r.isLt
  obtain ⟨e0, e1⟩ := (starts t).2.2.2.2.2.2.2.2.2.1
  have e : ((cfg0.win 9).blk t).view.emb (ix2 r j) = ix2 (⟨t.val * 688 + r.val, by omega⟩ : Fin 33024) j := by
    funext d
    apply Fin.ext
    match d with
    | ⟨0, _⟩ => change cc0_transform_9 (grid0.coords t) 0 * 688 + 1 * r.val = t.val * 688 + r.val; rw [e0]; omega
    | ⟨1, _⟩ => change cc0_transform_9 (grid0.coords t) 1 * 64 + 1 * j.val = j.val; rw [e1]; omega
  rw [e]
  rw [after0_9]
  frame_out
  exact tile9 m c t r j ⟨t.val * 688 + r.val, by omega⟩ rfl

/-- Window 10's array after the run. -/
theorem arr10 : (dats m 0 c).arrAt 10 cfg0.N = both m c := by
  refine (dats m 0 c).arrAt_eq_of_covers 10 _ (by decide +kernel) fun t hf y => ?_
  obtain ⟨r, j, rfl⟩ : ∃ (r : Fin 688) (j : Fin 384), y = ix2 r j := ⟨y 0, y 1, eq_ix2 y⟩
  have ht : t.val < 48 := lt_of_lt_of_eq t.isLt N_0
  have hr := r.isLt
  obtain ⟨e0, e1⟩ := (starts t).2.2.2.2.2.2.2.2.2.2
  have e : ((cfg0.win 10).blk t).view.emb (ix2 r j) = ix2 (⟨t.val * 688 + r.val, by omega⟩ : Fin 33024) j := by
    funext d
    apply Fin.ext
    match d with
    | ⟨0, _⟩ => change cc0_transform_10 (grid0.coords t) 0 * 688 + 1 * r.val = t.val * 688 + r.val; rw [e0]; omega
    | ⟨1, _⟩ => change cc0_transform_10 (grid0.coords t) 1 * 384 + 1 * j.val = j.val; rw [e1]; omega
  rw [e]
  rw [after0_10]
  frame_out
  refine (pieces_at _ _ _ r j).trans ?_
  show _ = joined _ _ j
  unfold joined
  split
  · exact tile8 m c t r _ ⟨t.val * 688 + r.val, by omega⟩ rfl
  · split
    · exact tile9 m c t r _ ⟨t.val * 688 + r.val, by omega⟩ rfl
    · pointwise [k0_pay4]

end Cert.KvKernel

end
-- ==== Proof.KvReference.lean ====
/- The reference of the prompt group's shared keys and values, row by row. -/
module

public import proofs.«01_k».proof.Proof.Gen.Reference4Ideal.Run
public import proofs.«01_k».proof.Proof.KvRows

@[expose] public section

set_option maxRecDepth 16384

noncomputable section

namespace Cert.KvReference

open Idealize.ShloMosaic Idealize.ShloMosaic.TcCoe Idealize.SL.Sem Cert.Reference4Ideal Cert.Reference4Ideal.Gen Cert.Rows Cert.KvRows

/-! ## The printed operations, piece by piece -/

/-- The norm over the last axis, 1024 wide. -/
def normed (x : FVec Ideal S16x2064x1024 .f32) (g : FVec Ideal S1024 .f32) : FVec Ideal S16x2064x1024 .f32 :=
  mulf (mulf x (broadcastInDim S16x2064x1024 ![0, 1, 2] bcast_S16x2064x1_S16x2064x1024_0_1_2
    (Host.rsqrt (addf (Host.divf (broadcastInDim S16x2064x1 ![0, 1] bcast_S16x2064_S16x2064x1_0_1
      (Host.reduceAdd (mulf x x) (constant S_ .f32 0x00000000#32) reducesTo_S16x2064x1024_S16x2064_d2 h_S_))
      (broadcastInDim S16x2064x1 ![] bcast_S_S16x2064x1 (constant S_ .f32 0x44800000#32)))
      (broadcastInDim S16x2064x1 ![] bcast_S_S16x2064x1 (constant S_ .f32 0x358637BD#32))))))
    (broadcastInDim S16x2064x1024 ![0, 1, 2] bcast_S1x1x1024_S16x2064x1024_0_1_2 (broadcastInDim S1x1x1024 ![2] bcast_S1024_S1x1x1024_2 g))

/-- The norm over the last axis, 256 wide. -/
def normedKv (x : FVec Ideal S16x2064x256 .f32) (g : FVec Ideal S256 .f32) : FVec Ideal S16x2064x256 .f32 :=
  mulf (mulf x (broadcastInDim S16x2064x256 ![0, 1, 2] bcast_S16x2064x1_S16x2064x256_0_1_2
    (Host.rsqrt (addf (Host.divf (broadcastInDim S16x2064x1 ![0, 1] bcast_S16x2064_S16x2064x1_0_1
      (Host.reduceAdd (mulf x x) (constant S_ .f32 0x00000000#32) reducesTo_S16x2064x256_S16x2064_d2 h_S_))
      (broadcastInDim S16x2064x1 ![] bcast_S_S16x2064x1 (constant S_ .f32 0x43800000#32)))
      (broadcastInDim S16x2064x1 ![] bcast_S_S16x2064x1 (constant S_ .f32 0x358637BD#32))))))
    (broadcastInDim S16x2064x256 ![0, 1, 2] bcast_S1x1x256_S16x2064x256_0_1_2 (broadcastInDim S1x1x256 ![2] bcast_S256_S1x1x256_2 g))

/-- The product with the latent's weights. -/
def down (x : FVec Ideal S16x2064x1024 .f32) (w : FVec Ideal S1024x256 .f32) : FVec Ideal S16x2064x256 .f32 :=
  Host.dotGeneral dot_S16x2064x1024_S1024x256_S16x2064x256_2_0_01_1_n_n none x w

/-- The product with the rotary key's weights. -/
def keyed (x : FVec Ideal S16x2064x1024 .f32) (w : FVec Ideal S1024x64 .f32) : FVec Ideal S16x2064x64 .f32 :=
  Host.dotGeneral dot_S16x2064x1024_S1024x64_S16x2064x64_2_0_01_1_n_n none x w

/-- The angles. -/
def angles : FVec Ideal S2064x32 .f32 :=
  mulf (broadcastInDim S2064x32 ![0, 1] bcast_S2064x1_S2064x32_0_1 (broadcastInDim S2064x1 ![0] bcast_S2064_S2064x1_0
      (sitofp .f32 (iotaInDim S2064 32 0))))
    (broadcastInDim S2064x32 ![0, 1] bcast_S1x32_S2064x32_0_1 (broadcastInDim S1x32 ![1] bcast_S32_S1x32_1
      (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32))))))

/-- The rotation of the two halves. -/
def turned (x : FVec Ideal S16x2064x64 .f32) : FVec Ideal S16x2064x64 .f32 :=
  concatenate S16x2064x64 2
    [⟨S16x2064x32, subf (mulf (extractStridedSlice S16x2064x32 ![0, 0, 0] x slices_S16x2064x64_S16x2064x32_0_0_0)
        (broadcastInDim S16x2064x32 ![0, 1, 2] bcast_S1x2064x32_S16x2064x32_0_1_2 (broadcastInDim S1x2064x32 ![1, 2] bcast_S2064x32_S1x2064x32_1_2 (Host.cos angles))))
      (mulf (extractStridedSlice S16x2064x32 ![0, 0, 32] x slices_S16x2064x64_S16x2064x32_0_0_32)
        (broadcastInDim S16x2064x32 ![0, 1, 2] bcast_S1x2064x32_S16x2064x32_0_1_2 (broadcastInDim S1x2064x32 ![1, 2] bcast_S2064x32_S1x2064x32_1_2 (Host.sin angles))))⟩,
     ⟨S16x2064x32, addf (mulf (extractStridedSlice S16x2064x32 ![0, 0, 32] x slices_S16x2064x64_S16x2064x32_0_0_32)
        (broadcastInDim S16x2064x32 ![0, 1, 2] bcast_S1x2064x32_S16x2064x32_0_1_2 (broadcastInDim S1x2064x32 ![1, 2] bcast_S2064x32_S1x2064x32_1_2 (Host.cos angles))))
      (mulf (extractStridedSlice S16x2064x32 ![0, 0, 0] x slices_S16x2064x64_S16x2064x32_0_0_0)
        (broadcastInDim S16x2064x32 ![0, 1, 2] bcast_S1x2064x32_S16x2064x32_0_1_2 (broadcastInDim S1x2064x32 ![1, 2] bcast_S2064x32_S1x2064x32_1_2 (Host.sin angles))))⟩]
    concatenates_S16x2064x32_S16x2064x32_S16x2064x64_d2

/-- The latent, the rotary key and zeros, side by side. -/
def beside (a : FVec Ideal S16x2064x256 .f32) (b : FVec Ideal S16x2064x64 .f32) : FVec Ideal S16x2064x384 .f32 :=
  concatenate S16x2064x384 2 [⟨S16x2064x256, a⟩, ⟨S16x2064x64, b⟩,
    ⟨S16x2064x64, broadcastInDim S16x2064x64 ![] bcast_S_S16x2064x64 (constant S_ .f32 0x00000000#32)⟩]
    concatenates_S16x2064x256_S16x2064x64_S16x2064x64_S16x2064x384_d2

/-- The norm at a place is the norm of its row. -/
theorem normed_at (x : FVec Ideal S16x2064x1024 .f32) (g : FVec Ideal S1024 .f32) (b : Fin 16) (s : Fin 2064) (l : Fin 1024) :
    normed x g (ix3 b s l) = rms (fun k => x (ix3 b s k)) (fun k => g (ix1 k)) l := by
  pointwise [normed]
  rfl
/-- The narrower norm at a place is the norm of its row. -/
theorem normedKv_at (x : FVec Ideal S16x2064x256 .f32) (g : FVec Ideal S256 .f32) (b : Fin 16) (s : Fin 2064) (l : Fin 256) :
    normedKv x g (ix3 b s l) = rms256 (fun k => x (ix3 b s k)) (fun k => g (ix1 k)) l := by
  pointwise [normedKv]
  rfl
/-- The latent's product at a place is a sum over its row. -/
theorem down_at (x : FVec Ideal S16x2064x1024 .f32) (w : FVec Ideal S1024x256 .f32) (b : Fin 16) (s : Fin 2064) (l : Fin 256) :
    down x w (ix3 b s l) = ∑ k, x (ix3 b s k) * w (ix2 k l) := by
  pointwise [down]
/-- The rotary key's product at a place is a sum over its row. -/
theorem keyed_at (x : FVec Ideal S16x2064x1024 .f32) (w : FVec Ideal S1024x64 .f32) (b : Fin 16) (s : Fin 2064) (l : Fin 64) :
    keyed x w (ix3 b s l) = ∑ k, x (ix3 b s k) * w (ix2 k l) := by
  pointwise [keyed]
/-- The angle at a position and a frequency. -/
theorem angles_at (s : Fin 2064) (f : Fin 32) : angles (ix2 s f) = angle (BitVec.ofNat 32 s.val) f.val := by
  pointwise [angles]
  rfl
/-- The rotation at a place is the rotation of its row. -/
theorem turned_at (x : FVec Ideal S16x2064x64 .f32) (b : Fin 16) (s : Fin 2064) (j : Fin 64) :
    turned x (ix3 b s j) = rotated (fun k => x (ix3 b s k)) (cosAt (BitVec.ofNat 32 s.val)) (sinAt (BitVec.ofNat 32 s.val)) j := by
  pointwise [turned]
  simp only [angles_at]
  unfold rotated
  split
  · rfl
  · have e : (⟨32 + (j.val - 32), by omega⟩ : Fin 64) = j := Fin.ext (by change 32 + (j.val - 32) = j.val; omega)
    simp only [e]
    rfl
/-- The three side by side, at a place. -/
theorem beside_at (a : FVec Ideal S16x2064x256 .f32) (b : FVec Ideal S16x2064x64 .f32) (i : Fin 16) (s : Fin 2064) (j : Fin 384) :
    beside a b (ix3 i s j) = joined (fun k => a (ix3 i s k)) (fun k => b (ix3 i s k)) j := by
  pointwise [beside]
  rfl

/-! ## The three results -/

/-- The latents of every position. -/
def lat (h : FVec Ideal S16x2064x1024 .f32) (g : FVec Ideal S1024 .f32) (w : FVec Ideal S1024x256 .f32)
    (gk : FVec Ideal S256 .f32) : FVec Ideal S16x2064x256 .f32 := normedKv (down (normed h g) w) gk
/-- The rotary keys of every position. -/
def rot (h : FVec Ideal S16x2064x1024 .f32) (g : FVec Ideal S1024 .f32) (wr : FVec Ideal S1024x64 .f32) : FVec Ideal S16x2064x64 .f32 :=
  turned (keyed (normed h g) wr)
/-- The first result. -/
def result0 (h : FVec Ideal S16x2064x1024 .f32) (g : FVec Ideal S1024 .f32) (w : FVec Ideal S1024x256 .f32)
    (gk : FVec Ideal S256 .f32) (wr : FVec Ideal S1024x64 .f32) : FVec Ideal S33024x256 .f32 := shapeCast S33024x256 (lat h g w gk) shapeCasts_S16x2064x256_S33024x256
/-- The second. -/
def result1 (h : FVec Ideal S16x2064x1024 .f32) (g : FVec Ideal S1024 .f32) (w : FVec Ideal S1024x256 .f32)
    (gk : FVec Ideal S256 .f32) (wr : FVec Ideal S1024x64 .f32) : FVec Ideal S33024x64 .f32 := shapeCast S33024x64 (rot h g wr) shapeCasts_S16x2064x64_S33024x64
/-- The third. -/
def result2 (h : FVec Ideal S16x2064x1024 .f32) (g : FVec Ideal S1024 .f32) (w : FVec Ideal S1024x256 .f32)
    (gk : FVec Ideal S256 .f32) (wr : FVec Ideal S1024x64 .f32) : FVec Ideal S33024x384 .bf16 :=
  truncf .bf16 (shapeCast S33024x384 (beside (lat h g w gk) (rot h g wr)) shapeCasts_S16x2064x384_S33024x384) bitsLt_bf16_f32

/-- The first result, at a row of the flattened positions. -/
theorem result0_at (h : FVec Ideal S16x2064x1024 .f32) (g : FVec Ideal S1024 .f32) (w : FVec Ideal S1024x256 .f32)
    (gk : FVec Ideal S256 .f32) (wr : FVec Ideal S1024x64 .f32) (r : Fin 33024) (j : Fin 256) :
    result0 h g w gk wr (ix2 r j) = latent (fun k => h (ix3 (⟨r.val / 2064, by omega⟩ : Fin 16) (⟨r.val % 2064, by omega⟩ : Fin 2064) k)) (fun k => g (ix1 k)) (fun k j => w (ix2 k j)) (fun j => gk (ix1 j)) j := by
  pointwise [result0, lat]
  simp only [normedKv_at, down_at, normed_at]
  rfl
/-- The second result, at a row of the flattened positions. -/
theorem result1_at (h : FVec Ideal S16x2064x1024 .f32) (g : FVec Ideal S1024 .f32) (w : FVec Ideal S1024x256 .f32)
    (gk : FVec Ideal S256 .f32) (wr : FVec Ideal S1024x64 .f32) (r : Fin 33024) (j : Fin 64) :
    result1 h g w gk wr (ix2 r j)
      = rotated (proj (fun k => h (ix3 (⟨r.val / 2064, by omega⟩ : Fin 16) (⟨r.val % 2064, by omega⟩ : Fin 2064) k)) (fun k => g (ix1 k)) (fun k j => wr (ix2 k j)))
          (cosAt (BitVec.ofNat 32 (r.val % 2064))) (sinAt (BitVec.ofNat 32 (r.val % 2064))) j := by
  pointwise [result1, rot]
  simp only [turned_at, keyed_at, normed_at]
  rfl
/-- The third result, at a row of the flattened positions. -/
theorem result2_at (h : FVec Ideal S16x2064x1024 .f32) (g : FVec Ideal S1024 .f32) (w : FVec Ideal S1024x256 .f32)
    (gk : FVec Ideal S256 .f32) (wr : FVec Ideal S1024x64 .f32) (r : Fin 33024) (j : Fin 384) :
    result2 h g w gk wr (ix2 r j)
      = joined (latent (fun k => h (ix3 (⟨r.val / 2064, by omega⟩ : Fin 16) (⟨r.val % 2064, by omega⟩ : Fin 2064) k)) (fun k => g (ix1 k)) (fun k j => w (ix2 k j)) (fun j => gk (ix1 j)))
        (rotated (proj (fun k => h (ix3 (⟨r.val / 2064, by omega⟩ : Fin 16) (⟨r.val % 2064, by omega⟩ : Fin 2064) k)) (fun k => g (ix1 k)) (fun k j => wr (ix2 k j)))
          (cosAt (BitVec.ofNat 32 (r.val % 2064))) (sinAt (BitVec.ofNat 32 (r.val % 2064)))) j := by
  pointwise [result2, lat, rot]
  simp only [beside_at, normedKv_at, down_at, turned_at, keyed_at, normed_at]
  rfl

/-- The reference's run, with its results as those functions of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = result0 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v63) = result1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v65) = result2 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2⟩) (Value.run (F := Ideal) m ρ)

end Cert.KvReference

end
-- ==== Proof.KvSampleKernel.lean ====
/- What the call for the sample group's shared keys and values leaves in its three results: one row for each of the 128
   sequences, its new token at position 8192. -/
module

public import proofs.«01_k».proof.Proof.Gen.Kernel5Ideal.Value
public import proofs.«01_k».proof.Proof.KvRows
public import Idealize.ShloMosaic.Lib.StableHlo.ReadAt
public import Idealize.ShloMosaic.Lib.Tactic
public import Idealize.ShloMosaic.Lib.Pipeline.ValueKit
public import proofs.«01_k».proof.Proof.Pieces

@[expose] public section

set_option maxRecDepth 16384

noncomputable section

namespace Cert.KvSampleKernel

open Idealize.ShloMosaic Idealize.ShloMosaic.TcCoe Idealize.SL.Sem Cert.Kernel5Ideal Cert.Kernel5Ideal.Gen Cert.Rows Cert.KvRows Cert.Pieces

variable (m : (ℓ : Loc nD τ sig) → Buf (Elt Ideal) ℓ) (c : Dev nD)

/-! ## The payloads, row by row -/

/-- The latent's payload at a place. -/
theorem pay6_at (x0 : Vec Ideal S128x1024 .f32) (x1 : Vec Ideal S1x1024 .f32) (x2 : Vec Ideal S1024x256 .bf16)
    (x3 : Vec Ideal S1x256 .f32) (r : Fin 128) (j : Fin 256) :
    k0_pay6 (F := Ideal) x0 x1 x2 x3 (ix2 r j)
      = latent (fun k => x0 (ix2 r k)) (fun k => x1 (ix2 0 k)) (fun k j => x2 (ix2 k j)) (fun j => x3 (ix2 0 j)) j := by
  pointwise [k0_pay6, k0_pay5]
  rfl

/-- The rotary key's payload at a place. -/
theorem pay1_at (x0 : Vec Ideal S128x1024 .f32) (x1 : Vec Ideal S1x1024 .f32) (x4 x5 : Vec Ideal S1024x64 .bf16)
    (x6 x7 : Vec Ideal S128x64 .f32) (r : Fin 128) (j : Fin 64) :
    k0_pay1 (F := Ideal) (k0_pay5 x0 x1) (k0_pay7 x0 x1 x4) (k0_pay8 x6) x5 x7 (ix2 r j)
      = proj (fun k => x0 (ix2 r k)) (fun k => x1 (ix2 0 k)) (fun k j => x4 (ix2 k j)) j * x6 (ix2 r j)
        + proj (fun k => x0 (ix2 r k)) (fun k => x1 (ix2 0 k)) (fun k j => x5 (ix2 k j)) j * x7 (ix2 r j) := by
  pointwise [k0_pay1, k0_pay7, k0_pay8, k0_pay5]
  rfl

/-- A block written in three pieces side by side, at a place. -/
theorem pieces_at (z b : Vec Ideal S128x64 .bf16) (a : Vec Ideal S128x256 .bf16) (r : Fin 128) (j : Fin 384) :
    View.canon (Val := Elt Ideal) (s := S128x384) (e := .bf16)
        [⟨Rect.unit (s := S128x384) ![0, 320] ![128, 64] inb_S128x384_S128x64_0_320, z⟩,
        ⟨Rect.unit (s := S128x384) ![0, 256] ![128, 64] inb_S128x384_S128x64_0_256, b⟩,
        ⟨Rect.unit (s := S128x384) ![0, 0] ![128, 256] inb_S128x384_S128x256_0_0, a⟩] (ix2 r j)
      = if h : j.val < 256 then a (ix2 r ⟨j.val, h⟩) else if h' : j.val - 256 < 64 then b (ix2 r ⟨j.val - 256, h'⟩)
        else z (ix2 r ⟨j.val - 320, by omega⟩) := by
  have hj := j.isLt
  have off : ∀ (o n : ℕ) (inb : ∀ a, (![0, o] : Fin 2 → ℕ) a + (![128, n] : Fin 2 → ℕ) a ≤ S128x384.size a),
      ¬(o ≤ j.val ∧ j.val < o + n) → (ix2 r j : S128x384.Idx) ∉ (Rect.unit (s := S128x384) ![0, o] ![128, n] inb).set :=
    fun o n inb h hm => h (Rect.mem_set_unit.1 hm 1)
  have at_ : ∀ (o n : ℕ) (inb : ∀ a, (![0, o] : Fin 2 → ℕ) a + (![128, n] : Fin 2 → ℕ) a ≤ S128x384.size a)
      (k : Fin n), o + k.val = j.val →
      (ix2 r j : S128x384.Idx) = (Rect.unit (s := S128x384) ![0, o] ![128, n] inb).emb (ix2 r k) := by
    intro o n inb k hk
    funext d
    apply Fin.ext
    match d with
    | ⟨0, _⟩ => show r.val = 0 + 1 * r.val; omega
    | ⟨1, _⟩ => show j.val = o + 1 * k.val; omega
  split
  · next h =>
    exact canon_third (Val := Elt Ideal) (e := .bf16)
          (Rect.unit (s := S128x384) ![0, 320] ![128, 64] inb_S128x384_S128x64_0_320)
          (Rect.unit (s := S128x384) ![0, 256] ![128, 64] inb_S128x384_S128x64_0_256)
          (Rect.unit (s := S128x384) ![0, 0] ![128, 256] inb_S128x384_S128x256_0_0) z b a (off 320 64 inb_S128x384_S128x64_0_320 (by omega))
      (off 256 64 inb_S128x384_S128x64_0_256 (by omega))
      (at_ 0 256 inb_S128x384_S128x256_0_0 ⟨j.val, h⟩ (by dsimp only; omega))
  · split
    · next h h' =>
      exact canon_second (Val := Elt Ideal) (e := .bf16)
          (Rect.unit (s := S128x384) ![0, 320] ![128, 64] inb_S128x384_S128x64_0_320)
          (Rect.unit (s := S128x384) ![0, 256] ![128, 64] inb_S128x384_S128x64_0_256)
          (Rect.unit (s := S128x384) ![0, 0] ![128, 256] inb_S128x384_S128x256_0_0) z b a (off 320 64 inb_S128x384_S128x64_0_320 (by omega))
        (at_ 256 64 inb_S128x384_S128x64_0_256 ⟨j.val - 256, h'⟩ (by dsimp only; omega))
    · next h h' =>
      exact canon_first (Val := Elt Ideal) (e := .bf16)
          (Rect.unit (s := S128x384) ![0, 320] ![128, 64] inb_S128x384_S128x64_0_320)
          (Rect.unit (s := S128x384) ![0, 256] ![128, 64] inb_S128x384_S128x64_0_256)
          (Rect.unit (s := S128x384) ![0, 0] ![128, 256] inb_S128x384_S128x256_0_0) z b a
        (at_ 320 64 inb_S128x384_S128x64_0_320 ⟨j.val - 320, by omega⟩ (by dsimp only; omega))

/-! ## The arrays the windows read -/

/-- The residual's row. -/
def hRow (r : Fin 128) (k : Fin 1024) : EReal := m ((c : Thread nD τ).loc main_arg0) (ix3 r (0 : Fin 1) k)
/-- Its position, as the host's word. -/
def pos (r : Fin 128) : BitVec 32 := 8192#32
/-- The gain of the first norm. -/
def gain (k : Fin 1024) : EReal := m ((c : Thread nD τ).loc main_arg1) (ix1 k)
/-- The latent's weights. -/
def wkv (k : Fin 1024) (j : Fin 256) : EReal := m ((c : Thread nD τ).loc main_arg2) (ix2 k j)
/-- The gain of the latent's norm. -/
def gainKv (j : Fin 256) : EReal := m ((c : Thread nD τ).loc main_arg3) (ix1 j)
/-- The rotary key's weights. -/
def wkr (k : Fin 1024) (j : Fin 64) : EReal := m ((c : Thread nD τ).loc main_arg4) (ix2 k j)

/-- The host's reshape of the rows, at an entry. -/
theorem V_h (a : Fin 128) (l : Fin 1024) : V m c main_v18 (ix2 a l) = hRow m c a l := by
  unfold V hRow
  after_reads_at
/-- The host's row of the first gain, at an entry. -/
theorem V_gain (a : Fin 1) (l : Fin 1024) : V m c main_v19 (ix2 a l) = gain m c l := by
  unfold V gain
  after_reads_at
/-- The host's cast of the latent's weights, at an entry. -/
theorem V_wkv (a : Fin 1024) (l : Fin 256) : V m c main_v20 (ix2 a l) = wkv m c a l := by
  unfold V wkv
  after_reads_at
/-- The host's row of the latent's gain, at an entry. -/
theorem V_gainKv (a : Fin 1) (l : Fin 256) : V m c main_v21 (ix2 a l) = gainKv m c l := by
  unfold V gainKv
  after_reads_at
/-- The host's cast of the rotary key's weights, at an entry. -/
theorem V_wkr (a : Fin 1024) (l : Fin 64) : V m c main_v22 (ix2 a l) = wkr m c a l := by
  unfold V wkr
  after_reads_at
/-- The host's copy of those weights with the halves exchanged, at an entry. -/
theorem V_swapped (a : Fin 1024) (l : Fin 64) : V m c main_v28 (ix2 a l)
    = if h : l.val < 32 then wkr m c a ⟨32 + l.val, by omega⟩ else wkr m c a ⟨l.val - 32, by omega⟩ := by
  unfold V wkr
  after_reads_at
  split
  · after_reads_at
  · after_reads_at
/-- The host's table of cosines, at an entry. -/
theorem V_cos (a : Fin 128) (l : Fin 64) : V m c main_v15 (ix2 a l)
    = if h : l.val < 32 then cosAt 8192#32 ⟨l.val, h⟩ else cosAt 8192#32 ⟨l.val - 32, by omega⟩ := by
  unfold V cosAt angle
  after_reads_at
/-- The host's table of signed sines, at an entry. -/
theorem V_sin (a : Fin 128) (l : Fin 64) : V m c main_v17 (ix2 a l)
    = if h : l.val < 32 then -sinAt 8192#32 ⟨l.val, h⟩ else sinAt 8192#32 ⟨l.val - 32, by omega⟩ := by
  unfold V sinAt angle
  after_reads_at

/-- Where each window's block starts at grid point `t` (in blocks). -/
theorem starts : ∀ t : Fin cfg0.N,
    (cc0_transform_0 (grid0.coords t) 0 = t.val ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = 0)
    ∧ (cc0_transform_5 (grid0.coords t) 0 = 0 ∧ cc0_transform_5 (grid0.coords t) 1 = 0)
    ∧ (cc0_transform_6 (grid0.coords t) 0 = 0 ∧ cc0_transform_6 (grid0.coords t) 1 = 0)
    ∧ (cc0_transform_7 (grid0.coords t) 0 = 0 ∧ cc0_transform_7 (grid0.coords t) 1 = 0)
    ∧ (cc0_transform_8 (grid0.coords t) 0 = t.val ∧ cc0_transform_8 (grid0.coords t) 1 = 0)
    ∧ (cc0_transform_9 (grid0.coords t) 0 = t.val ∧ cc0_transform_9 (grid0.coords t) 1 = 0)
    ∧ (cc0_transform_10 (grid0.coords t) 0 = t.val ∧ cc0_transform_10 (grid0.coords t) 1 = 0) :=
  (by decide +kernel : ∀ t : Fin grid0.N, _)

/-- Row `r` of the residual's block at point `t` is row `128 * t + r` of the residual. -/
theorem blk0 (t : Fin cfg0.N) (r : Fin 128) (l : Fin 1024) (q : Fin 128) (hq : q.val = t.val * 128 + r.val) :
    (iblk m c 0 t : Vec Ideal S128x1024 .f32) (ix2 r l) = hRow m c q l := by
  obtain ⟨e0, e1⟩ := (starts t).1
  refine Eq.trans ?_ (V_h m c q l)
  unfold iblk
  rw [View.read_apply]
  show V m c main_v18 _ = _
  congr 1
  funext d
  apply Fin.ext
  match d with
  | ⟨0, _⟩ => change cc0_transform_0 (grid0.coords t) 0 * 128 + 1 * r.val = q.val; rw [e0]; omega
  | ⟨1, _⟩ => change cc0_transform_0 (grid0.coords t) 1 * 1024 + 1 * l.val = l.val; rw [e1]; omega

/-- The gain's block is the whole row. -/
theorem blk1 (t : Fin cfg0.N) (l : Fin 1024) :
    (iblk m c 1 t : Vec Ideal S1x1024 .f32) (ix2 0 l) = gain m c l := by
  obtain ⟨e0, e1⟩ := (starts t).2.1
  refine Eq.trans ?_ (V_gain m c 0 l)
  unfold iblk
  rw [View.read_apply]
  show V m c main_v19 _ = _
  congr 1
  funext d
  apply Fin.ext
  match d with
  | ⟨0, _⟩ => change cc0_transform_1 (grid0.coords t) 0 * 1 + 1 * 0 = 0; rw [e0]
  | ⟨1, _⟩ => change cc0_transform_1 (grid0.coords t) 1 * 1024 + 1 * l.val = l.val; rw [e1]; omega

/-- The latent's weights' block is the whole matrix. -/
theorem blk2 (t : Fin cfg0.N) (k : Fin 1024) (l : Fin 256) :
    (iblk m c 2 t : Vec Ideal S1024x256 .bf16) (ix2 k l) = wkv m c k l := by
  obtain ⟨e0, e1⟩ := (starts t).2.2.1
  refine Eq.trans ?_ (V_wkv m c k l)
  unfold iblk
  rw [View.read_apply]
  show V m c main_v20 _ = _
  congr 1
  funext d
  apply Fin.ext
  match d with
  | ⟨0, _⟩ => change cc0_transform_2 (grid0.coords t) 0 * 1024 + 1 * k.val = k.val; rw [e0]; omega
  | ⟨1, _⟩ => change cc0_transform_2 (grid0.coords t) 1 * 256 + 1 * l.val = l.val; rw [e1]; omega

/-- The second gain's block is the whole row. -/
theorem blk3 (t : Fin cfg0.N) (l : Fin 256) :
    (iblk m c 3 t : Vec Ideal S1x256 .f32) (ix2 0 l) = gainKv m c l := by
  obtain ⟨e0, e1⟩ := (starts t).2.2.2.1
  refine Eq.trans ?_ (V_gainKv m c 0 l)
  unfold iblk
  rw [View.read_apply]
  show V m c main_v21 _ = _
  congr 1
  funext d
  apply Fin.ext
  match d with
  | ⟨0, _⟩ => change cc0_transform_3 (grid0.coords t) 0 * 1 + 1 * 0 = 0; rw [e0]
  | ⟨1, _⟩ => change cc0_transform_3 (grid0.coords t) 1 * 256 + 1 * l.val = l.val; rw [e1]; omega

/-- The rotary weights' block is the whole matrix. -/
theorem blk4 (t : Fin cfg0.N) (k : Fin 1024) (l : Fin 64) :
    (iblk m c 4 t : Vec Ideal S1024x64 .bf16) (ix2 k l) = wkr m c k l := by
  obtain ⟨e0, e1⟩ := (starts t).2.2.2.2.1
  refine Eq.trans ?_ (V_wkr m c k l)
  unfold iblk
  rw [View.read_apply]
  show V m c main_v22 _ = _
  congr 1
  funext d
  apply Fin.ext
  match d with
  | ⟨0, _⟩ => change cc0_transform_4 (grid0.coords t) 0 * 1024 + 1 * k.val = k.val; rw [e0]; omega
  | ⟨1, _⟩ => change cc0_transform_4 (grid0.coords t) 1 * 64 + 1 * l.val = l.val; rw [e1]; omega

/-- The other rotary weights' block is that matrix with its columns' halves exchanged. -/
theorem blk5 (t : Fin cfg0.N) (k : Fin 1024) (l : Fin 64) :
    (iblk m c 5 t : Vec Ideal S1024x64 .bf16) (ix2 k l) = if h : l.val < 32 then wkr m c k ⟨32 + l.val, by omega⟩ else wkr m c k ⟨l.val - 32, by omega⟩ := by
  obtain ⟨e0, e1⟩ := (starts t).2.2.2.2.2.1
  refine Eq.trans ?_ (V_swapped m c k l)
  unfold iblk
  rw [View.read_apply]
  show V m c main_v28 _ = _
  congr 1
  funext d
  apply Fin.ext
  match d with
  | ⟨0, _⟩ => change cc0_transform_5 (grid0.coords t) 0 * 1024 + 1 * k.val = k.val; rw [e0]; omega
  | ⟨1, _⟩ => change cc0_transform_5 (grid0.coords t) 1 * 64 + 1 * l.val = l.val; rw [e1]; omega

/-- The block of cosines at point `t` holds those of its rows' positions. -/
theorem blk6 (t : Fin cfg0.N) (r : Fin 128) (l : Fin 64) :
    (iblk m c 6 t : Vec Ideal S128x64 .f32) (ix2 r l) = if h : l.val < 32 then cosAt (pos r) ⟨l.val, h⟩ else cosAt (pos r) ⟨l.val - 32, by omega⟩ := by
  obtain ⟨e0, e1⟩ := (starts t).2.2.2.2.2.2.1
  refine Eq.trans ?_ (V_cos m c r l)
  unfold iblk
  rw [View.read_apply]
  show V m c main_v15 _ = _
  congr 1
  funext d
  apply Fin.ext
  match d with
  | ⟨0, _⟩ => change cc0_transform_6 (grid0.coords t) 0 * 128 + 1 * r.val = r.val; rw [e0]; omega
  | ⟨1, _⟩ => change cc0_transform_6 (grid0.coords t) 1 * 64 + 1 * l.val = l.val; rw [e1]; omega

/-- The block of sines at point `t` holds those of its rows' positions. -/
theorem blk7 (t : Fin cfg0.N) (r : Fin 128) (l : Fin 64) :
    (iblk m c 7 t : Vec Ideal S128x64 .f32) (ix2 r l) = if h : l.val < 32 then -sinAt (pos r) ⟨l.val, h⟩ else sinAt (pos r) ⟨l.val - 32, by omega⟩ := by
  obtain ⟨e0, e1⟩ := (starts t).2.2.2.2.2.2.2.1
  refine Eq.trans ?_ (V_sin m c r l)
  unfold iblk
  rw [View.read_apply]
  show V m c main_v17 _ = _
  congr 1
  funext d
  apply Fin.ext
  match d with
  | ⟨0, _⟩ => change cc0_transform_7 (grid0.coords t) 0 * 128 + 1 * r.val = r.val; rw [e0]; omega
  | ⟨1, _⟩ => change cc0_transform_7 (grid0.coords t) 1 * 64 + 1 * l.val = l.val; rw [e1]; omega

/-! ## The three results, row by row -/

/-- The latent's array. -/
def latents : FVec Ideal S128x256 .f32 := fun i => latent (hRow m c (i 0)) (gain m c) (wkv m c) (gainKv m c) (i 1)
/-- The rotary key's array. -/
def rotaries : FVec Ideal S128x64 .f32 := fun i => rotated (proj (hRow m c (i 0)) (gain m c) (wkr m c)) (cosAt (pos (i 0))) (sinAt (pos (i 0))) (i 1)
/-- The two and zeros, side by side. -/
def both : FVec Ideal S128x384 .bf16 := fun i => joined (latent (hRow m c (i 0)) (gain m c) (wkv m c) (gainKv m c)) (rotated (proj (hRow m c (i 0)) (gain m c) (wkr m c)) (cosAt (pos (i 0))) (sinAt (pos (i 0)))) (i 1)

/-- The latent's payload at point `t`. -/
theorem tile8 (t : Fin cfg0.N) (r : Fin 128) (j : Fin 256) (q : Fin 128) (hq : q.val = t.val * 128 + r.val) :
    k0_pay6 (F := Ideal) (iblk m c 0 t) (iblk m c 1 t) (iblk m c 2 t) (iblk m c 3 t) (ix2 r j)
      = latent (hRow m c q) (gain m c) (wkv m c) (gainKv m c) j := by
  rw [pay6_at]
  simp only [blk0 m c t r _ q hq, blk1, blk2, blk3]

/-- The rotary key's payload at point `t`. -/
theorem tile9 (t : Fin cfg0.N) (r : Fin 128) (j : Fin 64) (q : Fin 128) (hq : q.val = t.val * 128 + r.val) :
    k0_pay1 (F := Ideal) (k0_pay5 (iblk m c 0 t) (iblk m c 1 t)) (k0_pay7 (iblk m c 0 t) (iblk m c 1 t) (iblk m c 4 t))
        (k0_pay8 (iblk m c 6 t)) (iblk m c 5 t) (iblk m c 7 t) (ix2 r j)
      = rotated (proj (hRow m c q) (gain m c) (wkr m c)) (cosAt (pos q)) (sinAt (pos q)) j := by
  have e0 : (fun k => (iblk m c 0 t : Vec Ideal S128x1024 .f32) (ix2 r k)) = hRow m c q := funext fun k => blk0 m c t r k q hq
  have e1 : (fun k => (iblk m c 1 t : Vec Ideal S1x1024 .f32) (ix2 0 k)) = gain m c := funext fun k => blk1 m c t k
  have e4 : (fun k j => (iblk m c 4 t : Vec Ideal S1024x64 .bf16) (ix2 k j)) = wkr m c := funext fun k => funext fun j => blk4 m c t k j
  refine (pay1_at (iblk m c 0 t) (iblk m c 1 t) (iblk m c 4 t) (iblk m c 5 t) (iblk m c 6 t) (iblk m c 7 t) r j).trans ?_
  rw [e0, e1, e4]
  refine rotated_eq (proj (hRow m c q) (gain m c) (wkr m c))
    (proj (hRow m c q) (gain m c) fun k j => (iblk m c 5 t : Vec Ideal S1024x64 .bf16) (ix2 k j)) (cosAt (pos q)) (sinAt (pos q))
    (fun j => (iblk m c 6 t : Vec Ideal S128x64 .f32) (ix2 r j)) (fun j => (iblk m c 7 t : Vec Ideal S128x64 .f32) (ix2 r j)) (fun j => ?_) (fun j => ?_) (fun j => ?_) j
  · unfold proj
    simp only [blk5]
    split <;> rfl
  · exact blk6 m c t r j
  · exact blk7 m c t r j

/-- Window 8's array after the run. -/
theorem arr8 : (dats m 0 c).arrAt 8 cfg0.N = latents m c := by
  refine (dats m 0 c).arrAt_eq_of_covers 8 _ (by decide +kernel) fun t hf y => ?_
  obtain ⟨r, j, rfl⟩ : ∃ (r : Fin 128) (j : Fin 256), y = ix2 r j := ⟨y 0, y 1, eq_ix2 y⟩
  have ht : t.val < 1 := lt_of_lt_of_eq t.isLt N_0
  have hr := r.isLt
  obtain ⟨e0, e1⟩ := (starts t).2.2.2.2.2.2.2.2.1
  have e : ((cfg0.win 8).blk t).view.emb (ix2 r j) = ix2 (⟨t.val * 128 + r.val, by omega⟩ : Fin 128) j := by
    funext d
    apply Fin.ext
    match d with
    | ⟨0, _⟩ => change cc0_transform_8 (grid0.coords t) 0 * 128 + 1 * r.val = t.val * 128 + r.val; rw [e0]; omega
    | ⟨1, _⟩ => change cc0_transform_8 (grid0.coords t) 1 * 256 + 1 * j.val = j.val; rw [e1]; omega
  rw [e]
  rw [after0_8]
  unfold outsAt0
  dsimp only
  frame_out
  exact tile8 m c t r j ⟨t.val * 128 + r.val, by omega⟩ rfl

/-- Window 9's array after the run. -/
theorem arr9 : (dats m 0 c).arrAt 9 cfg0.N = rotaries m c := by
  refine (dats m 0 c).arrAt_eq_of_covers 9 _ (by decide +kernel) fun t hf y => ?_
  obtain ⟨r, j, rfl⟩ : ∃ (r : Fin 128) (j : Fin 64), y = ix2 r j := ⟨y 0, y 1, eq_ix2 y⟩
  have ht : t.val < 1 := lt_of_lt_of_eq t.isLt N_0
  have hr := r.isLt
  obtain ⟨e0, e1⟩ := (starts t).2.2.2.2.2.2.2.2.2.1
  have e : ((cfg0.win 9).blk t).view.emb (ix2 r j) = ix2 (⟨t.val * 128 + r.val, by omega⟩ : Fin 128) j := by
    funext d
    apply Fin.ext
    match d with
    | ⟨0, _⟩ => change cc0_transform_9 (grid0.coords t) 0 * 128 + 1 * r.val = t.val * 128 + r.val; rw [e0]; omega
    | ⟨1, _⟩ => change cc0_transform_9 (grid0.coords t) 1 * 64 + 1 * j.val = j.val; rw [e1]; omega
  rw [e]
  rw [after0_9]
  frame_out
  exact tile9 m c t r j ⟨t.val * 128 + r.val, by omega⟩ rfl

/-- Window 10's array after the run. -/
theorem arr10 : (dats m 0 c).arrAt 10 cfg0.N = both m c := by
  refine (dats m 0 c).arrAt_eq_of_covers 10 _ (by decide +kernel) fun t hf y => ?_
  obtain ⟨r, j, rfl⟩ : ∃ (r : Fin 128) (j : Fin 384), y = ix2 r j := ⟨y 0, y 1, eq_ix2 y⟩
  have ht : t.val < 1 := lt_of_lt_of_eq t.isLt N_0
  have hr := r.isLt
  obtain ⟨e0, e1⟩ := (starts t).2.2.2.2.2.2.2.2.2.2
  have e : ((cfg0.win 10).blk t).view.emb (ix2 r j) = ix2 (⟨t.val * 128 + r.val, by omega⟩ : Fin 128) j := by
    funext d
    apply Fin.ext
    match d with
    | ⟨0, _⟩ => change cc0_transform_10 (grid0.coords t) 0 * 128 + 1 * r.val = t.val * 128 + r.val; rw [e0]; omega
    | ⟨1, _⟩ => change cc0_transform_10 (grid0.coords t) 1 * 384 + 1 * j.val = j.val; rw [e1]; omega
  rw [e]
  rw [after0_10]
  frame_out
  refine (pieces_at _ _ _ r j).trans ?_
  show _ = joined _ _ j
  unfold joined
  split
  · exact tile8 m c t r _ ⟨t.val * 128 + r.val, by omega⟩ rfl
  · split
    · exact tile9 m c t r _ ⟨t.val * 128 + r.val, by omega⟩ rfl
    · pointwise [k0_pay4]

end Cert.KvSampleKernel

end
-- ==== Proof.KvSampleReference.lean ====
/- The reference of the sample group's shared keys and values, row by row. -/
module

public import proofs.«01_k».proof.Proof.Gen.Reference5Ideal.Run
public import proofs.«01_k».proof.Proof.KvRows

@[expose] public section

set_option maxRecDepth 16384

noncomputable section

namespace Cert.KvSampleReference

open Idealize.ShloMosaic Idealize.ShloMosaic.TcCoe Idealize.SL.Sem Cert.Reference5Ideal Cert.Reference5Ideal.Gen Cert.Rows Cert.KvRows

/-! ## The printed operations, piece by piece -/

/-- The norm over the last axis, 1024 wide. -/
def normed (x : FVec Ideal S128x1x1024 .f32) (g : FVec Ideal S1024 .f32) : FVec Ideal S128x1x1024 .f32 :=
  mulf (mulf x (broadcastInDim S128x1x1024 ![0, 1, 2] bcast_S128x1x1_S128x1x1024_0_1_2
    (Host.rsqrt (addf (Host.divf (broadcastInDim S128x1x1 ![0, 1] bcast_S128x1_S128x1x1_0_1
      (Host.reduceAdd (mulf x x) (constant S_ .f32 0x00000000#32) reducesTo_S128x1x1024_S128x1_d2 h_S_))
      (broadcastInDim S128x1x1 ![] bcast_S_S128x1x1 (constant S_ .f32 0x44800000#32)))
      (broadcastInDim S128x1x1 ![] bcast_S_S128x1x1 (constant S_ .f32 0x358637BD#32))))))
    (broadcastInDim S128x1x1024 ![0, 1, 2] bcast_S1x1x1024_S128x1x1024_0_1_2 (broadcastInDim S1x1x1024 ![2] bcast_S1024_S1x1x1024_2 g))

/-- The norm over the last axis, 256 wide. -/
def normedKv (x : FVec Ideal S128x1x256 .f32) (g : FVec Ideal S256 .f32) : FVec Ideal S128x1x256 .f32 :=
  mulf (mulf x (broadcastInDim S128x1x256 ![0, 1, 2] bcast_S128x1x1_S128x1x256_0_1_2
    (Host.rsqrt (addf (Host.divf (broadcastInDim S128x1x1 ![0, 1] bcast_S128x1_S128x1x1_0_1
      (Host.reduceAdd (mulf x x) (constant S_ .f32 0x00000000#32) reducesTo_S128x1x256_S128x1_d2 h_S_))
      (broadcastInDim S128x1x1 ![] bcast_S_S128x1x1 (constant S_ .f32 0x43800000#32)))
      (broadcastInDim S128x1x1 ![] bcast_S_S128x1x1 (constant S_ .f32 0x358637BD#32))))))
    (broadcastInDim S128x1x256 ![0, 1, 2] bcast_S1x1x256_S128x1x256_0_1_2 (broadcastInDim S1x1x256 ![2] bcast_S256_S1x1x256_2 g))

/-- The product with the latent's weights. -/
def down (x : FVec Ideal S128x1x1024 .f32) (w : FVec Ideal S1024x256 .f32) : FVec Ideal S128x1x256 .f32 :=
  Host.dotGeneral dot_S128x1x1024_S1024x256_S128x1x256_2_0_01_1_n_n none x w

/-- The product with the rotary key's weights. -/
def keyed (x : FVec Ideal S128x1x1024 .f32) (w : FVec Ideal S1024x64 .f32) : FVec Ideal S128x1x64 .f32 :=
  Host.dotGeneral dot_S128x1x1024_S1024x64_S128x1x64_2_0_01_1_n_n none x w

/-- The angles. -/
def angles : FVec Ideal S1x32 .f32 :=
  mulf (broadcastInDim S1x32 ![0, 1] bcast_S1x1_S1x32_0_1 (broadcastInDim S1x1 ![0] bcast_S1_S1x1_0
      (sitofp .f32 (addi (broadcastInDim S1 ![] bcast_S_S1 (constantI S_ 32 8192#32)) (iotaInDim S1 32 0)))))
    (broadcastInDim S1x32 ![1] bcast_S32_S1x32_1 (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32)))))

/-- The rotation of the two halves. -/
def turned (x : FVec Ideal S128x1x64 .f32) : FVec Ideal S128x1x64 .f32 :=
  concatenate S128x1x64 2
    [⟨S128x1x32, subf (mulf (extractStridedSlice S128x1x32 ![0, 0, 0] x slices_S128x1x64_S128x1x32_0_0_0)
        (broadcastInDim S128x1x32 ![0, 1, 2] bcast_S1x1x32_S128x1x32_0_1_2 (broadcastInDim S1x1x32 ![1, 2] bcast_S1x32_S1x1x32_1_2 (Host.cos angles))))
      (mulf (extractStridedSlice S128x1x32 ![0, 0, 32] x slices_S128x1x64_S128x1x32_0_0_32)
        (broadcastInDim S128x1x32 ![0, 1, 2] bcast_S1x1x32_S128x1x32_0_1_2 (broadcastInDim S1x1x32 ![1, 2] bcast_S1x32_S1x1x32_1_2 (Host.sin angles))))⟩,
     ⟨S128x1x32, addf (mulf (extractStridedSlice S128x1x32 ![0, 0, 32] x slices_S128x1x64_S128x1x32_0_0_32)
        (broadcastInDim S128x1x32 ![0, 1, 2] bcast_S1x1x32_S128x1x32_0_1_2 (broadcastInDim S1x1x32 ![1, 2] bcast_S1x32_S1x1x32_1_2 (Host.cos angles))))
      (mulf (extractStridedSlice S128x1x32 ![0, 0, 0] x slices_S128x1x64_S128x1x32_0_0_0)
        (broadcastInDim S128x1x32 ![0, 1, 2] bcast_S1x1x32_S128x1x32_0_1_2 (broadcastInDim S1x1x32 ![1, 2] bcast_S1x32_S1x1x32_1_2 (Host.sin angles))))⟩]
    concatenates_S128x1x32_S128x1x32_S128x1x64_d2

/-- The latent, the rotary key and zeros, side by side. -/
def beside (a : FVec Ideal S128x1x256 .f32) (b : FVec Ideal S128x1x64 .f32) : FVec Ideal S128x1x384 .f32 :=
  concatenate S128x1x384 2 [⟨S128x1x256, a⟩, ⟨S128x1x64, b⟩,
    ⟨S128x1x64, broadcastInDim S128x1x64 ![] bcast_S_S128x1x64 (constant S_ .f32 0x00000000#32)⟩]
    concatenates_S128x1x256_S128x1x64_S128x1x64_S128x1x384_d2

/-- The norm at a place is the norm of its row. -/
theorem normed_at (x : FVec Ideal S128x1x1024 .f32) (g : FVec Ideal S1024 .f32) (b : Fin 128) (s : Fin 1) (l : Fin 1024) :
    normed x g (ix3 b s l) = rms (fun k => x (ix3 b s k)) (fun k => g (ix1 k)) l := by
  obtain rfl : s = 0 := Subsingleton.elim _ _
  pointwise [normed]
  rfl
/-- The narrower norm at a place is the norm of its row. -/
theorem normedKv_at (x : FVec Ideal S128x1x256 .f32) (g : FVec Ideal S256 .f32) (b : Fin 128) (s : Fin 1) (l : Fin 256) :
    normedKv x g (ix3 b s l) = rms256 (fun k => x (ix3 b s k)) (fun k => g (ix1 k)) l := by
  obtain rfl : s = 0 := Subsingleton.elim _ _
  pointwise [normedKv]
  rfl
/-- The latent's product at a place is a sum over its row. -/
theorem down_at (x : FVec Ideal S128x1x1024 .f32) (w : FVec Ideal S1024x256 .f32) (b : Fin 128) (s : Fin 1) (l : Fin 256) :
    down x w (ix3 b s l) = ∑ k, x (ix3 b s k) * w (ix2 k l) := by
  obtain rfl : s = 0 := Subsingleton.elim _ _
  pointwise [down]
/-- The rotary key's product at a place is a sum over its row. -/
theorem keyed_at (x : FVec Ideal S128x1x1024 .f32) (w : FVec Ideal S1024x64 .f32) (b : Fin 128) (s : Fin 1) (l : Fin 64) :
    keyed x w (ix3 b s l) = ∑ k, x (ix3 b s k) * w (ix2 k l) := by
  obtain rfl : s = 0 := Subsingleton.elim _ _
  pointwise [keyed]
/-- The angle at a position and a frequency. -/
theorem angles_at (s : Fin 1) (f : Fin 32) : angles (ix2 s f) = angle (8192#32 : BitVec 32) f.val := by
  obtain rfl : s = 0 := Subsingleton.elim _ _
  pointwise [angles]
  rfl
/-- The rotation at a place is the rotation of its row. -/
theorem turned_at (x : FVec Ideal S128x1x64 .f32) (b : Fin 128) (s : Fin 1) (j : Fin 64) :
    turned x (ix3 b s j) = rotated (fun k => x (ix3 b s k)) (cosAt (8192#32 : BitVec 32)) (sinAt (8192#32 : BitVec 32)) j := by
  obtain rfl : s = 0 := Subsingleton.elim _ _
  pointwise [turned]
  simp only [angles_at]
  unfold rotated
  split
  · rfl
  · have e : (⟨32 + (j.val - 32), by omega⟩ : Fin 64) = j := Fin.ext (by change 32 + (j.val - 32) = j.val; omega)
    simp only [e]
    rfl
/-- The three side by side, at a place. -/
theorem beside_at (a : FVec Ideal S128x1x256 .f32) (b : FVec Ideal S128x1x64 .f32) (i : Fin 128) (s : Fin 1) (j : Fin 384) :
    beside a b (ix3 i s j) = joined (fun k => a (ix3 i s k)) (fun k => b (ix3 i s k)) j := by
  obtain rfl : s = 0 := Subsingleton.elim _ _
  pointwise [beside]
  rfl

/-! ## The three results -/

/-- The latents of every position. -/
def lat (h : FVec Ideal S128x1x1024 .f32) (g : FVec Ideal S1024 .f32) (w : FVec Ideal S1024x256 .f32)
    (gk : FVec Ideal S256 .f32) : FVec Ideal S128x1x256 .f32 := normedKv (down (normed h g) w) gk
/-- The rotary keys of every position. -/
def rot (h : FVec Ideal S128x1x1024 .f32) (g : FVec Ideal S1024 .f32) (wr : FVec Ideal S1024x64 .f32) : FVec Ideal S128x1x64 .f32 :=
  turned (keyed (normed h g) wr)
/-- The first result. -/
def result0 (h : FVec Ideal S128x1x1024 .f32) (g : FVec Ideal S1024 .f32) (w : FVec Ideal S1024x256 .f32)
    (gk : FVec Ideal S256 .f32) (wr : FVec Ideal S1024x64 .f32) : FVec Ideal S128x256 .f32 := shapeCast S128x256 (lat h g w gk) shapeCasts_S128x1x256_S128x256
/-- The second. -/
def result1 (h : FVec Ideal S128x1x1024 .f32) (g : FVec Ideal S1024 .f32) (w : FVec Ideal S1024x256 .f32)
    (gk : FVec Ideal S256 .f32) (wr : FVec Ideal S1024x64 .f32) : FVec Ideal S128x64 .f32 := shapeCast S128x64 (rot h g wr) shapeCasts_S128x1x64_S128x64
/-- The third. -/
def result2 (h : FVec Ideal S128x1x1024 .f32) (g : FVec Ideal S1024 .f32) (w : FVec Ideal S1024x256 .f32)
    (gk : FVec Ideal S256 .f32) (wr : FVec Ideal S1024x64 .f32) : FVec Ideal S128x384 .bf16 :=
  truncf .bf16 (shapeCast S128x384 (beside (lat h g w gk) (rot h g wr)) shapeCasts_S128x1x384_S128x384) bitsLt_bf16_f32

/-- The first result, at a row of the flattened positions. -/
theorem result0_at (h : FVec Ideal S128x1x1024 .f32) (g : FVec Ideal S1024 .f32) (w : FVec Ideal S1024x256 .f32)
    (gk : FVec Ideal S256 .f32) (wr : FVec Ideal S1024x64 .f32) (r : Fin 128) (j : Fin 256) :
    result0 h g w gk wr (ix2 r j) = latent (fun k => h (ix3 r (0 : Fin 1) k)) (fun k => g (ix1 k)) (fun k j => w (ix2 k j)) (fun j => gk (ix1 j)) j := by
  pointwise [result0, lat]
  simp only [normedKv_at, down_at, normed_at]
  rfl
/-- The second result, at a row of the flattened positions. -/
theorem result1_at (h : FVec Ideal S128x1x1024 .f32) (g : FVec Ideal S1024 .f32) (w : FVec Ideal S1024x256 .f32)
    (gk : FVec Ideal S256 .f32) (wr : FVec Ideal S1024x64 .f32) (r : Fin 128) (j : Fin 64) :
    result1 h g w gk wr (ix2 r j)
      = rotated (proj (fun k => h (ix3 r (0 : Fin 1) k)) (fun k => g (ix1 k)) (fun k j => wr (ix2 k j)))
          (cosAt 8192#32) (sinAt 8192#32) j := by
  pointwise [result1, rot]
  simp only [turned_at, keyed_at, normed_at]
  rfl
/-- The third result, at a row of the flattened positions. -/
theorem result2_at (h : FVec Ideal S128x1x1024 .f32) (g : FVec Ideal S1024 .f32) (w : FVec Ideal S1024x256 .f32)
    (gk : FVec Ideal S256 .f32) (wr : FVec Ideal S1024x64 .f32) (r : Fin 128) (j : Fin 384) :
    result2 h g w gk wr (ix2 r j)
      = joined (latent (fun k => h (ix3 r (0 : Fin 1) k)) (fun k => g (ix1 k)) (fun k j => w (ix2 k j)) (fun j => gk (ix1 j)))
        (rotated (proj (fun k => h (ix3 r (0 : Fin 1) k)) (fun k => g (ix1 k)) (fun k j => wr (ix2 k j)))
          (cosAt 8192#32) (sinAt 8192#32)) j := by
  pointwise [result2, lat, rot]
  simp only [beside_at, normedKv_at, down_at, turned_at, keyed_at, normed_at]
  rfl

/-- The reference's run, with its results as those functions of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = result0 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v64) = result1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v66) = result2 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1, (h c).2.2.1, (h c).2.2.2⟩) (Value.run (F := Ideal) m ρ)

end Cert.KvSampleReference

end
-- ==== Proof.ProjRows.lean ====
/- The projection call, entry by entry: the four products of a normed row, and the gates the call applies to them as it
   computes them. -/
module

public import proofs.«01_k».proof.Proof.Rows
public import Idealize.ShloMosaic.Lib.Pipeline.ReadBack

@[expose] public section

noncomputable section

namespace Cert.ProjRows

open Idealize.ShloMosaic

/-- Column `c` of the product of the row `x` with the weights `w`. -/
def lin (x : Fin 1024 → EReal) (w : Fin 1024 → Fin 1024 → EReal) (c : Fin 1024) : EReal := ∑ k, x k * w k c

/-- The gate of the query and of the output, through the tangent of half its argument. -/
def halfGate (y : EReal) : EReal :=
  Ideal.ofBits .f32 0x3F000000#32 * y
    + Ideal.ofBits .f32 0x3F000000#32 * y * Ideal.tanh (Ideal.ofBits .f32 0x3F000000#32 * y)

/-- The exponential of minus the magnitude, in base two: `b` is the base change. -/
def small (b z : EReal) : EReal := Ideal.exp2 (0 - max (z * b) (-(z * b)))

/-- The logarithm of the decay before the lower bound enters, `a` being the logarithm of what the bound leaves. -/
def logPart (b a z : EReal) : EReal := a + (min z 0 - Ideal.log (1 + small b z))

/-- The logarithm of the decay, `d` being the logarithm of the lower bound. -/
def logDecay (b a d z : EReal) : EReal := max (logPart b a z) d + Ideal.log (1 + small b (logPart b a z - d))

/-- The gate of the key, `o` being the lower bound. -/
def keyGate (b o z : EReal) : EReal := (1 - o) * Ideal.div (if 0 ≤ z then small b z else 1) (1 + small b z)

/-- What a buffer holds at a covered place when every piece written is a block of one function: that function. -/
theorem canon_pieces {Val : EltTy → Type} [∀ e, Nonempty (Val e)] {s : Shape} {e : EltTy} (G : s.Idx → Val e)
    (L : List (View.Piece Val s e)) (y : s.Idx) (hc : ∃ p ∈ L, y ∈ p.1.set) (h : View.PiecesOf G L) :
    View.canon L y = G y :=
  View.canon_apply_of_pieces G L h.mem y hc

end Cert.ProjRows

end
-- ==== Proof.ProjKernel.lean ====
/- What the projection call for the prompt group leaves in its five results: row `r` of the 33024 rows is that of position
   `r % 2064` of sequence `r / 2064`. -/
module

public import proofs.«01_k».proof.Proof.Gen.Kernel6Ideal.Value
public import proofs.«01_k».proof.Proof.ProjRows
public import Idealize.ShloMosaic.Lib.StableHlo.ReadAt
public import Idealize.ShloMosaic.Lib.Tactic
public import Idealize.ShloMosaic.Lib.Pipeline.ValueKit

@[expose] public section

set_option maxRecDepth 16384

noncomputable section

namespace Cert.ProjKernel

open Idealize.ShloMosaic Idealize.ShloMosaic.TcCoe Idealize.SL.Sem Cert.Kernel6Ideal Cert.Kernel6Ideal.Gen Cert.Rows Cert.ProjRows

variable (m : (ℓ : Loc nD τ sig) → Buf (Elt Ideal) ℓ) (c : Dev nD)

/-- The offsets of a whole block are zero. -/
theorem hz : (![0, 0] : Fin 2 → Nat) = fun _ => 0 := funext fun a => by fin_cases a <;> rfl

/-- The base change as the program names it. -/
def base : EReal := Named.named (F := Ideal) κ "log2e" (φ := .f32) 0x3FB8AA3B#32

/-! ## The payloads, entry by entry -/

/-- Where a block of 256 columns starting at `o` sits among 1024. -/
theorem cols (n o : ℕ) (inb : ∀ a, (![0, o] : Fin 2 → ℕ) a + (![n, 256] : Fin 2 → ℕ) a ≤ (⟨2, ![n, 1024]⟩ : Shape).size a)
    (r : Fin n) (j : Fin 256) (h : o + j.val < 1024) :
    (Rect.unit (s := (⟨2, ![n, 1024]⟩ : Shape)) ![0, o] ![n, 256] inb).emb (ix2 r j) = ix2 r ⟨o + j.val, h⟩ := by
  funext d
  apply Fin.ext
  match d with
  | ⟨0, _⟩ => show 0 + 1 * r.val = r.val; omega
  | ⟨1, _⟩ => show o + 1 * j.val = o + j.val; omega

/-- A block of columns that holds `f` at every place is a piece of `f`. -/
theorem piece {e : EltTy} (f : Fin 688 → Fin 1024 → Elt Ideal e) (o : ℕ)
    (inb : ∀ a, (![0, o] : Fin 2 → ℕ) a + (![688, 256] : Fin 2 → ℕ) a ≤ S688x1024.size a) (p : S688x256.Idx → Elt Ideal e)
    (h : ∀ (r : Fin 688) (j : Fin 256) (hj : o + j.val < 1024), p (ix2 r j) = f r ⟨o + j.val, hj⟩) (x : S688x256.Idx) :
    p x = (fun y : S688x1024.Idx => f (y 0) (y 1)) ((Rect.unit (s := S688x1024) ![0, o] ![688, 256] inb).emb x) := by
  obtain ⟨r, j, rfl⟩ : ∃ (r : Fin 688) (j : Fin 256), x = ix2 r j := ⟨x 0, x 1, eq_ix2 x⟩
  have hj : o + j.val < 1024 := by
    have a : o + 256 ≤ 1024 := inb 1
    omega
  rw [cols 688 o inb r j hj]
  exact h r j hj

/-- The normed rows. -/
theorem pay1_at (x : Vec Ideal S688x1024 .f32) (g : Vec Ideal S1x1024 .f32) (r : Fin 688) (l : Fin 1024) :
    k0_pay1 (F := Ideal) x g (ix2 r l) = rms (fun k => x (ix2 r k)) (fun k => g (ix2 0 k)) l := by
  pointwise [k0_pay1]
  rfl

/-- The logarithm of what the bound leaves. -/
theorem pay3_at (x : Vec Ideal S1x1024 .f32) (l : Fin 1024) :
    k0_pay3 (F := Ideal) x (ix2 0 l) = Ideal.log (1 + (0 - x (ix2 0 l))) := by
  pointwise [k0_pay3, k0_pay2]
  rfl

/-- The logarithm of the bound, kept from zero. -/
theorem pay4_at (x : Vec Ideal S1x1024 .f32) (l : Fin 1024) :
    k0_pay4 (F := Ideal) x (ix2 0 l) = Ideal.log (max (x (ix2 0 l)) (Ideal.ofBits .f32 0x0DA24260#32)) := by
  pointwise [k0_pay4, k0_pay2]

/-- A product of the normed rows with 256 columns of the weights, at a place. -/
theorem pay5_at (x : Vec Ideal S688x1024 .f32) (g : Vec Ideal S1x1024 .f32) (w : Vec Ideal S1024x1024 .bf16) (o : ℕ)
    (inb : ∀ a, (![0, o] : Fin 2 → ℕ) a + (![1024, 256] : Fin 2 → ℕ) a ≤ S1024x1024.size a)
    (r : Fin 688) (j : Fin 256) (h : o + j.val < 1024) :
    k0_pay5 (F := Ideal) (k0_pay1 x g) (View.ld w (Rect.unit (s := S1024x1024) ![0, o] ![1024, 256] inb)) (ix2 r j)
      = lin (rms (fun k => x (ix2 r k)) (fun k => g (ix2 0 k))) (fun k l => w (ix2 k l)) ⟨o + j.val, h⟩ := by
  pointwise [k0_pay5]
  simp only [pay1_at]
  exact Finset.sum_congr rfl fun k _ => congrArg (fun i => rms (fun k => x (ix2 r k)) (fun k => g (ix2 0 k)) k * w i) (by first | exact cols 1024 o inb k j h | rfl)

/-- The gate by the tangent, at a place. -/
theorem pay12_at (z : FVec Ideal S688x256 .f32) (r : Fin 688) (j : Fin 256) :
    k0_pay12 (F := Ideal) z (ix2 r j) = halfGate (z (ix2 r j)) := by
  pointwise [k0_pay12]
  rfl

/-- The decay's payload for the columns from 0, at a place. -/
theorem decay0_at (a d : FVec Ideal S1x1024 .f32) (z : FVec Ideal S688x256 .f32) (r : Fin 688) (j : Fin 256) (h : 0 + j.val < 1024) :
    k0_pay10 (F := Ideal) a d z (ix2 r j) = logDecay base (a (ix2 0 ⟨0 + j.val, h⟩)) (d (ix2 0 ⟨0 + j.val, h⟩)) (z (ix2 r j)) := by
  have e : (⟨0 + j.val, h⟩ : Fin 1024) = ⟨j.val, by omega⟩ := Fin.ext (Nat.zero_add _)
  rw [e]
  pointwise [k0_pay10, k0_pay9, k0_pay8]
  rfl

/-- The key's payload for the columns from 0, at a place. -/
theorem key0_at (b : FVec Ideal S1x1024 .f32) (z : FVec Ideal S688x256 .f32) (r : Fin 688) (j : Fin 256) (h : 0 + j.val < 1024) :
    k0_pay11 (F := Ideal) b z (ix2 r j) = keyGate base (b (ix2 0 ⟨0 + j.val, h⟩)) (z (ix2 r j)) := by
  have e : (⟨0 + j.val, h⟩ : Fin 1024) = ⟨j.val, by omega⟩ := Fin.ext (Nat.zero_add _)
  rw [e]
  pointwise [k0_pay11, k0_pay9, k0_pay8]
  rfl

/-- The decay's payload for the columns from 256, at a place. -/
theorem decay256_at (a d : FVec Ideal S1x1024 .f32) (z : FVec Ideal S688x256 .f32) (r : Fin 688) (j : Fin 256) (h : 256 + j.val < 1024) :
    k0_pay19 (F := Ideal) a d z (ix2 r j) = logDecay base (a (ix2 0 ⟨256 + j.val, h⟩)) (d (ix2 0 ⟨256 + j.val, h⟩)) (z (ix2 r j)) := by
  pointwise [k0_pay19, k0_pay18, k0_pay17]
  rfl

/-- The key's payload for the columns from 256, at a place. -/
theorem key256_at (b : FVec Ideal S1x1024 .f32) (z : FVec Ideal S688x256 .f32) (r : Fin 688) (j : Fin 256) (h : 256 + j.val < 1024) :
    k0_pay20 (F := Ideal) b z (ix2 r j) = keyGate base (b (ix2 0 ⟨256 + j.val, h⟩)) (z (ix2 r j)) := by
  pointwise [k0_pay20, k0_pay18, k0_pay17]
  rfl

/-- The decay's payload for the columns from 512, at a place. -/
theorem decay512_at (a d : FVec Ideal S1x1024 .f32) (z : FVec Ideal S688x256 .f32) (r : Fin 688) (j : Fin 256) (h : 512 + j.val < 1024) :
    k0_pay28 (F := Ideal) a d z (ix2 r j) = logDecay base (a (ix2 0 ⟨512 + j.val, h⟩)) (d (ix2 0 ⟨512 + j.val, h⟩)) (z (ix2 r j)) := by
  pointwise [k0_pay28, k0_pay27, k0_pay26]
  rfl

/-- The key's payload for the columns from 512, at a place. -/
theorem key512_at (b : FVec Ideal S1x1024 .f32) (z : FVec Ideal S688x256 .f32) (r : Fin 688) (j : Fin 256) (h : 512 + j.val < 1024) :
    k0_pay31 (F := Ideal) (k0_pay29 b) (k0_pay30 z) (ix2 r j) = keyGate base (b (ix2 0 ⟨512 + j.val, h⟩)) (z (ix2 r j)) := by
  pointwise [k0_pay31, k0_pay30, k0_pay29, k0_pay27, k0_pay26]
  rfl

/-- The decay's payload for the columns from 768, at a place. -/
theorem decay768_at (a d : FVec Ideal S1x1024 .f32) (z : FVec Ideal S688x256 .f32) (r : Fin 688) (j : Fin 256) (h : 768 + j.val < 1024) :
    k0_pay39 (F := Ideal) a d z (ix2 r j) = logDecay base (a (ix2 0 ⟨768 + j.val, h⟩)) (d (ix2 0 ⟨768 + j.val, h⟩)) (z (ix2 r j)) := by
  pointwise [k0_pay39, k0_pay38, k0_pay37]
  rfl

/-- The key's payload for the columns from 768, at a place. -/
theorem key768_at (b : FVec Ideal S1x1024 .f32) (z : FVec Ideal S688x256 .f32) (r : Fin 688) (j : Fin 256) (h : 768 + j.val < 1024) :
    k0_pay42 (F := Ideal) (k0_pay37 z) (k0_pay38 z) (k0_pay40 b) (k0_pay41 z) (Scalar.ofBits .f32 0x3F800000#32) (ix2 r j) = keyGate base (b (ix2 0 ⟨768 + j.val, h⟩)) (z (ix2 r j)) := by
  pointwise [k0_pay42, k0_pay41, k0_pay40, k0_pay38, k0_pay37]
  rfl

/-! ## A point's five blocks -/

/-- The normed row `r` at point `t`. -/
def row (t : Fin cfg0.N) (r : Fin 688) : Fin 1024 → EReal :=
  rms (fun k => (iblk m c 0 t : Vec Ideal S688x1024 .f32) (ix2 r k)) (fun k => (iblk m c 1 t : Vec Ideal S1x1024 .f32) (ix2 0 k))
/-- The weights of the query at point `t`. -/
def bq (t : Fin cfg0.N) (k l : Fin 1024) : EReal := (iblk m c 2 t : Vec Ideal S1024x1024 .bf16) (ix2 k l)
/-- The weights of the decay and the key. -/
def bf (t : Fin cfg0.N) (k l : Fin 1024) : EReal := (iblk m c 3 t : Vec Ideal S1024x1024 .bf16) (ix2 k l)
/-- The weights of the value. -/
def bi (t : Fin cfg0.N) (k l : Fin 1024) : EReal := (iblk m c 4 t : Vec Ideal S1024x1024 .bf16) (ix2 k l)
/-- The weights of the output's gate. -/
def bg (t : Fin cfg0.N) (k l : Fin 1024) : EReal := (iblk m c 5 t : Vec Ideal S1024x1024 .bf16) (ix2 k l)
/-- The lower bound's row. -/
def bl (t : Fin cfg0.N) (l : Fin 1024) : EReal := (iblk m c 6 t : Vec Ideal S1x1024 .f32) (ix2 0 l)
/-- The product of point `t`'s normed rows with 256 columns of the weights `w`. -/
abbrev prod (t : Fin cfg0.N) (w : Vec Ideal S1024x1024 .bf16) (o : ℕ)
    (inb : ∀ a, (![0, o] : Fin 2 → ℕ) a + (![1024, 256] : Fin 2 → ℕ) a ≤ S1024x1024.size a) : FVec Ideal S688x256 .f32 :=
  k0_pay5 (F := Ideal) (k0_pay1 (iblk m c 0 t) (iblk m c 1 t)) (View.ld w (Rect.unit (s := S1024x1024) ![0, o] ![1024, 256] inb))

/-- The query. -/
theorem block7 (t : Fin cfg0.N) (r : Fin 688) (l : Fin 1024) : (outsAt0 m c t).1 (ix2 r l) = halfGate (lin (row m c t r) (bq m c t) l) := by
  unfold outsAt0
  dsimp only
  unfold out0_A_7
  refine (congrFun (View.read_writes_eq_canon _ _ _ (fun y => ?_)) _).trans ?_
  · exact cover0_A_7 (y := y) ..
  refine canon_pieces (Val := Elt Ideal) (fun y => (fun (r : Fin 688) (l : Fin 1024) => halfGate (lin (row m c t r) (bq m c t) l)) (y 0) (y 1)) _ _ (cover0_A_7 (y := ix2 r l) ..) ?_
  unfold kernelRun0_A
  dsimp only
  sl_unfold_words
  simp only [View.readAt_eq_ld, Memref.IsWhole.read_unread, View.ld_unit_zero (S := S688x1024) hz, View.ld_unit_zero (S := S1x1024) hz, View.readCov_unit_zero (S := S688x1024) _ hz]
  exact ⟨fun x => piece (e := .bf16) (fun (r : Fin 688) (l : Fin 1024) => halfGate (lin (row m c t r) (bq m c t) l)) 768 inb_S688x1024_S688x256_0_768 (k0_pay12 (F := Ideal) (prod m c t (iblk m c 2 t) 768 inb_S1024x1024_S1024x256_0_768)) (fun r j h => (pay12_at _ r j).trans (congrArg halfGate (pay5_at (iblk m c 0 t) (iblk m c 1 t) (iblk m c 2 t) 768 inb_S1024x1024_S1024x256_0_768 r j h))) x, fun x => piece (e := .bf16) (fun (r : Fin 688) (l : Fin 1024) => halfGate (lin (row m c t r) (bq m c t) l)) 512 inb_S688x1024_S688x256_0_512 (k0_pay12 (F := Ideal) (prod m c t (iblk m c 2 t) 512 inb_S1024x1024_S1024x256_0_512)) (fun r j h => (pay12_at _ r j).trans (congrArg halfGate (pay5_at (iblk m c 0 t) (iblk m c 1 t) (iblk m c 2 t) 512 inb_S1024x1024_S1024x256_0_512 r j h))) x, fun x => piece (e := .bf16) (fun (r : Fin 688) (l : Fin 1024) => halfGate (lin (row m c t r) (bq m c t) l)) 256 inb_S688x1024_S688x256_0_256 (k0_pay12 (F := Ideal) (prod m c t (iblk m c 2 t) 256 inb_S1024x1024_S1024x256_0_256)) (fun r j h => (pay12_at _ r j).trans (congrArg halfGate (pay5_at (iblk m c 0 t) (iblk m c 1 t) (iblk m c 2 t) 256 inb_S1024x1024_S1024x256_0_256 r j h))) x, fun x => piece (e := .bf16) (fun (r : Fin 688) (l : Fin 1024) => halfGate (lin (row m c t r) (bq m c t) l)) 0 inb_S688x1024_S688x256_0_0 (k0_pay12 (F := Ideal) (prod m c t (iblk m c 2 t) 0 inb_S1024x1024_S1024x256_0_0)) (fun r j h => (pay12_at _ r j).trans (congrArg halfGate (pay5_at (iblk m c 0 t) (iblk m c 1 t) (iblk m c 2 t) 0 inb_S1024x1024_S1024x256_0_0 r j h))) x, trivial⟩

/-- The logarithm of the decay. -/
theorem block8 (t : Fin cfg0.N) (r : Fin 688) (l : Fin 1024) : (outsAt0 m c t).2.1 (ix2 r l) = logDecay base (Ideal.log (1 + (0 - bl m c t l))) (Ideal.log (max (bl m c t l) (Ideal.ofBits .f32 0x0DA24260#32))) (lin (row m c t r) (bf m c t) l) := by
  unfold outsAt0
  dsimp only
  unfold out0_A_8
  refine (congrFun (View.read_writes_eq_canon _ _ _ (fun y => ?_)) _).trans ?_
  · exact cover0_A_8 (y := y) ..
  refine canon_pieces (Val := Elt Ideal) (fun y => (fun (r : Fin 688) (l : Fin 1024) => logDecay base (Ideal.log (1 + (0 - bl m c t l))) (Ideal.log (max (bl m c t l) (Ideal.ofBits .f32 0x0DA24260#32))) (lin (row m c t r) (bf m c t) l)) (y 0) (y 1)) _ _ (cover0_A_8 (y := ix2 r l) ..) ?_
  unfold kernelRun0_A
  dsimp only
  sl_unfold_words
  simp only [View.readAt_eq_ld, Memref.IsWhole.read_unread, View.ld_unit_zero (S := S688x1024) hz, View.ld_unit_zero (S := S1x1024) hz, View.readCov_unit_zero (S := S688x1024) _ hz]
  exact ⟨fun x => piece (e := .f32) (fun (r : Fin 688) (l : Fin 1024) => logDecay base (Ideal.log (1 + (0 - bl m c t l))) (Ideal.log (max (bl m c t l) (Ideal.ofBits .f32 0x0DA24260#32))) (lin (row m c t r) (bf m c t) l)) 768 inb_S688x1024_S688x256_0_768 (k0_pay39 (F := Ideal) (k0_pay3 (iblk m c 6 t)) (k0_pay4 (iblk m c 6 t)) (prod m c t (iblk m c 3 t) 768 inb_S1024x1024_S1024x256_0_768)) (fun r j h => (decay768_at _ _ _ r j h).trans (by rw [pay3_at, pay4_at]; exact congrArg (logDecay base _ _) (pay5_at (iblk m c 0 t) (iblk m c 1 t) (iblk m c 3 t) 768 inb_S1024x1024_S1024x256_0_768 r j h))) x, fun x => piece (e := .f32) (fun (r : Fin 688) (l : Fin 1024) => logDecay base (Ideal.log (1 + (0 - bl m c t l))) (Ideal.log (max (bl m c t l) (Ideal.ofBits .f32 0x0DA24260#32))) (lin (row m c t r) (bf m c t) l)) 512 inb_S688x1024_S688x256_0_512 (k0_pay28 (F := Ideal) (k0_pay3 (iblk m c 6 t)) (k0_pay4 (iblk m c 6 t)) (prod m c t (iblk m c 3 t) 512 inb_S1024x1024_S1024x256_0_512)) (fun r j h => (decay512_at _ _ _ r j h).trans (by rw [pay3_at, pay4_at]; exact congrArg (logDecay base _ _) (pay5_at (iblk m c 0 t) (iblk m c 1 t) (iblk m c 3 t) 512 inb_S1024x1024_S1024x256_0_512 r j h))) x, fun x => piece (e := .f32) (fun (r : Fin 688) (l : Fin 1024) => logDecay base (Ideal.log (1 + (0 - bl m c t l))) (Ideal.log (max (bl m c t l) (Ideal.ofBits .f32 0x0DA24260#32))) (lin (row m c t r) (bf m c t) l)) 256 inb_S688x1024_S688x256_0_256 (k0_pay19 (F := Ideal) (k0_pay3 (iblk m c 6 t)) (k0_pay4 (iblk m c 6 t)) (prod m c t (iblk m c 3 t) 256 inb_S1024x1024_S1024x256_0_256)) (fun r j h => (decay256_at _ _ _ r j h).trans (by rw [pay3_at, pay4_at]; exact congrArg (logDecay base _ _) (pay5_at (iblk m c 0 t) (iblk m c 1 t) (iblk m c 3 t) 256 inb_S1024x1024_S1024x256_0_256 r j h))) x, fun x => piece (e := .f32) (fun (r : Fin 688) (l : Fin 1024) => logDecay base (Ideal.log (1 + (0 - bl m c t l))) (Ideal.log (max (bl m c t l) (Ideal.ofBits .f32 0x0DA24260#32))) (lin (row m c t r) (bf m c t) l)) 0 inb_S688x1024_S688x256_0_0 (k0_pay10 (F := Ideal) (k0_pay3 (iblk m c 6 t)) (k0_pay4 (iblk m c 6 t)) (prod m c t (iblk m c 3 t) 0 inb_S1024x1024_S1024x256_0_0)) (fun r j h => (decay0_at _ _ _ r j h).trans (by rw [pay3_at, pay4_at]; exact congrArg (logDecay base _ _) (pay5_at (iblk m c 0 t) (iblk m c 1 t) (iblk m c 3 t) 0 inb_S1024x1024_S1024x256_0_0 r j h))) x, trivial⟩

/-- The key. -/
theorem block9 (t : Fin cfg0.N) (r : Fin 688) (l : Fin 1024) : (outsAt0 m c t).2.2.1 (ix2 r l) = keyGate base (bl m c t l) (lin (row m c t r) (bf m c t) l) := by
  unfold outsAt0
  dsimp only
  unfold out0_A_9
  refine (congrFun (View.read_writes_eq_canon _ _ _ (fun y => ?_)) _).trans ?_
  · exact cover0_A_9 (y := y) ..
  refine canon_pieces (Val := Elt Ideal) (fun y => (fun (r : Fin 688) (l : Fin 1024) => keyGate base (bl m c t l) (lin (row m c t r) (bf m c t) l)) (y 0) (y 1)) _ _ (cover0_A_9 (y := ix2 r l) ..) ?_
  unfold kernelRun0_A
  dsimp only
  sl_unfold_words
  simp only [View.readAt_eq_ld, Memref.IsWhole.read_unread, View.ld_unit_zero (S := S688x1024) hz, View.ld_unit_zero (S := S1x1024) hz, View.readCov_unit_zero (S := S688x1024) _ hz]
  exact ⟨fun x => piece (e := .bf16) (fun (r : Fin 688) (l : Fin 1024) => keyGate base (bl m c t l) (lin (row m c t r) (bf m c t) l)) 768 inb_S688x1024_S688x256_0_768 (k0_pay42 (F := Ideal) (k0_pay37 (prod m c t (iblk m c 3 t) 768 inb_S1024x1024_S1024x256_0_768)) (k0_pay38 (prod m c t (iblk m c 3 t) 768 inb_S1024x1024_S1024x256_0_768)) (k0_pay40 (k0_pay2 (iblk m c 6 t))) (k0_pay41 (prod m c t (iblk m c 3 t) 768 inb_S1024x1024_S1024x256_0_768)) (Scalar.ofBits .f32 0x3F800000#32)) (fun r j h => (key768_at _ _ r j h).trans (congrArg₂ (keyGate base) (by pointwise [k0_pay2]; rfl) (pay5_at (iblk m c 0 t) (iblk m c 1 t) (iblk m c 3 t) 768 inb_S1024x1024_S1024x256_0_768 r j h))) x, fun x => piece (e := .bf16) (fun (r : Fin 688) (l : Fin 1024) => keyGate base (bl m c t l) (lin (row m c t r) (bf m c t) l)) 512 inb_S688x1024_S688x256_0_512 (k0_pay31 (F := Ideal) (k0_pay29 (k0_pay2 (iblk m c 6 t))) (k0_pay30 (prod m c t (iblk m c 3 t) 512 inb_S1024x1024_S1024x256_0_512))) (fun r j h => (key512_at _ _ r j h).trans (congrArg₂ (keyGate base) (by pointwise [k0_pay2]; rfl) (pay5_at (iblk m c 0 t) (iblk m c 1 t) (iblk m c 3 t) 512 inb_S1024x1024_S1024x256_0_512 r j h))) x, fun x => piece (e := .bf16) (fun (r : Fin 688) (l : Fin 1024) => keyGate base (bl m c t l) (lin (row m c t r) (bf m c t) l)) 256 inb_S688x1024_S688x256_0_256 (k0_pay20 (F := Ideal) (k0_pay2 (iblk m c 6 t)) (prod m c t (iblk m c 3 t) 256 inb_S1024x1024_S1024x256_0_256)) (fun r j h => (key256_at _ _ r j h).trans (congrArg₂ (keyGate base) (by pointwise [k0_pay2]; rfl) (pay5_at (iblk m c 0 t) (iblk m c 1 t) (iblk m c 3 t) 256 inb_S1024x1024_S1024x256_0_256 r j h))) x, fun x => piece (e := .bf16) (fun (r : Fin 688) (l : Fin 1024) => keyGate base (bl m c t l) (lin (row m c t r) (bf m c t) l)) 0 inb_S688x1024_S688x256_0_0 (k0_pay11 (F := Ideal) (k0_pay2 (iblk m c 6 t)) (prod m c t (iblk m c 3 t) 0 inb_S1024x1024_S1024x256_0_0)) (fun r j h => (key0_at _ _ r j h).trans (congrArg₂ (keyGate base) (by pointwise [k0_pay2]; rfl) (pay5_at (iblk m c 0 t) (iblk m c 1 t) (iblk m c 3 t) 0 inb_S1024x1024_S1024x256_0_0 r j h))) x, trivial⟩

/-- The value. -/
theorem block10 (t : Fin cfg0.N) (r : Fin 688) (l : Fin 1024) : (outsAt0 m c t).2.2.2.1 (ix2 r l) = lin (row m c t r) (bi m c t) l := by
  unfold outsAt0
  dsimp only
  unfold out0_A_10
  refine (congrFun (View.read_writes_eq_canon _ _ _ (fun y => ?_)) _).trans ?_
  · exact cover0_A_10 (y := y) ..
  refine canon_pieces (Val := Elt Ideal) (fun y => (fun (r : Fin 688) (l : Fin 1024) => lin (row m c t r) (bi m c t) l) (y 0) (y 1)) _ _ (cover0_A_10 (y := ix2 r l) ..) ?_
  unfold kernelRun0_A
  dsimp only
  sl_unfold_words
  simp only [View.readAt_eq_ld, Memref.IsWhole.read_unread, View.ld_unit_zero (S := S688x1024) hz, View.ld_unit_zero (S := S1x1024) hz, View.readCov_unit_zero (S := S688x1024) _ hz]
  exact ⟨fun x => piece (e := .bf16) (fun (r : Fin 688) (l : Fin 1024) => lin (row m c t r) (bi m c t) l) 768 inb_S688x1024_S688x256_0_768 (prod m c t (iblk m c 4 t) 768 inb_S1024x1024_S1024x256_0_768) (fun r j h => pay5_at (iblk m c 0 t) (iblk m c 1 t) (iblk m c 4 t) 768 inb_S1024x1024_S1024x256_0_768 r j h) x, fun x => piece (e := .bf16) (fun (r : Fin 688) (l : Fin 1024) => lin (row m c t r) (bi m c t) l) 512 inb_S688x1024_S688x256_0_512 (prod m c t (iblk m c 4 t) 512 inb_S1024x1024_S1024x256_0_512) (fun r j h => pay5_at (iblk m c 0 t) (iblk m c 1 t) (iblk m c 4 t) 512 inb_S1024x1024_S1024x256_0_512 r j h) x, fun x => piece (e := .bf16) (fun (r : Fin 688) (l : Fin 1024) => lin (row m c t r) (bi m c t) l) 256 inb_S688x1024_S688x256_0_256 (prod m c t (iblk m c 4 t) 256 inb_S1024x1024_S1024x256_0_256) (fun r j h => pay5_at (iblk m c 0 t) (iblk m c 1 t) (iblk m c 4 t) 256 inb_S1024x1024_S1024x256_0_256 r j h) x, fun x => piece (e := .bf16) (fun (r : Fin 688) (l : Fin 1024) => lin (row m c t r) (bi m c t) l) 0 inb_S688x1024_S688x256_0_0 (prod m c t (iblk m c 4 t) 0 inb_S1024x1024_S1024x256_0_0) (fun r j h => pay5_at (iblk m c 0 t) (iblk m c 1 t) (iblk m c 4 t) 0 inb_S1024x1024_S1024x256_0_0 r j h) x, trivial⟩

/-- The gate of the output. -/
theorem block11 (t : Fin cfg0.N) (r : Fin 688) (l : Fin 1024) : (outsAt0 m c t).2.2.2.2 (ix2 r l) = halfGate (lin (row m c t r) (bg m c t) l) := by
  unfold outsAt0
  dsimp only
  unfold out0_A_11
  refine (congrFun (View.read_writes_eq_canon _ _ _ (fun y => ?_)) _).trans ?_
  · exact cover0_A_11 (y := y) ..
  refine canon_pieces (Val := Elt Ideal) (fun y => (fun (r : Fin 688) (l : Fin 1024) => halfGate (lin (row m c t r) (bg m c t) l)) (y 0) (y 1)) _ _ (cover0_A_11 (y := ix2 r l) ..) ?_
  unfold kernelRun0_A
  dsimp only
  sl_unfold_words
  simp only [View.readAt_eq_ld, Memref.IsWhole.read_unread, View.ld_unit_zero (S := S688x1024) hz, View.ld_unit_zero (S := S1x1024) hz, View.readCov_unit_zero (S := S688x1024) _ hz]
  exact ⟨fun x => piece (e := .bf16) (fun (r : Fin 688) (l : Fin 1024) => halfGate (lin (row m c t r) (bg m c t) l)) 768 inb_S688x1024_S688x256_0_768 (k0_pay12 (F := Ideal) (prod m c t (iblk m c 5 t) 768 inb_S1024x1024_S1024x256_0_768)) (fun r j h => (pay12_at _ r j).trans (congrArg halfGate (pay5_at (iblk m c 0 t) (iblk m c 1 t) (iblk m c 5 t) 768 inb_S1024x1024_S1024x256_0_768 r j h))) x, fun x => piece (e := .bf16) (fun (r : Fin 688) (l : Fin 1024) => halfGate (lin (row m c t r) (bg m c t) l)) 512 inb_S688x1024_S688x256_0_512 (k0_pay12 (F := Ideal) (prod m c t (iblk m c 5 t) 512 inb_S1024x1024_S1024x256_0_512)) (fun r j h => (pay12_at _ r j).trans (congrArg halfGate (pay5_at (iblk m c 0 t) (iblk m c 1 t) (iblk m c 5 t) 512 inb_S1024x1024_S1024x256_0_512 r j h))) x, fun x => piece (e := .bf16) (fun (r : Fin 688) (l : Fin 1024) => halfGate (lin (row m c t r) (bg m c t) l)) 256 inb_S688x1024_S688x256_0_256 (k0_pay12 (F := Ideal) (prod m c t (iblk m c 5 t) 256 inb_S1024x1024_S1024x256_0_256)) (fun r j h => (pay12_at _ r j).trans (congrArg halfGate (pay5_at (iblk m c 0 t) (iblk m c 1 t) (iblk m c 5 t) 256 inb_S1024x1024_S1024x256_0_256 r j h))) x, fun x => piece (e := .bf16) (fun (r : Fin 688) (l : Fin 1024) => halfGate (lin (row m c t r) (bg m c t) l)) 0 inb_S688x1024_S688x256_0_0 (k0_pay12 (F := Ideal) (prod m c t (iblk m c 5 t) 0 inb_S1024x1024_S1024x256_0_0)) (fun r j h => (pay12_at _ r j).trans (congrArg halfGate (pay5_at (iblk m c 0 t) (iblk m c 1 t) (iblk m c 5 t) 0 inb_S1024x1024_S1024x256_0_0 r j h))) x, trivial⟩

/-! ## The arrays the windows read -/

/-- The residual's row. -/
def hRow (r : Fin 33024) (k : Fin 1024) : EReal := m ((c : Thread nD τ).loc main_arg0) (ix3 (⟨r.val / 2064, by omega⟩ : Fin 16) (⟨r.val % 2064, by omega⟩ : Fin 2064) k)
/-- The gain of the norm. -/
def gain (k : Fin 1024) : EReal := m ((c : Thread nD τ).loc main_arg1) (ix1 k)
/-- The weights of the query. -/
def wq (k l : Fin 1024) : EReal := m ((c : Thread nD τ).loc main_arg2) (ix2 k l)
/-- The weights of the decay and the key. -/
def wf (k l : Fin 1024) : EReal := m ((c : Thread nD τ).loc main_arg3) (ix2 k l)
/-- The weights of the value. -/
def wi (k l : Fin 1024) : EReal := m ((c : Thread nD τ).loc main_arg4) (ix2 k l)
/-- The weights of the output's gate. -/
def wg (k l : Fin 1024) : EReal := m ((c : Thread nD τ).loc main_arg5) (ix2 k l)
/-- The lower bound. -/
def lb (l : Fin 1024) : EReal := m ((c : Thread nD τ).loc main_arg6) (ix1 l)

/-- The host's reshape of the rows, at an entry. -/
theorem V_h (a : Fin 33024) (l : Fin 1024) : V m c main_v0 (ix2 a l) = hRow m c a l := by
  unfold V hRow
  after_reads_at
/-- The host's row of the gain, at an entry. -/
theorem V_gain (a : Fin 1) (l : Fin 1024) : V m c main_v1 (ix2 a l) = gain m c l := by
  unfold V gain
  after_reads_at
/-- The host's cast of the query's weights, at an entry. -/
theorem V_wq (a l : Fin 1024) : V m c main_v2 (ix2 a l) = wq m c a l := by
  unfold V wq
  after_reads_at
/-- The host's cast of the decay's weights, at an entry. -/
theorem V_wf (a l : Fin 1024) : V m c main_v3 (ix2 a l) = wf m c a l := by
  unfold V wf
  after_reads_at
/-- The host's cast of the value's weights, at an entry. -/
theorem V_wi (a l : Fin 1024) : V m c main_v4 (ix2 a l) = wi m c a l := by
  unfold V wi
  after_reads_at
/-- The host's cast of the gate's weights, at an entry. -/
theorem V_wg (a l : Fin 1024) : V m c main_v5 (ix2 a l) = wg m c a l := by
  unfold V wg
  after_reads_at
/-- The host's row of the bound, at an entry. -/
theorem V_lb (a : Fin 1) (l : Fin 1024) : V m c main_v6 (ix2 a l) = lb m c l := by
  unfold V lb
  after_reads_at

/-- Where each window's block starts at grid point `t` (in blocks). -/
theorem starts : ∀ t : Fin cfg0.N,
(cc0_transform_0 (grid0.coords t) 0 = t.val ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = 0)
    ∧ (cc0_transform_5 (grid0.coords t) 0 = 0 ∧ cc0_transform_5 (grid0.coords t) 1 = 0)
    ∧ (cc0_transform_6 (grid0.coords t) 0 = 0 ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0)
    ∧ (cc0_transform_9 (grid0.coords t) 0 = t.val ∧ cc0_transform_9 (grid0.coords t) 1 = 0)
    ∧ (cc0_transform_10 (grid0.coords t) 0 = t.val ∧ cc0_transform_10 (grid0.coords t) 1 = 0)
    ∧ (cc0_transform_11 (grid0.coords t) 0 = t.val ∧ cc0_transform_11 (grid0.coords t) 1 = 0) :=
  (by decide +kernel : ∀ t : Fin grid0.N, _)

/-- Row `r` of the residual's block at point `t` is row `688 * t + r` of the residual. -/
theorem blk0 (t : Fin cfg0.N) (r : Fin 688) (l : Fin 1024) (q : Fin 33024) (hq : q.val = t.val * 688 + r.val) :
    (iblk m c 0 t : Vec Ideal S688x1024 .f32) (ix2 r l) = hRow m c q l := by
  obtain ⟨e0, e1⟩ := (starts t).1
  refine Eq.trans ?_ (V_h m c q l)
  unfold iblk
  rw [View.read_apply]
  show V m c main_v0 _ = _
  congr 1
  funext d
  apply Fin.ext
  match d with
  | ⟨0, _⟩ => change cc0_transform_0 (grid0.coords t) 0 * 688 + 1 * r.val = q.val; rw [e0]; omega
  | ⟨1, _⟩ => change cc0_transform_0 (grid0.coords t) 1 * 1024 + 1 * l.val = l.val; rw [e1]; omega

/-- The gain's block is the whole row. -/
theorem blk1 (t : Fin cfg0.N) (l : Fin 1024) :
    (iblk m c 1 t : Vec Ideal S1x1024 .f32) (ix2 0 l) = gain m c l := by
  obtain ⟨e0, e1⟩ := (starts t).2.1
  refine Eq.trans ?_ (V_gain m c 0 l)
  unfold iblk
  rw [View.read_apply]
  show V m c main_v1 _ = _
  congr 1
  funext d
  apply Fin.ext
  match d with
  | ⟨0, _⟩ => change cc0_transform_1 (grid0.coords t) 0 * 1 + 1 * 0 = 0; rw [e0]
  | ⟨1, _⟩ => change cc0_transform_1 (grid0.coords t) 1 * 1024 + 1 * l.val = l.val; rw [e1]; omega

/-- The bound's block is the whole row. -/
theorem blk6 (t : Fin cfg0.N) (l : Fin 1024) :
    (iblk m c 6 t : Vec Ideal S1x1024 .f32) (ix2 0 l) = lb m c l := by
  obtain ⟨e0, e1⟩ := (starts t).2.2.2.2.2.2.1
  refine Eq.trans ?_ (V_lb m c 0 l)
  unfold iblk
  rw [View.read_apply]
  show V m c main_v6 _ = _
  congr 1
  funext d
  apply Fin.ext
  match d with
  | ⟨0, _⟩ => change cc0_transform_6 (grid0.coords t) 0 * 1 + 1 * 0 = 0; rw [e0]
  | ⟨1, _⟩ => change cc0_transform_6 (grid0.coords t) 1 * 1024 + 1 * l.val = l.val; rw [e1]; omega

/-- The query's block of weights is the whole matrix. -/
theorem blk2 (t : Fin cfg0.N) : bq m c t = wq m c := by
  obtain ⟨e0, e1⟩ := (starts t).2.2.1
  funext k l
  refine Eq.trans ?_ (V_wq m c k l)
  unfold bq iblk
  rw [View.read_apply]
  show V m c main_v2 _ = _
  congr 1
  funext d
  apply Fin.ext
  match d with
  | ⟨0, _⟩ => change cc0_transform_2 (grid0.coords t) 0 * 1024 + 1 * k.val = k.val; rw [e0]; omega
  | ⟨1, _⟩ => change cc0_transform_2 (grid0.coords t) 1 * 1024 + 1 * l.val = l.val; rw [e1]; omega

/-- The decay's block of weights is the whole matrix. -/
theorem blk3 (t : Fin cfg0.N) : bf m c t = wf m c := by
  obtain ⟨e0, e1⟩ := (starts t).2.2.2.1
  funext k l
  refine Eq.trans ?_ (V_wf m c k l)
  unfold bf iblk
  rw [View.read_apply]
  show V m c main_v3 _ = _
  congr 1
  funext d
  apply Fin.ext
  match d with
  | ⟨0, _⟩ => change cc0_transform_3 (grid0.coords t) 0 * 1024 + 1 * k.val = k.val; rw [e0]; omega
  | ⟨1, _⟩ => change cc0_transform_3 (grid0.coords t) 1 * 1024 + 1 * l.val = l.val; rw [e1]; omega

/-- The value's block of weights is the whole matrix. -/
theorem blk4 (t : Fin cfg0.N) : bi m c t = wi m c := by
  obtain ⟨e0, e1⟩ := (starts t).2.2.2.2.1
  funext k l
  refine Eq.trans ?_ (V_wi m c k l)
  unfold bi iblk
  rw [View.read_apply]
  show V m c main_v4 _ = _
  congr 1
  funext d
  apply Fin.ext
  match d with
  | ⟨0, _⟩ => change cc0_transform_4 (grid0.coords t) 0 * 1024 + 1 * k.val = k.val; rw [e0]; omega
  | ⟨1, _⟩ => change cc0_transform_4 (grid0.coords t) 1 * 1024 + 1 * l.val = l.val; rw [e1]; omega

/-- The gate's block of weights is the whole matrix. -/
theorem blk5 (t : Fin cfg0.N) : bg m c t = wg m c := by
  obtain ⟨e0, e1⟩ := (starts t).2.2.2.2.2.1
  funext k l
  refine Eq.trans ?_ (V_wg m c k l)
  unfold bg iblk
  rw [View.read_apply]
  show V m c main_v5 _ = _
  congr 1
  funext d
  apply Fin.ext
  match d with
  | ⟨0, _⟩ => change cc0_transform_5 (grid0.coords t) 0 * 1024 + 1 * k.val = k.val; rw [e0]; omega
  | ⟨1, _⟩ => change cc0_transform_5 (grid0.coords t) 1 * 1024 + 1 * l.val = l.val; rw [e1]; omega

/-- The normed row `r` at point `t` is that of row `688 * t + r` of the residual. -/
theorem row_eq (t : Fin cfg0.N) (r : Fin 688) (q : Fin 33024) (hq : q.val = t.val * 688 + r.val) :
    row m c t r = rms (hRow m c q) (gain m c) := by
  unfold row
  rw [show (fun k => (iblk m c 0 t : Vec Ideal S688x1024 .f32) (ix2 r k)) = hRow m c q from funext fun k => blk0 m c t r k q hq,
    show (fun k => (iblk m c 1 t : Vec Ideal S1x1024 .f32) (ix2 0 k)) = gain m c from funext fun k => blk1 m c t k]

/-- The bound's row at a point. -/
theorem bound_eq (t : Fin cfg0.N) (l : Fin 1024) : bl m c t l = lb m c l := blk6 m c t l

/-! ## The five results, row by row -/

/-- The queries. -/
def queries : FVec Ideal S33024x1024 .bf16 := fun i => halfGate (lin (rms (hRow m c (i 0)) (gain m c)) (wq m c) (i 1))
/-- The logarithms of the decays. -/
def decays : FVec Ideal S33024x1024 .f32 := fun i =>
  logDecay base (Ideal.log (1 + (0 - lb m c (i 1)))) (Ideal.log (max (lb m c (i 1)) (Ideal.ofBits .f32 0x0DA24260#32)))
    (lin (rms (hRow m c (i 0)) (gain m c)) (wf m c) (i 1))
/-- The keys. -/
def keys : FVec Ideal S33024x1024 .bf16 := fun i => keyGate base (lb m c (i 1)) (lin (rms (hRow m c (i 0)) (gain m c)) (wf m c) (i 1))
/-- The values. -/
def values : FVec Ideal S33024x1024 .bf16 := fun i => lin (rms (hRow m c (i 0)) (gain m c)) (wi m c) (i 1)
/-- The gates of the output. -/
def gates : FVec Ideal S33024x1024 .bf16 := fun i => halfGate (lin (rms (hRow m c (i 0)) (gain m c)) (wg m c) (i 1))

/-- Window 7's array after the run. -/
theorem arr7 : (dats m 0 c).arrAt 7 cfg0.N = queries m c := by
  refine (dats m 0 c).arrAt_eq_of_covers 7 _ (by decide +kernel) fun t hf y => ?_
  obtain ⟨r, j, rfl⟩ : ∃ (r : Fin 688) (j : Fin 1024), y = ix2 r j := ⟨y 0, y 1, eq_ix2 y⟩
  have ht : t.val < 48 := lt_of_lt_of_eq t.isLt N_0
  have hr := r.isLt
  obtain ⟨e0, e1⟩ := (starts t).2.2.2.2.2.2.2.1
  have e : ((cfg0.win 7).blk t).view.emb (ix2 r j) = ix2 (⟨t.val * 688 + r.val, by omega⟩ : Fin 33024) j := by
    funext d
    apply Fin.ext
    match d with
    | ⟨0, _⟩ => change cc0_transform_7 (grid0.coords t) 0 * 688 + 1 * r.val = t.val * 688 + r.val; rw [e0]; omega
    | ⟨1, _⟩ => change cc0_transform_7 (grid0.coords t) 1 * 1024 + 1 * j.val = j.val; rw [e1]; omega
  rw [e]
  rw [after0_7]
  refine (block7 m c t r j).trans ?_
  rw [row_eq m c t r ⟨t.val * 688 + r.val, by omega⟩ rfl, blk2]
  rfl

/-- Window 8's array after the run. -/
theorem arr8 : (dats m 0 c).arrAt 8 cfg0.N = decays m c := by
  refine (dats m 0 c).arrAt_eq_of_covers 8 _ (by decide +kernel) fun t hf y => ?_
  obtain ⟨r, j, rfl⟩ : ∃ (r : Fin 688) (j : Fin 1024), y = ix2 r j := ⟨y 0, y 1, eq_ix2 y⟩
  have ht : t.val < 48 := lt_of_lt_of_eq t.isLt N_0
  have hr := r.isLt
  obtain ⟨e0, e1⟩ := (starts t).2.2.2.2.2.2.2.2.1
  have e : ((cfg0.win 8).blk t).view.emb (ix2 r j) = ix2 (⟨t.val * 688 + r.val, by omega⟩ : Fin 33024) j := by
    funext d
    apply Fin.ext
    match d with
    | ⟨0, _⟩ => change cc0_transform_8 (grid0.coords t) 0 * 688 + 1 * r.val = t.val * 688 + r.val; rw [e0]; omega
    | ⟨1, _⟩ => change cc0_transform_8 (grid0.coords t) 1 * 1024 + 1 * j.val = j.val; rw [e1]; omega
  rw [e]
  rw [after0_8]
  refine (block8 m c t r j).trans ?_
  rw [bound_eq, row_eq m c t r ⟨t.val * 688 + r.val, by omega⟩ rfl, blk3]
  rfl

/-- Window 9's array after the run. -/
theorem arr9 : (dats m 0 c).arrAt 9 cfg0.N = keys m c := by
  refine (dats m 0 c).arrAt_eq_of_covers 9 _ (by decide +kernel) fun t hf y => ?_
  obtain ⟨r, j, rfl⟩ : ∃ (r : Fin 688) (j : Fin 1024), y = ix2 r j := ⟨y 0, y 1, eq_ix2 y⟩
  have ht : t.val < 48 := lt_of_lt_of_eq t.isLt N_0
  have hr := r.isLt
  obtain ⟨e0, e1⟩ := (starts t).2.2.2.2.2.2.2.2.2.1
  have e : ((cfg0.win 9).blk t).view.emb (ix2 r j) = ix2 (⟨t.val * 688 + r.val, by omega⟩ : Fin 33024) j := by
    funext d
    apply Fin.ext
    match d with
    | ⟨0, _⟩ => change cc0_transform_9 (grid0.coords t) 0 * 688 + 1 * r.val = t.val * 688 + r.val; rw [e0]; omega
    | ⟨1, _⟩ => change cc0_transform_9 (grid0.coords t) 1 * 1024 + 1 * j.val = j.val; rw [e1]; omega
  rw [e]
  rw [after0_9]
  refine (block9 m c t r j).trans ?_
  rw [bound_eq, row_eq m c t r ⟨t.val * 688 + r.val, by omega⟩ rfl, blk3]
  rfl

/-- Window 10's array after the run. -/
theorem arr10 : (dats m 0 c).arrAt 10 cfg0.N = values m c := by
  refine (dats m 0 c).arrAt_eq_of_covers 10 _ (by decide +kernel) fun t hf y => ?_
  obtain ⟨r, j, rfl⟩ : ∃ (r : Fin 688) (j : Fin 1024), y = ix2 r j := ⟨y 0, y 1, eq_ix2 y⟩
  have ht : t.val < 48 := lt_of_lt_of_eq t.isLt N_0
  have hr := r.isLt
  obtain ⟨e0, e1⟩ := (starts t).2.2.2.2.2.2.2.2.2.2.1
  have e : ((cfg0.win 10).blk t).view.emb (ix2 r j) = ix2 (⟨t.val * 688 + r.val, by omega⟩ : Fin 33024) j := by
    funext d
    apply Fin.ext
    match d with
    | ⟨0, _⟩ => change cc0_transform_10 (grid0.coords t) 0 * 688 + 1 * r.val = t.val * 688 + r.val; rw [e0]; omega
    | ⟨1, _⟩ => change cc0_transform_10 (grid0.coords t) 1 * 1024 + 1 * j.val = j.val; rw [e1]; omega
  rw [e]
  rw [after0_10]
  refine (block10 m c t r j).trans ?_
  rw [row_eq m c t r ⟨t.val * 688 + r.val, by omega⟩ rfl, blk4]
  rfl

/-- Window 11's array after the run. -/
theorem arr11 : (dats m 0 c).arrAt 11 cfg0.N = gates m c := by
  refine (dats m 0 c).arrAt_eq_of_covers 11 _ (by decide +kernel) fun t hf y => ?_
  obtain ⟨r, j, rfl⟩ : ∃ (r : Fin 688) (j : Fin 1024), y = ix2 r j := ⟨y 0, y 1, eq_ix2 y⟩
  have ht : t.val < 48 := lt_of_lt_of_eq t.isLt N_0
  have hr := r.isLt
  obtain ⟨e0, e1⟩ := (starts t).2.2.2.2.2.2.2.2.2.2.2
  have e : ((cfg0.win 11).blk t).view.emb (ix2 r j) = ix2 (⟨t.val * 688 + r.val, by omega⟩ : Fin 33024) j := by
    funext d
    apply Fin.ext
    match d with
    | ⟨0, _⟩ => change cc0_transform_11 (grid0.coords t) 0 * 688 + 1 * r.val = t.val * 688 + r.val; rw [e0]; omega
    | ⟨1, _⟩ => change cc0_transform_11 (grid0.coords t) 1 * 1024 + 1 * j.val = j.val; rw [e1]; omega
  rw [e]
  rw [after0_11]
  refine (block11 m c t r j).trans ?_
  rw [row_eq m c t r ⟨t.val * 688 + r.val, by omega⟩ rfl, blk5]
  rfl

end Cert.ProjKernel

end
-- ==== Proof.GateMath.lean ====
/- The gates of the projection call: the forms the call computes them in equal the plain ones. -/
module

public import proofs.«01_k».proof.Proof.ProjRows

@[expose] public section

noncomputable section

namespace Cert.GateMath

open Idealize.ShloMosaic Cert.ProjRows

/-- A number times its logistic function. -/
def gated (y : EReal) : EReal := y * Ideal.div 1 (1 + Ideal.exp (-y))

/-- The larger magnitude of a number and its opposite. -/
abbrev mag (z : EReal) : EReal := max z (-z)

/-- The magnitude of a finite number is its absolute value. -/
theorem mag_coe (a : ℝ) : max (a : EReal) (-(a : EReal)) = ((|a| : ℝ) : EReal) := by
  rw [← EReal.coe_neg]
  rcases le_total a (-a) with h | h
  · rw [max_eq_right (EReal.coe_le_coe_iff.mpr h), abs_eq_max_neg, max_eq_right h]
  · rw [max_eq_left (EReal.coe_le_coe_iff.mpr h), abs_eq_max_neg, max_eq_left h]

/-- The exponential of minus the magnitude does not depend on the base it is taken in. -/
theorem small_eq (z : EReal) : small (((Real.log 2)⁻¹ : ℝ) : EReal) z = Ideal.exp (-mag z) := by
  have hl : 0 < Real.log 2 := Real.log_pos (by norm_num)
  have hi : 0 < (Real.log 2)⁻¹ := inv_pos.mpr hl
  induction z with
  | bot => simp [small, mag, EReal.bot_mul_coe_of_pos hi]
  | top => simp [small, mag, EReal.top_mul_coe_of_pos hi]
  | coe z =>
    unfold small mag
    rw [← EReal.coe_mul, mag_coe, mag_coe, zero_sub, ← EReal.coe_neg, ← EReal.coe_neg, Ideal.exp2_coe, Ideal.exp_coe]
    congr 1
    show (2 : ℝ) ^ (-|z * (Real.log 2)⁻¹|) = Real.exp (-|z|)
    rw [Real.rpow_def_of_pos (by norm_num), abs_mul, abs_of_pos hi]
    congr 1
    field_simp

/-- The number one half, as the program's word spells it. -/
theorem half_word : Ideal.ofBits .f32 0x3F000000#32 = ((1 / 2 : ℝ) : EReal) := by
  simp [Ideal.ofBits, Ideal.ieee]
  rw [← EReal.coe_mul]
  norm_num

/-- For a finite argument the gate by the tangent is the logistic one. -/
theorem halfGate_coe (y : ℝ) : halfGate (y : EReal) = gated (y : EReal) := by
  have h : Ideal.div 1 (1 + Ideal.exp (-(y : EReal))) = (((1 + Real.exp (-y))⁻¹ : ℝ) : EReal) := Ideal.logistic_coe y
  unfold halfGate gated
  rw [half_word, h, ← EReal.coe_mul, Ideal.tanh_coe, ← EReal.coe_mul, ← EReal.coe_add, ← EReal.coe_mul]
  congr 1
  have e : Real.exp (-y) = Real.exp (-(1 / 2 * y)) * Real.exp (-(1 / 2 * y)) := by
    rw [← Real.exp_add]; congr 1; ring
  have p : Real.exp (1 / 2 * y) * Real.exp (-(1 / 2 * y)) = 1 := by rw [← Real.exp_add]; simp
  have hp := Real.exp_pos (1 / 2 * y)
  have hn := Real.exp_pos (-(1 / 2 * y))
  rw [Real.tanh_eq_sinh_div_cosh, Real.sinh_eq, Real.cosh_eq, e]
  generalize Real.exp (1 / 2 * y) = a at *
  generalize Real.exp (-(1 / 2 * y)) = b at *
  have ha : a ≠ 0 := hp.ne'
  have hb : b = a⁻¹ := eq_inv_of_mul_eq_one_right p
  subst hb
  have h2 : a ^ 2 + 1 ≠ 0 := by positivity
  field_simp
  ring

/-- One more than infinity. -/
theorem one_add_top : (1 : EReal) + ⊤ = ⊤ := EReal.coe_add_top 1

/-- The logarithm of one. -/
theorem log_one : Ideal.log 1 = 0 := by
  show Ideal.log ((1 : ℝ) : EReal) = 0
  rw [Ideal.log_coe]
  simp

/-- One over one plus an exponential, at a finite argument. -/
theorem over_coe (a b : ℝ) (h : 0 < b) : Ideal.div (a : EReal) (1 + (b : EReal)) = ((a / (1 + b) : ℝ) : EReal) := by
  have e : (1 : EReal) + (b : EReal) = ((1 + b : ℝ) : EReal) := by push_cast; rfl
  rw [e, Ideal.div_coe (by positivity), ← EReal.coe_mul, one_div, div_eq_mul_inv]

/-- The logarithm of one plus an exponential, at a finite argument. -/
theorem log_coe_one (b : ℝ) (h : 0 < b) : Ideal.log (1 + (b : EReal)) = ((Real.log (1 + b) : ℝ) : EReal) := by
  have e : (1 : EReal) + (b : EReal) = ((1 + b : ℝ) : EReal) := by push_cast; rfl
  rw [e, Ideal.log_coe, if_neg (by linarith)]

/-- The key's gate is one minus the bound, times the logistic function of minus its argument. -/
theorem keyGate_eq (o z : EReal) :
    keyGate (((Real.log 2)⁻¹ : ℝ) : EReal) o z = (1 - o) * Ideal.div 1 (1 + Ideal.exp (-(-z))) := by
  unfold keyGate
  rw [small_eq, neg_neg]
  congr 1
  induction z with
  | bot => simp [mag]
  | top => simp [mag, Ideal.div, one_add_top]
  | coe z =>
    unfold mag
    rw [mag_coe, ← EReal.coe_neg, Ideal.exp_coe, Ideal.exp_coe]
    have one : (1 : EReal) = ((1 : ℝ) : EReal) := rfl
    by_cases hz : 0 ≤ z
    · rw [if_pos (EReal.coe_nonneg.mpr hz), abs_of_nonneg hz, over_coe _ _ (Real.exp_pos _)]
      have r := over_coe 1 _ (Real.exp_pos z)
      rw [← one] at r
      rw [r, Real.exp_neg]
      congr 1
      have := Real.exp_pos z
      field_simp
      ring
    · rw [if_neg (fun h => hz (EReal.coe_nonneg.mp h)), abs_of_neg (not_le.mp hz), neg_neg]

/-- The logarithm of the decay before the bound enters, in the plain form. -/
theorem logPart_eq (a z : EReal) :
    logPart (((Real.log 2)⁻¹ : ℝ) : EReal) a z = a + -(max (-z) 0 + Ideal.log (1 + Ideal.exp (-mag (-z - 0)))) := by
  unfold logPart
  rw [small_eq, sub_zero]
  congr 1
  induction z with
  | bot => simp [mag, log_one]
  | top => simp [mag, log_one]
  | coe z =>
    have e : mag (-(z : EReal)) = ((|z| : ℝ) : EReal) := by
      unfold mag
      rw [← EReal.coe_neg, mag_coe, abs_neg]
    have f : max (-(z : EReal)) 0 = ((max (-z) 0 : ℝ) : EReal) := by
      rw [← EReal.coe_neg]; exact (EReal.coe_strictMono.monotone.map_max (a := -z) (b := 0)).symm
    have g : min (z : EReal) 0 = ((min z 0 : ℝ) : EReal) :=
      (EReal.coe_strictMono.monotone.map_min (a := z) (b := 0)).symm
    rw [e, f, g]
    unfold mag
    rw [mag_coe, ← EReal.coe_neg, Ideal.exp_coe, log_coe_one _ (Real.exp_pos _), ← EReal.coe_add, ← EReal.coe_neg, ← EReal.coe_sub]
    congr 1
    have h : max (-z) 0 = -min z 0 := by
      rcases le_total z 0 with h | h
      · rw [min_eq_left h, max_eq_left (by linarith)]
      · rw [min_eq_right h, max_eq_right (by linarith), neg_zero]
    rw [h]
    ring

/-- The logarithm of the decay, in the plain form. -/
theorem logDecay_eq (a d z : EReal) :
    logDecay (((Real.log 2)⁻¹ : ℝ) : EReal) a d z
      = (fun s => max s d + Ideal.log (1 + Ideal.exp (-mag (s - d))))
          (a + -(max (-z) 0 + Ideal.log (1 + Ideal.exp (-mag (-z - 0))))) := by
  unfold logDecay
  rw [small_eq, logPart_eq]

end Cert.GateMath

end
-- ==== Proof.ProjReference.lean ====
/- The reference of the projections for the prompt group, row by row. -/
module

public import proofs.«01_k».proof.Proof.Gen.Reference6Ideal.Run
public import proofs.«01_k».proof.Proof.GateMath
public import Idealize.ShloMosaic.Lib.Pointwise

@[expose] public section

set_option maxRecDepth 16384

noncomputable section

namespace Cert.ProjReference

open Idealize.ShloMosaic Idealize.ShloMosaic.TcCoe Idealize.SL.Sem Cert.Reference6Ideal Cert.Reference6Ideal.Gen Cert.Rows Cert.ProjRows Cert.GateMath

/-! ## The printed operations, piece by piece -/

/-- The array of every position's row. -/
abbrev Pos := FVec Ideal S16x2064x1024 .f32

/-- The norm over the last axis. -/
def normed (x : Pos) (g : FVec Ideal S1024 .f32) : Pos :=
  mulf (mulf x (broadcastInDim S16x2064x1024 ![0, 1, 2] bcast_S16x2064x1_S16x2064x1024_0_1_2
    (Host.rsqrt (addf (Host.divf (broadcastInDim S16x2064x1 ![0, 1] bcast_S16x2064_S16x2064x1_0_1
      (Host.reduceAdd (mulf x x) (constant S_ .f32 0x00000000#32) reducesTo_S16x2064x1024_S16x2064_d2 h_S_))
      (broadcastInDim S16x2064x1 ![] bcast_S_S16x2064x1 (constant S_ .f32 0x44800000#32)))
      (broadcastInDim S16x2064x1 ![] bcast_S_S16x2064x1 (constant S_ .f32 0x358637BD#32))))))
    (broadcastInDim S16x2064x1024 ![0, 1, 2] bcast_S1x1x1024_S16x2064x1024_0_1_2 (broadcastInDim S1x1x1024 ![2] bcast_S1024_S1x1x1024_2 g))

/-- The product with weights. -/
def times (x : Pos) (w : FVec Ideal S1024x1024 .f32) : Pos :=
  Host.dotGeneral dot_S16x2064x1024_S1024x1024_S16x2064x1024_2_0_01_1_n_n none x w

/-- One, everywhere. -/
def ones : Pos := broadcastInDim S16x2064x1024 ![] bcast_S_S16x2064x1024 (constant S_ .f32 0x3F800000#32)

/-- Zero, everywhere. -/
def zeros : Pos := broadcastInDim S16x2064x1024 ![] bcast_S_S16x2064x1024 (constant S_ .f32 0x00000000#32)

/-- One row, at every position. -/
def spread (a : FVec Ideal S1024 .f32) : Pos :=
  broadcastInDim S16x2064x1024 ![0, 1, 2] bcast_S1x1x1024_S16x2064x1024_0_1_2 (broadcastInDim S1x1x1024 ![2] bcast_S1024_S1x1x1024_2 a)

/-- The logistic function. -/
def logistic (y : Pos) : Pos := Host.divf ones (addf ones (Host.exp (Host.negf y)))

/-- The logarithm of the sum of two exponentials. -/
def logSum (x y : Pos) : Pos :=
  select (cmpf .une (subf x y) (subf x y)) (addf x y)
    (addf (maximumf x y) (Host.log1p (Host.exp (Host.negf (Host.absf (subf x y))))))

/-- The decay's logarithm before the bound enters. -/
def undecayed (z : Pos) (b : FVec Ideal S1024 .f32) : Pos :=
  addf (spread (Host.log1p (Host.negf b))) (Host.negf (logSum (Host.negf z) zeros))

/-- The bound, kept from zero, in logarithm. -/
def bounded (b : FVec Ideal S1024 .f32) : FVec Ideal S1024 .f32 :=
  Host.log (maximumf b (broadcastInDim S1024 ![] bcast_S_S1024 (constant S_ .f32 0x0DA24260#32)))

/-- What the bound leaves of one. -/
def rest (b : FVec Ideal S1024 .f32) : FVec Ideal S1024 .f32 :=
  subf (broadcastInDim S1024 ![] bcast_S_S1024 (constant S_ .f32 0x3F800000#32)) b

/-- The norm at a place is the norm of its row. -/
theorem normed_at (x : Pos) (g : FVec Ideal S1024 .f32) (b : Fin 16) (s : Fin 2064) (l : Fin 1024) :
    normed x g (ix3 b s l) = rms (fun k => x (ix3 b s k)) (fun k => g (ix1 k)) l := by
  pointwise [normed]
  rfl
/-- The product at a place is a sum over its row. -/
theorem times_at (x : Pos) (w : FVec Ideal S1024x1024 .f32) (b : Fin 16) (s : Fin 2064) (l : Fin 1024) :
    times x w (ix3 b s l) = lin (fun k => x (ix3 b s k)) (fun k l => w (ix2 k l)) l := by
  pointwise [times]
  rfl
/-- One row's spread, at a place. -/
theorem spread_at (a : FVec Ideal S1024 .f32) (b : Fin 16) (s : Fin 2064) (l : Fin 1024) : spread a (ix3 b s l) = a (ix1 l) := by
  pointwise [spread]
/-- The logistic function at a place. -/
theorem logistic_at (y : Pos) (b : Fin 16) (s : Fin 2064) (l : Fin 1024) :
    logistic y (ix3 b s l) = Ideal.div 1 (1 + Ideal.exp (-y (ix3 b s l))) := by
  pointwise [logistic, ones]
/-- The logarithm of a sum of exponentials at a place: no number differs from itself. -/
theorem logSum_at (x y : Pos) (b : Fin 16) (s : Fin 2064) (l : Fin 1024) :
    logSum x y (ix3 b s l) = max (x (ix3 b s l)) (y (ix3 b s l)) + Ideal.log (1 + Ideal.exp (-mag (x (ix3 b s l) - y (ix3 b s l)))) := by
  pointwise [logSum]
  rw [if_neg (not_not.mpr rfl)]
  rfl

/-- The decay's logarithm before the bound enters, at a place. -/
theorem undecayed_at (z : Pos) (a : FVec Ideal S1024 .f32) (b : Fin 16) (s : Fin 2064) (l : Fin 1024) :
    undecayed z a (ix3 b s l) = Ideal.log (1 + -a (ix1 l))
      + -(max (-z (ix3 b s l)) 0 + Ideal.log (1 + Ideal.exp (-mag (-z (ix3 b s l) - 0)))) := by
  unfold undecayed
  pointwise []
  rw [spread_at, logSum_at]
  pointwise [zeros]
  rfl
/-- The bound's logarithm, at a place. -/
theorem bounded_at (a : FVec Ideal S1024 .f32) (l : Fin 1024) :
    bounded a (ix1 l) = Ideal.log (max (a (ix1 l)) (Ideal.ofBits .f32 0x0DA24260#32)) := by
  pointwise [bounded]
/-- What the bound leaves, at a place. -/
theorem rest_at (a : FVec Ideal S1024 .f32) (l : Fin 1024) : rest a (ix1 l) = 1 - a (ix1 l) := by
  pointwise [rest]

/-! ## The five results -/

/-- Every position, one under the other. -/
def flat (x : Pos) : FVec Ideal S33024x1024 .f32 := shapeCast S33024x1024 x shapeCasts_S16x2064x1024_S33024x1024

/-- Row `r` of the flattened positions. -/
theorem flat_at (x : Pos) (r : Fin 33024) (j : Fin 1024) :
    flat x (ix2 r j) = x (ix3 (⟨r.val / 2064, by omega⟩ : Fin 16) (⟨r.val % 2064, by omega⟩ : Fin 2064) j) := by
  pointwise [flat]

/-- The queries, and with other weights the output's gates. -/
def gatedRows (h : Pos) (g : FVec Ideal S1024 .f32) (w : FVec Ideal S1024x1024 .f32) : FVec Ideal S33024x1024 .bf16 :=
  truncf .bf16 (flat (mulf (times (normed h g) w) (logistic (times (normed h g) w)))) bitsLt_bf16_f32
/-- The logarithms of the decays. -/
def decayRows (h : Pos) (g : FVec Ideal S1024 .f32) (w : FVec Ideal S1024x1024 .f32) (b : FVec Ideal S1024 .f32) : FVec Ideal S33024x1024 .f32 :=
  flat (logSum (undecayed (times (normed h g) w) b) (spread (bounded b)))
/-- The keys. -/
def keyRows (h : Pos) (g : FVec Ideal S1024 .f32) (w : FVec Ideal S1024x1024 .f32) (b : FVec Ideal S1024 .f32) : FVec Ideal S33024x1024 .bf16 :=
  truncf .bf16 (flat (mulf (spread (rest b)) (logistic (Host.negf (times (normed h g) w))))) bitsLt_bf16_f32
/-- The values. -/
def valueRows (h : Pos) (g : FVec Ideal S1024 .f32) (w : FVec Ideal S1024x1024 .f32) : FVec Ideal S33024x1024 .bf16 :=
  truncf .bf16 (flat (times (normed h g) w)) bitsLt_bf16_f32

/-- Row `r` of the residual, in its sequence. -/
abbrev rowOf (h : Pos) (r : Fin 33024) (k : Fin 1024) : EReal := h (ix3 (⟨r.val / 2064, by omega⟩ : Fin 16) (⟨r.val % 2064, by omega⟩ : Fin 2064) k)

/-- The first and the last result, at a row. -/
theorem gatedRows_at (h : Pos) (g : FVec Ideal S1024 .f32) (w : FVec Ideal S1024x1024 .f32) (r : Fin 33024) (j : Fin 1024) :
    gatedRows h g w (ix2 r j) = gated (lin (rms (rowOf h r) (fun k => g (ix1 k))) (fun k l => w (ix2 k l)) j) := by
  unfold gatedRows
  pointwise []
  rw [flat_at]
  pointwise []
  simp only [logistic_at, times_at, normed_at]
  rfl
/-- The second result, at a row. -/
theorem decayRows_at (h : Pos) (g : FVec Ideal S1024 .f32) (w : FVec Ideal S1024x1024 .f32) (b : FVec Ideal S1024 .f32) (r : Fin 33024) (j : Fin 1024) :
    decayRows h g w b (ix2 r j) = logDecay (((Real.log 2)⁻¹ : ℝ) : EReal) (Ideal.log (1 + -b (ix1 j)))
      (Ideal.log (max (b (ix1 j)) (Ideal.ofBits .f32 0x0DA24260#32))) (lin (rms (rowOf h r) (fun k => g (ix1 k))) (fun k l => w (ix2 k l)) j) := by
  unfold decayRows
  rw [flat_at, logDecay_eq, logSum_at, undecayed_at, spread_at, bounded_at, times_at]
  simp only [normed_at]
/-- The third result, at a row. -/
theorem keyRows_at (h : Pos) (g : FVec Ideal S1024 .f32) (w : FVec Ideal S1024x1024 .f32) (b : FVec Ideal S1024 .f32) (r : Fin 33024) (j : Fin 1024) :
    keyRows h g w b (ix2 r j) = keyGate (((Real.log 2)⁻¹ : ℝ) : EReal) (b (ix1 j)) (lin (rms (rowOf h r) (fun k => g (ix1 k))) (fun k l => w (ix2 k l)) j) := by
  unfold keyRows
  pointwise []
  rw [flat_at, keyGate_eq]
  pointwise []
  rw [spread_at, rest_at, logistic_at]
  pointwise []
  rw [times_at]
  simp only [normed_at]
/-- The fourth result, at a row. -/
theorem valueRows_at (h : Pos) (g : FVec Ideal S1024 .f32) (w : FVec Ideal S1024x1024 .f32) (r : Fin 33024) (j : Fin 1024) :
    valueRows h g w (ix2 r j) = lin (rms (rowOf h r) (fun k => g (ix1 k))) (fun k l => w (ix2 k l)) j := by
  unfold valueRows
  pointwise []
  rw [flat_at, times_at]
  simp only [normed_at]

/-- The reference's run, with its results as those functions of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = gatedRows (m ((c.tc : Thread nD τ).loc main_arg0)) (m ((c.tc : Thread nD τ).loc main_arg1)) (m ((c.tc : Thread nD τ).loc main_arg2))
      ∧ r.2.mem ((c.tc : Thread nD τ).loc main_v56) = decayRows (m ((c.tc : Thread nD τ).loc main_arg0)) (m ((c.tc : Thread nD τ).loc main_arg1)) (m ((c.tc : Thread nD τ).loc main_arg3)) (m ((c.tc : Thread nD τ).loc main_arg6))
      ∧ r.2.mem ((c.tc : Thread nD τ).loc main_v58) = keyRows (m ((c.tc : Thread nD τ).loc main_arg0)) (m ((c.tc : Thread nD τ).loc main_arg1)) (m ((c.tc : Thread nD τ).loc main_arg3)) (m ((c.tc : Thread nD τ).loc main_arg6))
      ∧ r.2.mem ((c.tc : Thread nD τ).loc main_v60) = valueRows (m ((c.tc : Thread nD τ).loc main_arg0)) (m ((c.tc : Thread nD τ).loc main_arg1)) (m ((c.tc : Thread nD τ).loc main_arg4))
      ∧ r.2.mem ((c.tc : Thread nD τ).loc main_v62) = gatedRows (m ((c.tc : Thread nD τ).loc main_arg0)) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2.1, (h c).2.2.1, (h c).2.2.2.1, (h c).2.2.2.2.1, (h c).2.2.2.2.2⟩) (Value.run (F := Ideal) m ρ)

end Cert.ProjReference

end
-- ==== Proof.ProjFinite.lean ====
/- On finite arguments every product of the projection call is finite. -/
module

public import proofs.«01_k».proof.Pre_finite
public import proofs.«01_k».proof.Proof.ProjRows
public import Idealize.ShloMosaic.Lib.ReduceAll
public import Idealize.ShloMosaic.Lib.Pointwise

@[expose] public section

set_option maxRecDepth 16384

noncomputable section

namespace Cert.ProjFinite

open Idealize.ShloMosaic Cert.Rows Cert.ProjRows

/-- A sum of finite numbers is the finite number that is their sum. -/
theorem sum_coe {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- The printed epsilon is a positive number. -/
theorem eps_pos : ∃ r : ℝ, 0 < r ∧ Ideal.ofBits .f32 0x358637BD#32 = (r : EReal) := by
  refine ⟨8796093 * (2 : ℝ) ^ (-43 : Int), by positivity, ?_⟩
  simp [Ideal.ofBits, Ideal.ieee]

/-- The printed width is a positive number. -/
theorem width_pos : ∃ r : ℝ, 0 < r ∧ Ideal.ofBits .f32 0x44800000#32 = (r : EReal) := by
  refine ⟨8388608 * (2 : ℝ) ^ (-13 : Int), by positivity, ?_⟩
  simp [Ideal.ofBits, Ideal.ieee]

/-- The norm of a finite row with a finite gain is finite. -/
theorem rms_finite (x g : Fin 1024 → EReal) (hx : ∀ k, ∃ r : ℝ, x k = (r : EReal)) (hg : ∀ k, ∃ r : ℝ, g k = (r : EReal)) (l : Fin 1024) :
    ∃ r : ℝ, rms x g l = (r : EReal) := by
  choose a ha using hx
  choose b hb using hg
  obtain ⟨e, he, he'⟩ := eps_pos
  obtain ⟨n, hn, hn'⟩ := width_pos
  obtain rfl : x = fun k => (a k : EReal) := funext ha
  obtain rfl : g = fun k => (b k : EReal) := funext hb
  unfold rms
  have s : (∑ k, (a k : EReal) * (a k : EReal)) = ((∑ k, a k * a k : ℝ) : EReal) := by
    rw [← sum_coe]
    exact Finset.sum_congr rfl fun k _ => (EReal.coe_mul _ _).symm
  have p : 0 ≤ ∑ k, a k * a k := Finset.sum_nonneg fun k _ => mul_self_nonneg _
  have q : 0 < (∑ k, a k * a k) * (1 / n) + e := by positivity
  rw [s, he', hn', Ideal.div_coe hn.ne', ← EReal.coe_mul, ← EReal.coe_add, Ideal.rsqrt_coe, if_neg (not_lt.mpr q.le), if_neg q.ne',
    ← EReal.coe_mul, ← EReal.coe_mul]
  exact ⟨_, rfl⟩

/-- A product of a finite row with finite weights is finite. -/
theorem lin_finite (x : Fin 1024 → EReal) (w : Fin 1024 → Fin 1024 → EReal) (hx : ∀ k, ∃ r : ℝ, x k = (r : EReal))
    (hw : ∀ k l, ∃ r : ℝ, w k l = (r : EReal)) (l : Fin 1024) : ∃ r : ℝ, lin x w l = (r : EReal) := by
  choose a ha using hx
  choose b hb using hw
  refine ⟨∑ k, a k * b k l, ?_⟩
  rw [← sum_coe]
  exact Finset.sum_congr rfl fun k _ => by rw [ha, hb, EReal.coe_mul]

/-- A number whose magnitude is below infinity is finite. -/
theorem finite_of_mag (x : EReal) (h : max x (-x) < ⊤) : ∃ r : ℝ, x = (r : EReal) := by
  induction x with
  | bot => simp at h
  | top => simp at h
  | coe r => exact ⟨r, rfl⟩

/-- The word of infinity. -/
theorem inf_word : Ideal.ofBits .f32 0x7F800000#32 = ⊤ := by
  simp [Ideal.ofBits, Ideal.ieee]

/-- The comparison the precondition makes, read back. -/
theorem finite_of_cmp {s : Shape} (x : FVec Ideal s .f32) (i : s.Idx) (b : FVec Ideal s .f32) (hb : b i = Ideal.ofBits .f32 0x7F800000#32)
    (h : cmpf .olt (Host.absf x) b i = 1#1) : ∃ r : ℝ, x i = (r : EReal) := by
  refine finite_of_mag (x i) ?_
  rw [← inf_word, ← hb]
  by_contra hn
  have : cmpf .olt (Host.absf x) b i = 0#1 := by
    pointwise []
    exact congrArg BitVec.ofBool (decide_eq_false hn)
  rw [this] at h
  exact absurd h (by decide)

/-- The shapes the precondition's operations relate fit one another. -/
instance facts : Cert.Pre_finite.Facts where
  bcast_S_S16x2064x1024 := by decide
  reducesTo_S16x2064x1024_S_d0_1_2 := by decide
  h_S_ := by decide
  bcast_S_S1024 := by decide
  reducesTo_S1024_S_d0 := by decide
  bcast_S_S1024x1024 := by decide
  reducesTo_S1024x1024_S_d0_1 := by decide

/-- What the precondition says: the residual, the gain and the two gates' weights are finite. -/
theorem decode [Cert.Pre_finite.Facts] (a0 : FVec Ideal Cert.Pre_finite.S16x2064x1024 .f32) (a1 : FVec Ideal Cert.Pre_finite.S1024 .f32)
    (a2 a3 a4 a5 : FVec Ideal Cert.Pre_finite.S1024x1024 .f32) (a6 : FVec Ideal Cert.Pre_finite.S1024 .f32)
    (h : Cert.Pre_finite.fn (F := Ideal) a0 a1 a2 a3 a4 a5 a6 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a5 i = (r : EReal)) := by
  have e := congrFun h (fun d => d.elim0)
  haveI : Subsingleton Cert.Pre_finite.S_.Idx := ⟨fun a b => funext fun d => d.elim0⟩
  have split : ∀ p q : BitVec 1, IntOp.andi p q = 1#1 → p = 1#1 ∧ q = 1#1 := by decide
  obtain ⟨e, h5⟩ := split _ _ e
  obtain ⟨e, h2⟩ := split _ _ e
  obtain ⟨h0, h1⟩ := split _ _ e
  exact ⟨fun i => finite_of_cmp _ i _ rfl (Host.reduce_andi_all _ _ _ _ _ h0 i),
    fun i => finite_of_cmp _ i _ rfl (Host.reduce_andi_all _ _ _ _ _ h1 i),
    fun i => finite_of_cmp _ i _ rfl (Host.reduce_andi_all _ _ _ _ _ h2 i),
    fun i => finite_of_cmp _ i _ rfl (Host.reduce_andi_all _ _ _ _ _ h5 i)⟩

end Cert.ProjFinite

end
-- ==== Proof.QueryRows.lean ====
/- One row of the absorbed query, as functions of rows of extended reals: the compressed query (a product and a norm), and
   for each head the query against the latent's weights and the rotated query, both scaled, side by side with zeros behind. -/
module

public import proofs.«01_k».proof.Proof.KvRows

@[expose] public section

noncomputable section

namespace Cert.QueryRows

open Idealize.ShloMosaic Cert.Rows Cert.KvRows

/-- The norm of a row of 384. -/
def rms384 (x g : Fin 384 → EReal) (j : Fin 384) : EReal :=
  x j * Ideal.rsqrt (Ideal.div (∑ k, x k * x k) (Ideal.ofBits .f32 0x43C00000#32) + Ideal.ofBits .f32 0x358637BD#32) * g j

/-- The compressed query's row. -/
def compressed (h g : Fin 1024 → EReal) (w : Fin 1024 → Fin 384 → EReal) (gq : Fin 384 → EReal) (j : Fin 384) : EReal :=
  rms384 (proj h g w) gq j

/-- The scale of the attention's scores. -/
def scale : EReal := Ideal.ofBits .f32 0x3DD53B95#32

/-- A head's query before the rotation, at feature `n` of its 128. -/
def plain (q : Fin 384 → EReal) (w : Fin 384 → Fin 8 → Fin 192 → EReal) (h : Fin 8) (n : Fin 128) : EReal :=
  ∑ a, q a * w a h ⟨n.val, by omega⟩

/-- The part of a head's query that is rotated, at feature `j` of its 64. -/
def toTurn (q : Fin 384 → EReal) (w : Fin 384 → Fin 8 → Fin 192 → EReal) (h : Fin 8) (j : Fin 64) : EReal :=
  ∑ a, q a * w a h ⟨128 + j.val, by omega⟩

/-- A head's query against the latent's weights, scaled. -/
def absorbed (q : Fin 384 → EReal) (w : Fin 384 → Fin 8 → Fin 192 → EReal) (wk : Fin 256 → Fin 8 → Fin 128 → EReal)
    (h : Fin 8) (r : Fin 256) : EReal :=
  (∑ n, wk r h n * plain q w h n) * scale

/-- A head's rotated query, scaled. -/
def turnedQuery (q : Fin 384 → EReal) (w : Fin 384 → Fin 8 → Fin 192 → EReal) (p : BitVec 32) (h : Fin 8) (j : Fin 64) : EReal :=
  rotated (toTurn q w h) (cosAt p) (sinAt p) j * scale

/-- A head's query: the two side by side with zeros behind. -/
def query (q : Fin 384 → EReal) (w : Fin 384 → Fin 8 → Fin 192 → EReal) (wk : Fin 256 → Fin 8 → Fin 128 → EReal)
    (p : BitVec 32) (h : Fin 8) (j : Fin 384) : EReal :=
  joined (absorbed q w wk h) (turnedQuery q w p h) j

/-- The scale is a positive number. -/
theorem scale_pos : ∃ r : ℝ, 0 < r ∧ scale = (r : EReal) := by
  refine ⟨13974421 * (2 : ℝ) ^ (-27 : Int), by positivity, ?_⟩
  simp [scale, Ideal.ofBits, Ideal.ieee]

/-- A positive number as a factor goes through a sum. -/
theorem sum_mul_pos {n : ℕ} (f : Fin n → EReal) (c : EReal) (hc : ∃ r : ℝ, 0 < r ∧ c = (r : EReal)) :
    (∑ k, f k) * c = ∑ k, f k * c := by
  obtain ⟨r, hr, rfl⟩ := hc
  induction n with
  | zero => simp
  | succ n ih =>
    rw [Fin.sum_univ_succ, Fin.sum_univ_succ, EReal.right_distrib_of_nonneg_of_ne_top (EReal.coe_nonneg.2 hr.le) (EReal.coe_ne_top r), ih]

/-- Scaling each feature of the query before the product is scaling the product. -/
theorem absorbed_eq (q : Fin 384 → EReal) (w : Fin 384 → Fin 8 → Fin 192 → EReal) (wk : Fin 256 → Fin 8 → Fin 128 → EReal)
    (h : Fin 8) (r : Fin 256) : (∑ n, plain q w h n * scale * wk r h n) = absorbed q w wk h r := by
  unfold absorbed
  rw [sum_mul_pos _ _ scale_pos]
  refine Finset.sum_congr rfl fun n _ => ?_
  rw [mul_comm (wk r h n), mul_assoc, mul_assoc, mul_comm scale]

end Cert.QueryRows

end
-- ==== Proof.QueryKernel.lean ====
/- What the call for the prompt group's absorbed queries leaves in its result: head `h` of row `r` of the 33024 rows is that of
   position `r % 2064` of sequence `r / 2064`. -/
module

public import proofs.«01_k».proof.Proof.Gen.Kernel7Ideal.Value
public import proofs.«01_k».proof.Proof.QueryRows
public import proofs.«01_k».proof.Proof.ProjRows
public import Idealize.ShloMosaic.Lib.StableHlo.ReadAt
public import Idealize.ShloMosaic.Lib.Tactic
public import Idealize.ShloMosaic.Lib.Pipeline.ValueKit

@[expose] public section

set_option maxRecDepth 16384

noncomputable section

namespace Cert.QueryKernel

open Idealize.ShloMosaic Idealize.ShloMosaic.TcCoe Idealize.SL.Sem Cert.Kernel7Ideal Cert.Kernel7Ideal.Gen Cert.Rows Cert.KvRows Cert.QueryRows Cert.ProjRows

variable (m : (ℓ : Loc nD τ sig) → Buf (Elt Ideal) ℓ) (c : Dev nD)

/-- The offsets of a whole block are zero. -/
theorem hz : (![0, 0] : Fin 2 → Nat) = fun _ => 0 := funext fun a => by fin_cases a <;> rfl

/-! ## The payloads, row by row -/

/-- A head's column of the weights of the part that is not rotated. -/
def col (h : Fin 8) (n : Fin 128) : Fin 1024 := ⟨h.val * 128 + n.val, by omega⟩
/-- A head's column of the weights of the part that is. -/
def lane (h : Fin 8) (j : Fin 64) : Fin 512 := ⟨h.val * 64 + j.val, by omega⟩

/-- The compressed query's payload at a place. -/
theorem pay3_at (x0 : Vec Ideal S688x1024 .f32) (x1 : Vec Ideal S1x1024 .f32) (x2 : Vec Ideal S1024x384 .bf16)
    (x3 : Vec Ideal S1x384 .f32) (r : Fin 688) (j : Fin 384) :
    k0_pay3 (F := Ideal) x0 x1 x2 x3 (ix2 r j)
      = compressed (fun k => x0 (ix2 r k)) (fun k => x1 (ix2 0 k)) (fun k j => x2 (ix2 k j)) (fun j => x3 (ix2 0 j)) j := by
  pointwise [k0_pay3]
  rfl

/-- The payload of the part that is not rotated, at a place. -/
theorem pay5_at (x0 : Vec Ideal S688x1024 .f32) (x1 : Vec Ideal S1x1024 .f32) (x2 : Vec Ideal S1024x384 .bf16)
    (x3 : Vec Ideal S1x384 .f32) (x4 : Vec Ideal S384x1024 .bf16) (r : Fin 688) (l : Fin 1024) :
    k0_pay5 (F := Ideal) (k0_pay4 x0 x1 x2 x3 x4) (ix2 r l) = (∑ a, k0_pay3 (F := Ideal) x0 x1 x2 x3 (ix2 r a) * x4 (ix2 a l)) * scale := by
  pointwise [k0_pay5, k0_pay4]
  rfl

/-- The printed test of a lane says whether it lies in the first half of its head's 64. -/
theorem lane_test : ∀ l : Fin 512,
    (IntOp.cmpi CmpIPredicate.slt
      (Scalar.select
        (IntOp.andi
          (IntOp.xori
            (IntOp.cmpi CmpIPredicate.slt (IntOp.remsi ArithUnit.vector (BitVec.ofNat 32 l.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 l.val) (Scalar.select (Scalar.cmpi CmpIPredicate.eq 64#32 0#32) 1#32 64#32)) 0#32))
        (IntOp.addi (IntOp.remsi ArithUnit.vector (BitVec.ofNat 32 l.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val) (Scalar.select (Scalar.cmpi CmpIPredicate.eq 64#32 0#32) 1#32 64#32)))
      32#32) = BitVec.ofBool (decide (l.val % 64 < 32)) := by
  decide +kernel

/-- The rotated part's payload at a place of a head. -/
theorem pay6_at (q : FVec Ideal S688x384 .bf16) (x5 : Vec Ideal S384x512 .bf16) (x7 x8 : Vec Ideal S688x512 .f32) (r : Fin 688) (h : Fin 8) (j : Fin 64) :
    k0_pay6 (F := Ideal) q x5 x7 x8 (ix2 r (lane h j))
      = ((∑ a, q (ix2 r a) * x5 (ix2 a (lane h j))) * x7 (ix2 r (lane h j))
        + (if hj : j.val < 32 then ∑ a, q (ix2 r a) * x5 (ix2 a (lane h ⟨32 + j.val, by omega⟩)) else ∑ a, q (ix2 r a) * x5 (ix2 a (lane h ⟨j.val - 32, by omega⟩)))
          * x8 (ix2 r (lane h j))) * scale := by
  have hl : (lane h j).val % 64 = j.val := by show (h.val * 64 + j.val) % 64 = j.val; omega
  pointwise [k0_pay6]
  rw [lane_test, hl]
  by_cases hj : j.val < 32
  · rw [dif_pos hj, decide_eq_true hj]
    have e : (⟨((lane h j).val + 512 - 480) % 512, by omega⟩ : Fin 512) = lane h ⟨32 + j.val, by omega⟩ :=
      Fin.ext (by show (h.val * 64 + j.val + 512 - 480) % 512 = h.val * 64 + (32 + j.val); omega)
    rw [← e]
    rfl
  · rw [dif_neg hj, decide_eq_false hj]
    have e : (⟨((lane h j).val + 512 - 32) % 512, by omega⟩ : Fin 512) = lane h ⟨j.val - 32, by omega⟩ :=
      Fin.ext (by show (h.val * 64 + j.val + 512 - 32) % 512 = h.val * 64 + (j.val - 32); omega)
    rw [← e]
    rfl

/-! ## What the body stores for a head -/

/-- A head's columns lie within the 1024. -/
theorem cut_col (h : Fin 8) : S688x1024.Slices ![0, h.val * 128] S688x128 := by
  revert h
  decide +kernel
/-- A head's lanes lie within the 512. -/
theorem cut_lane (h : Fin 8) : S688x512.Slices ![0, h.val * 64] S688x64 := by
  revert h
  decide +kernel
/-- A head's matrix lies within the eight. -/
theorem inb_head (h : Fin 8) : ∀ a, (![h.val, 0, 0] : Fin 3 → ℕ) a + S1x128x256.size a ≤ S8x128x256.size a := by
  revert h
  decide +kernel
/-- A head's latent part lies within the block. -/
theorem inb_lat (h : Fin 8) : ∀ a, (![h.val, 0, 0] : Fin 3 → ℕ) a + S1x688x256.size a ≤ S8x688x384.size a := by
  revert h
  decide +kernel
/-- A head's rotated part lies within the block. -/
theorem inb_rot (h : Fin 8) : ∀ a, (![h.val, 0, 256] : Fin 3 → ℕ) a + S1x688x64.size a ≤ S8x688x384.size a := by
  revert h
  decide +kernel
/-- A head's zeros lie within the block. -/
theorem inb_pad (h : Fin 8) : ∀ a, (![h.val, 0, 320] : Fin 3 → ℕ) a + S1x688x64.size a ≤ S8x688x384.size a := by
  revert h
  decide +kernel

/-- Head `h`'s matrix. -/
def headOf (x : Vec Ideal S8x128x256 .bf16) (h : Fin 8) : FVec Ideal S1x128x256 .bf16 :=
  View.ld x (Rect.unit (s := S8x128x256) ![h.val, 0, 0] S1x128x256.size (inb_head h))
/-- Head `h`'s matrix, entry by entry. -/
theorem headOf_at (x : Vec Ideal S8x128x256 .bf16) (h : Fin 8) (n : Fin 128) (r : Fin 256) : headOf x h (ix3 0 n r) = x (ix3 h n r) := by
  show x _ = x _
  congr 1
  funext d
  apply Fin.ext
  match d with
  | ⟨0, _⟩ => show h.val + 1 * 0 = h.val; omega
  | ⟨1, _⟩ => show 0 + 1 * n.val = n.val; omega
  | ⟨2, _⟩ => show 0 + 1 * r.val = r.val; omega

/-- What the body stores of a head's latent part. -/
abbrev storedLat (q : FVec Ideal S688x1024 .bf16) (x : Vec Ideal S8x128x256 .bf16) (h : Fin 8) : FVec Ideal S1x688x256 .bf16 :=
  shapeCast S1x688x256 (truncf .bf16 (matmul dot_S688x128_S128x256_S688x256_1_0_0_1_n_n none
    (extractStridedSlice S688x128 ![0, h.val * 128] q (cut_col h)) (shapeCast S128x256 (headOf x h) shapeCasts_S1x128x256_S128x256 : FVec Ideal S128x256 .bf16)
    (constant S688x256 .f32 0x00000000#32)) bitsLt_bf16_f32) shapeCasts_S688x256_S1x688x256
/-- What it stores of its rotated part. -/
abbrev storedRot (q : FVec Ideal S688x512 .bf16) (h : Fin 8) : FVec Ideal S1x688x64 .bf16 :=
  shapeCast S1x688x64 (extractStridedSlice S688x64 ![0, h.val * 64] q (cut_lane h)) shapeCasts_S688x64_S1x688x64

/-- The latent part, entry by entry. -/
theorem storedLat_at (q : FVec Ideal S688x1024 .bf16) (x : Vec Ideal S8x128x256 .bf16) (h : Fin 8) (r : Fin 688) (k : Fin 256) :
    storedLat q x h (ix3 0 r k) = ∑ n, q (ix2 r (col h n)) * x (ix3 h n k) := by
  pointwise [storedLat]
  simp only [headOf_at]
  rfl

/-- The rotated part, entry by entry. -/
theorem storedRot_at (q : FVec Ideal S688x512 .bf16) (h : Fin 8) (r : Fin 688) (j : Fin 64) :
    storedRot q h (ix3 0 r j) = q (ix2 r (lane h j)) := by
  pointwise [storedRot]
  rfl

/-- The zeros, entry by entry. -/
theorem pad_at (x : S1x688x64.Idx) : k0_pay2 (F := Ideal) x = 0 := by
  obtain ⟨u, r, j, rfl⟩ : ∃ (u : Fin 1) (r : Fin 688) (j : Fin 64), x = ix3 u r j := ⟨x 0, x 1, x 2, eq_ix3 x⟩
  pointwise [k0_pay2]

/-! ## The arrays the windows read -/

/-- The residual's row. -/
def hRow (r : Fin 33024) (k : Fin 1024) : EReal := m ((c : Thread nD τ).loc main_arg0) (ix3 (⟨r.val / 2064, by omega⟩ : Fin 16) (⟨r.val % 2064, by omega⟩ : Fin 2064) k)
/-- Its position, as the host's word. -/
def pos (r : Fin 33024) : BitVec 32 := BitVec.ofNat 32 (r.val % 2064)
/-- The gain of the first norm. -/
def gain (k : Fin 1024) : EReal := m ((c : Thread nD τ).loc main_arg1) (ix1 k)
/-- The compressed query's weights. -/
def wdq (k : Fin 1024) (j : Fin 384) : EReal := m ((c : Thread nD τ).loc main_arg2) (ix2 k j)
/-- The gain of the compressed query's norm. -/
def gainQ (j : Fin 384) : EReal := m ((c : Thread nD τ).loc main_arg3) (ix1 j)
/-- The heads' query weights. -/
def wuq (a : Fin 384) (h : Fin 8) (n : Fin 192) : EReal := m ((c : Thread nD τ).loc main_arg4) (ix3 a h n)
/-- The latent's weights by head. -/
def wuk (r : Fin 256) (h : Fin 8) (n : Fin 128) : EReal := m ((c : Thread nD τ).loc main_arg5) (ix3 r h n)

/-- The host's reshape of the rows, at an entry. -/
theorem V_h (a : Fin 33024) (l : Fin 1024) : V m c main_v18 (ix2 a l) = hRow m c a l := by
  unfold V hRow
  after_reads_at
/-- The host's row of the first gain, at an entry. -/
theorem V_gain (a : Fin 1) (l : Fin 1024) : V m c main_v19 (ix2 a l) = gain m c l := by
  unfold V gain
  after_reads_at
/-- The host's cast of the compressed query's weights, at an entry. -/
theorem V_wdq (a : Fin 1024) (l : Fin 384) : V m c main_v20 (ix2 a l) = wdq m c a l := by
  unfold V wdq
  after_reads_at
/-- The host's row of the second gain, at an entry. -/
theorem V_gainQ (a : Fin 1) (l : Fin 384) : V m c main_v21 (ix2 a l) = gainQ m c l := by
  unfold V gainQ
  after_reads_at
/-- The host's columns of the heads' first 128 features, at an entry. -/
theorem V_plain (a : Fin 384) (l : Fin 1024) : V m c main_v24 (ix2 a l) = wuq m c a ⟨l.val / 128, by omega⟩ ⟨l.val % 128, by omega⟩ := by
  unfold V wuq
  after_reads_at
/-- The host's columns of the heads' last 64 features, at an entry. -/
theorem V_turn (a : Fin 384) (l : Fin 512) : V m c main_v27 (ix2 a l) = wuq m c a ⟨l.val / 64, by omega⟩ ⟨128 + l.val % 64, by omega⟩ := by
  unfold V wuq
  after_reads_at
/-- The host's transposed latent weights, at an entry. -/
theorem V_wuk (h : Fin 8) (n : Fin 128) (r : Fin 256) : V m c main_v29 (ix3 h n r) = wuk m c r h n := by
  unfold V wuk
  after_reads_at
/-- The host's table of cosines, once for each head, at an entry. -/
theorem V_cos (a : Fin 2064) (l : Fin 512) : V m c main_v32 (ix2 a l)
    = if h : l.val % 64 < 32 then cosAt (BitVec.ofNat 32 a.val) ⟨l.val % 64, h⟩ else cosAt (BitVec.ofNat 32 a.val) ⟨l.val % 64 - 32, by omega⟩ := by
  unfold V cosAt angle
  after_reads_at
  split
  · after_reads_at
  · after_reads_at
/-- The host's table of signed sines, once for each head, at an entry. -/
theorem V_sin (a : Fin 2064) (l : Fin 512) : V m c main_v35 (ix2 a l)
    = if h : l.val % 64 < 32 then -sinAt (BitVec.ofNat 32 a.val) ⟨l.val % 64, h⟩ else sinAt (BitVec.ofNat 32 a.val) ⟨l.val % 64 - 32, by omega⟩ := by
  unfold V sinAt angle
  after_reads_at
  split
  · after_reads_at
  · after_reads_at

/-- Where each window's block starts at grid point `t` (in blocks). -/
theorem starts : ∀ t : Fin cfg0.N,
    (cc0_transform_0 (grid0.coords t) 0 = t.val ∧ cc0_transform_0 (grid0.coords t) 1 = 0)
    ∧ (cc0_transform_1 (grid0.coords t) 0 = 0 ∧ cc0_transform_1 (grid0.coords t) 1 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = 0)
    ∧ (cc0_transform_5 (grid0.coords t) 0 = 0 ∧ cc0_transform_5 (grid0.coords t) 1 = 0)
    ∧ (cc0_transform_6 (grid0.coords t) 0 = 0 ∧ cc0_transform_6 (grid0.coords t) 1 = 0 ∧ cc0_transform_6 (grid0.coords t) 2 = 0)
    ∧ (cc0_transform_7 (grid0.coords t) 0 = t.val % 3 ∧ cc0_transform_7 (grid0.coords t) 1 = 0)
    ∧ (cc0_transform_8 (grid0.coords t) 0 = t.val % 3 ∧ cc0_transform_8 (grid0.coords t) 1 = 0)
    ∧ (cc0_transform_9 (grid0.coords t) 0 = 0 ∧ cc0_transform_9 (grid0.coords t) 1 = t.val ∧ cc0_transform_9 (grid0.coords t) 2 = 0) :=
  (by decide +kernel : ∀ t : Fin grid0.N, _)

/-- Row `r` of the residual's block at point `t` is row `688 * t + r` of the residual. -/
theorem blk0 (t : Fin cfg0.N) (r : Fin 688) (l : Fin 1024) (q : Fin 33024) (hq : q.val = t.val * 688 + r.val) :
    (iblk m c 0 t : Vec Ideal S688x1024 .f32) (ix2 r l) = hRow m c q l := by
  obtain ⟨e0, e1⟩ := (starts t).1
  refine Eq.trans ?_ (V_h m c q l)
  unfold iblk
  rw [View.read_apply]
  show V m c main_v18 _ = _
  congr 1
  funext d
  apply Fin.ext
  match d with
  | ⟨0, _⟩ => change cc0_transform_0 (grid0.coords t) 0 * 688 + 1 * r.val = q.val; rw [e0]; omega
  | ⟨1, _⟩ => change cc0_transform_0 (grid0.coords t) 1 * 1024 + 1 * l.val = l.val; rw [e1]; omega

/-- The gain's block is the whole row. -/
theorem blk1 (t : Fin cfg0.N) (l : Fin 1024) :
    (iblk m c 1 t : Vec Ideal S1x1024 .f32) (ix2 0 l) = gain m c l := by
  obtain ⟨e0, e1⟩ := (starts t).2.1
  refine Eq.trans ?_ (V_gain m c 0 l)
  unfold iblk
  rw [View.read_apply]
  show V m c main_v19 _ = _
  congr 1
  funext d
  apply Fin.ext
  match d with
  | ⟨0, _⟩ => change cc0_transform_1 (grid0.coords t) 0 * 1 + 1 * 0 = 0; rw [e0]
  | ⟨1, _⟩ => change cc0_transform_1 (grid0.coords t) 1 * 1024 + 1 * l.val = l.val; rw [e1]; omega

/-- The compressed query's weights' block is the whole matrix. -/
theorem blk2 (t : Fin cfg0.N) (k : Fin 1024) (l : Fin 384) :
    (iblk m c 2 t : Vec Ideal S1024x384 .bf16) (ix2 k l) = wdq m c k l := by
  obtain ⟨e0, e1⟩ := (starts t).2.2.1
  refine Eq.trans ?_ (V_wdq m c k l)
  unfold iblk
  rw [View.read_apply]
  show V m c main_v20 _ = _
  congr 1
  funext d
  apply Fin.ext
  match d with
  | ⟨0, _⟩ => change cc0_transform_2 (grid0.coords t) 0 * 1024 + 1 * k.val = k.val; rw [e0]; omega
  | ⟨1, _⟩ => change cc0_transform_2 (grid0.coords t) 1 * 384 + 1 * l.val = l.val; rw [e1]; omega

/-- The second gain's block is the whole row. -/
theorem blk3 (t : Fin cfg0.N) (l : Fin 384) :
    (iblk m c 3 t : Vec Ideal S1x384 .f32) (ix2 0 l) = gainQ m c l := by
  obtain ⟨e0, e1⟩ := (starts t).2.2.2.1
  refine Eq.trans ?_ (V_gainQ m c 0 l)
  unfold iblk
  rw [View.read_apply]
  show V m c main_v21 _ = _
  congr 1
  funext d
  apply Fin.ext
  match d with
  | ⟨0, _⟩ => change cc0_transform_3 (grid0.coords t) 0 * 1 + 1 * 0 = 0; rw [e0]
  | ⟨1, _⟩ => change cc0_transform_3 (grid0.coords t) 1 * 384 + 1 * l.val = l.val; rw [e1]; omega

/-- The block of the heads' first features' weights holds them head by head. -/
theorem blk4 (t : Fin cfg0.N) (a : Fin 384) (l : Fin 1024) :
    (iblk m c 4 t : Vec Ideal S384x1024 .bf16) (ix2 a l) = wuq m c a ⟨l.val / 128, by omega⟩ ⟨l.val % 128, by omega⟩ := by
  obtain ⟨e0, e1⟩ := (starts t).2.2.2.2.1
  refine Eq.trans ?_ (V_plain m c a l)
  unfold iblk
  rw [View.read_apply]
  show V m c main_v24 _ = _
  congr 1
  funext d
  apply Fin.ext
  match d with
  | ⟨0, _⟩ => change cc0_transform_4 (grid0.coords t) 0 * 384 + 1 * a.val = a.val; rw [e0]; omega
  | ⟨1, _⟩ => change cc0_transform_4 (grid0.coords t) 1 * 1024 + 1 * l.val = l.val; rw [e1]; omega

/-- The block of the heads' last features' weights holds them head by head. -/
theorem blk5 (t : Fin cfg0.N) (a : Fin 384) (l : Fin 512) :
    (iblk m c 5 t : Vec Ideal S384x512 .bf16) (ix2 a l) = wuq m c a ⟨l.val / 64, by omega⟩ ⟨128 + l.val % 64, by omega⟩ := by
  obtain ⟨e0, e1⟩ := (starts t).2.2.2.2.2.1
  refine Eq.trans ?_ (V_turn m c a l)
  unfold iblk
  rw [View.read_apply]
  show V m c main_v27 _ = _
  congr 1
  funext d
  apply Fin.ext
  match d with
  | ⟨0, _⟩ => change cc0_transform_5 (grid0.coords t) 0 * 384 + 1 * a.val = a.val; rw [e0]; omega
  | ⟨1, _⟩ => change cc0_transform_5 (grid0.coords t) 1 * 512 + 1 * l.val = l.val; rw [e1]; omega

/-- The block of the latent's weights is all of them. -/
theorem blk6 (t : Fin cfg0.N) (h : Fin 8) (n : Fin 128) (r : Fin 256) :
    (iblk m c 6 t : Vec Ideal S8x128x256 .bf16) (ix3 h n r) = wuk m c r h n := by
  obtain ⟨e0, e1, e2⟩ := (starts t).2.2.2.2.2.2.1
  refine Eq.trans ?_ (V_wuk m c h n r)
  unfold iblk
  rw [View.read_apply]
  show V m c main_v29 _ = _
  congr 1
  funext d
  apply Fin.ext
  match d with
  | ⟨0, _⟩ => change cc0_transform_6 (grid0.coords t) 0 * 8 + 1 * h.val = h.val; rw [e0]; omega
  | ⟨1, _⟩ => change cc0_transform_6 (grid0.coords t) 1 * 128 + 1 * n.val = n.val; rw [e1]; omega
  | ⟨2, _⟩ => change cc0_transform_6 (grid0.coords t) 2 * 256 + 1 * r.val = r.val; rw [e2]; omega

/-- The block of cosines at point `t` holds those of its rows' positions. -/
theorem blk7 (t : Fin cfg0.N) (r : Fin 688) (l : Fin 512) (q : Fin 33024) (hq : q.val = t.val * 688 + r.val) :
    (iblk m c 7 t : Vec Ideal S688x512 .f32) (ix2 r l) = if h : l.val % 64 < 32 then cosAt (pos q) ⟨l.val % 64, h⟩ else cosAt (pos q) ⟨l.val % 64 - 32, by omega⟩ := by
  obtain ⟨e0, e1⟩ := (starts t).2.2.2.2.2.2.2.1
  refine Eq.trans ?_ (V_cos m c ⟨q.val % 2064, by omega⟩ l)
  unfold iblk
  rw [View.read_apply]
  show V m c main_v32 _ = _
  congr 1
  funext d
  apply Fin.ext
  match d with
  | ⟨0, _⟩ => change cc0_transform_7 (grid0.coords t) 0 * 688 + 1 * r.val = q.val % 2064; rw [e0]; omega
  | ⟨1, _⟩ => change cc0_transform_7 (grid0.coords t) 1 * 512 + 1 * l.val = l.val; rw [e1]; omega

/-- The block of sines at point `t` holds those of its rows' positions. -/
theorem blk8 (t : Fin cfg0.N) (r : Fin 688) (l : Fin 512) (q : Fin 33024) (hq : q.val = t.val * 688 + r.val) :
    (iblk m c 8 t : Vec Ideal S688x512 .f32) (ix2 r l) = if h : l.val % 64 < 32 then -sinAt (pos q) ⟨l.val % 64, h⟩ else sinAt (pos q) ⟨l.val % 64 - 32, by omega⟩ := by
  obtain ⟨e0, e1⟩ := (starts t).2.2.2.2.2.2.2.2.1
  refine Eq.trans ?_ (V_sin m c ⟨q.val % 2064, by omega⟩ l)
  unfold iblk
  rw [View.read_apply]
  show V m c main_v35 _ = _
  congr 1
  funext d
  apply Fin.ext
  match d with
  | ⟨0, _⟩ => change cc0_transform_8 (grid0.coords t) 0 * 688 + 1 * r.val = q.val % 2064; rw [e0]; omega
  | ⟨1, _⟩ => change cc0_transform_8 (grid0.coords t) 1 * 512 + 1 * l.val = l.val; rw [e1]; omega

/-! ## The result -/

/-- The result's array. -/
def queries : FVec Ideal S8x33024x384 .bf16 := fun i =>
  query (compressed (hRow m c (i 1)) (gain m c) (wdq m c) (gainQ m c)) (wuq m c) (wuk m c) (pos (i 1)) (i 0) (i 2)

/-- The row that row `r` of the block at point `t` is. -/
def rowOf (t : Fin cfg0.N) (r : Fin 688) : Fin 33024 := ⟨t.val * 688 + r.val, by have := lt_of_lt_of_eq t.isLt N_0; omega⟩

/-- The block of point `t`. -/
def blockSpec (t : Fin cfg0.N) : S8x688x384.Idx → EReal := fun y => queries m c (ix3 (y 0) (rowOf t (y 1)) (y 2))

/-- The compressed query's payload at point `t`. -/
theorem compressed_tile (t : Fin cfg0.N) (r : Fin 688) (j : Fin 384) :
    k0_pay3 (F := Ideal) (iblk m c 0 t) (iblk m c 1 t) (iblk m c 2 t) (iblk m c 3 t) (ix2 r j)
      = compressed (hRow m c (rowOf t r)) (gain m c) (wdq m c) (gainQ m c) j := by
  refine (pay3_at _ _ _ _ r j).trans ?_
  simp only [blk0 m c t r _ (rowOf t r) rfl, blk1, blk2, blk3]

/-- A head's latent part at point `t`. -/
theorem lat_tile (t : Fin cfg0.N) (h : Fin 8) (r : Fin 688) (k : Fin 256) :
    storedLat (k0_pay5 (k0_pay4 (iblk m c 0 t) (iblk m c 1 t) (iblk m c 2 t) (iblk m c 3 t) (iblk m c 4 t))) (iblk m c 6 t) h (ix3 0 r k)
      = absorbed (compressed (hRow m c (rowOf t r)) (gain m c) (wdq m c) (gainQ m c)) (wuq m c) (wuk m c) h k := by
  refine (storedLat_at _ _ h r k).trans (Eq.trans ?_ (absorbed_eq _ _ _ h k))
  refine Finset.sum_congr rfl fun n _ => ?_
  have e : ∀ a, (iblk m c 4 t : Vec Ideal S384x1024 .bf16) (ix2 a (col h n)) = wuq m c a h ⟨n.val, by omega⟩ := by
    intro a
    refine (blk4 m c t a (col h n)).trans ?_
    refine congrArg₂ (wuq m c a) (Fin.ext ?_) (Fin.ext ?_)
    · show (h.val * 128 + n.val) / 128 = h.val; omega
    · show (h.val * 128 + n.val) % 128 = n.val; omega
  refine congrArg₂ (· * ·) ((pay5_at _ _ _ _ _ r (col h n)).trans ?_) (blk6 m c t h n k)
  simp only [compressed_tile, e]
  rfl

/-- A head's rotated part at point `t`. -/
theorem rot_tile (t : Fin cfg0.N) (h : Fin 8) (r : Fin 688) (j : Fin 64) :
    storedRot (k0_pay6 (k0_pay3 (iblk m c 0 t) (iblk m c 1 t) (iblk m c 2 t) (iblk m c 3 t)) (iblk m c 5 t) (iblk m c 7 t) (iblk m c 8 t)) h (ix3 0 r j)
      = turnedQuery (compressed (hRow m c (rowOf t r)) (gain m c) (wdq m c) (gainQ m c)) (wuq m c) (pos (rowOf t r)) h j := by
  refine (storedRot_at _ h r j).trans ((pay6_at _ _ _ _ r h j).trans ?_)
  have hl : ∀ j : Fin 64, (lane h j).val % 64 = j.val := fun j => by show (h.val * 64 + j.val) % 64 = j.val; omega
  have e : ∀ (j : Fin 64) a, (iblk m c 5 t : Vec Ideal S384x512 .bf16) (ix2 a (lane h j)) = wuq m c a h ⟨128 + j.val, by omega⟩ := by
    intro j a
    refine (blk5 m c t a (lane h j)).trans ?_
    refine congrArg₂ (wuq m c a) (Fin.ext ?_) (Fin.ext ?_)
    · show (h.val * 64 + j.val) / 64 = h.val; omega
    · show 128 + (lane h j).val % 64 = 128 + j.val; rw [hl]
  simp only [compressed_tile, e]
  refine congrArg (· * scale) ?_
  refine rotated_eq (toTurn (compressed (hRow m c (rowOf t r)) (gain m c) (wdq m c) (gainQ m c)) (wuq m c) h)
    (fun j => if hj : j.val < 32 then toTurn (compressed (hRow m c (rowOf t r)) (gain m c) (wdq m c) (gainQ m c)) (wuq m c) h ⟨32 + j.val, by omega⟩
      else toTurn (compressed (hRow m c (rowOf t r)) (gain m c) (wdq m c) (gainQ m c)) (wuq m c) h ⟨j.val - 32, by omega⟩)
    (cosAt (pos (rowOf t r))) (sinAt (pos (rowOf t r)))
    (fun j => (iblk m c 7 t : Vec Ideal S688x512 .f32) (ix2 r (lane h j))) (fun j => (iblk m c 8 t : Vec Ideal S688x512 .f32) (ix2 r (lane h j)))
    (fun j => rfl) (fun j => ?_) (fun j => ?_) j
  · refine (blk7 m c t r (lane h j) (rowOf t r) rfl).trans ?_
    simp only [hl]
  · refine (blk8 m c t r (lane h j) (rowOf t r) rfl).trans ?_
    simp only [hl]

/-- A stored latent part is a piece of the block. -/
theorem latPiece (t : Fin cfg0.N) (h : Fin 8) (x : S1x688x256.Idx) :
    storedLat (k0_pay5 (k0_pay4 (iblk m c 0 t) (iblk m c 1 t) (iblk m c 2 t) (iblk m c 3 t) (iblk m c 4 t))) (iblk m c 6 t) h x
      = blockSpec m c t ((Rect.unit (s := S8x688x384) ![h.val, 0, 0] S1x688x256.size (inb_lat h)).emb x) := by
  obtain ⟨u, r, k, rfl⟩ : ∃ (u : Fin 1) (r : Fin 688) (k : Fin 256), x = ix3 u r k := ⟨x 0, x 1, x 2, eq_ix3 x⟩
  obtain rfl : u = 0 := Subsingleton.elim _ _
  have e : (Rect.unit (s := S8x688x384) ![h.val, 0, 0] S1x688x256.size (inb_lat h)).emb (ix3 0 r k) = ix3 h r (⟨k.val, by omega⟩ : Fin 384) := by
    funext d
    apply Fin.ext
    match d with
    | ⟨0, _⟩ => show h.val + 1 * 0 = h.val; omega
    | ⟨1, _⟩ => show 0 + 1 * r.val = r.val; omega
    | ⟨2, _⟩ => show 0 + 1 * k.val = k.val; omega
  rw [e]
  refine (lat_tile m c t h r k).trans ?_
  show _ = joined _ _ (⟨k.val, by omega⟩ : Fin 384)
  unfold joined
  rw [dif_pos k.isLt]
  rfl

/-- A stored rotated part is a piece of the block. -/
theorem rotPiece (t : Fin cfg0.N) (h : Fin 8) (x : S1x688x64.Idx) :
    storedRot (k0_pay6 (k0_pay3 (iblk m c 0 t) (iblk m c 1 t) (iblk m c 2 t) (iblk m c 3 t)) (iblk m c 5 t) (iblk m c 7 t) (iblk m c 8 t)) h x
      = blockSpec m c t ((Rect.unit (s := S8x688x384) ![h.val, 0, 256] S1x688x64.size (inb_rot h)).emb x) := by
  obtain ⟨u, r, k, rfl⟩ : ∃ (u : Fin 1) (r : Fin 688) (k : Fin 64), x = ix3 u r k := ⟨x 0, x 1, x 2, eq_ix3 x⟩
  obtain rfl : u = 0 := Subsingleton.elim _ _
  have e : (Rect.unit (s := S8x688x384) ![h.val, 0, 256] S1x688x64.size (inb_rot h)).emb (ix3 0 r k) = ix3 h r (⟨256 + k.val, by omega⟩ : Fin 384) := by
    funext d
    apply Fin.ext
    match d with
    | ⟨0, _⟩ => show h.val + 1 * 0 = h.val; omega
    | ⟨1, _⟩ => show 0 + 1 * r.val = r.val; omega
    | ⟨2, _⟩ => show 256 + 1 * k.val = 256 + k.val; omega
  rw [e]
  refine (rot_tile m c t h r k).trans ?_
  show _ = joined _ _ (⟨256 + k.val, by omega⟩ : Fin 384)
  unfold joined
  rw [dif_neg (by show ¬(256 + k.val < 256); omega), dif_pos (by show 256 + k.val - 256 < 64; omega)]
  have e' : (⟨256 + k.val - 256, by omega⟩ : Fin 64) = k := Fin.ext (by show 256 + k.val - 256 = k.val; omega)
  show _ = turnedQuery _ _ _ _ (⟨256 + k.val - 256, by omega⟩ : Fin 64)
  rw [e']
  rfl

/-- Stored zeros are a piece of the block. -/
theorem padPiece (t : Fin cfg0.N) (h : Fin 8) (x : S1x688x64.Idx) :
    k0_pay2 (F := Ideal) x = blockSpec m c t ((Rect.unit (s := S8x688x384) ![h.val, 0, 320] S1x688x64.size (inb_pad h)).emb x) := by
  obtain ⟨u, r, k, rfl⟩ : ∃ (u : Fin 1) (r : Fin 688) (k : Fin 64), x = ix3 u r k := ⟨x 0, x 1, x 2, eq_ix3 x⟩
  obtain rfl : u = 0 := Subsingleton.elim _ _
  refine (pad_at _).trans ?_
  show _ = joined _ _ (⟨320 + 1 * k.val, _⟩ : Fin 384)
  unfold joined
  rw [dif_neg (by show ¬(320 + 1 * k.val < 256); omega), dif_neg (by show ¬(320 + 1 * k.val - 256 < 64); omega)]

/-- The block that point `t` leaves. -/
theorem block9 (t : Fin cfg0.N) (y : S8x688x384.Idx) : outsAt0 m c t y = blockSpec m c t y := by
  unfold outsAt0
  unfold out0_A_9
  refine (congrFun (View.read_writes_eq_canon _ _ _ (fun y => ?_)) _).trans ?_
  · exact cover0_A_9 (y := y) ..
  refine canon_pieces (Val := Elt Ideal) (blockSpec m c t) _ _ (cover0_A_9 (y := y) ..) ?_
  unfold kernelRun0_A
  dsimp only
  sl_unfold_words
  simp only [View.readAt_eq_ld, Memref.IsWhole.read_unread, View.ld_unit_zero (S := S688x1024) hz, View.ld_unit_zero (S := S1x1024) hz, View.ld_unit_zero (S := S1024x384) hz, View.ld_unit_zero (S := S1x384) hz, View.ld_unit_zero (S := S384x1024) hz, View.ld_unit_zero (S := S384x512) hz, View.ld_unit_zero (S := S688x512) hz]
  exact ⟨fun x => padPiece m c t 7 x, fun x => rotPiece m c t 7 x, fun x => latPiece m c t 7 x, fun x => padPiece m c t 6 x, fun x => rotPiece m c t 6 x, fun x => latPiece m c t 6 x, fun x => padPiece m c t 5 x, fun x => rotPiece m c t 5 x, fun x => latPiece m c t 5 x, fun x => padPiece m c t 4 x, fun x => rotPiece m c t 4 x, fun x => latPiece m c t 4 x, fun x => padPiece m c t 3 x, fun x => rotPiece m c t 3 x, fun x => latPiece m c t 3 x, fun x => padPiece m c t 2 x, fun x => rotPiece m c t 2 x, fun x => latPiece m c t 2 x, fun x => padPiece m c t 1 x, fun x => rotPiece m c t 1 x, fun x => latPiece m c t 1 x, fun x => padPiece m c t 0 x, fun x => rotPiece m c t 0 x, fun x => latPiece m c t 0 x, trivial⟩

/-- Window 9's array after the run. -/
theorem arr9 : (dats m 0 c).arrAt 9 cfg0.N = queries m c := by
  refine (dats m 0 c).arrAt_eq_of_covers 9 _ (by decide +kernel) fun t hf y => ?_
  obtain ⟨h, r, j, rfl⟩ : ∃ (h : Fin 8) (r : Fin 688) (j : Fin 384), y = ix3 h r j := ⟨y 0, y 1, y 2, eq_ix3 y⟩
  obtain ⟨e0, e1, e2⟩ := (starts t).2.2.2.2.2.2.2.2.2
  have e : ((cfg0.win 9).blk t).view.emb (ix3 h r j) = ix3 h (rowOf t r) j := by
    funext d
    apply Fin.ext
    match d with
    | ⟨0, _⟩ => change cc0_transform_9 (grid0.coords t) 0 * 8 + 1 * h.val = h.val; rw [e0]; omega
    | ⟨1, _⟩ => change cc0_transform_9 (grid0.coords t) 1 * 688 + 1 * r.val = t.val * 688 + r.val; rw [e1]; omega
    | ⟨2, _⟩ => change cc0_transform_9 (grid0.coords t) 2 * 384 + 1 * j.val = j.val; rw [e2]; omega
  rw [e]
  rw [after0_9]
  exact block9 m c t (ix3 h r j)

end Cert.QueryKernel

end
-- ==== Proof.QueryReference.lean ====
/- The reference of the prompt group's absorbed queries, head by head and row by row. -/
module

public import proofs.«01_k».proof.Proof.Gen.Reference7Ideal.Run
public import proofs.«01_k».proof.Proof.QueryRows

@[expose] public section

set_option maxRecDepth 16384

noncomputable section

namespace Cert.QueryReference

open Idealize.ShloMosaic Idealize.ShloMosaic.TcCoe Idealize.SL.Sem Cert.Reference7Ideal Cert.Reference7Ideal.Gen Cert.Rows Cert.KvRows Cert.QueryRows

/-! ## The printed operations, piece by piece -/

/-- The norm over the last axis, 1024 wide. -/
def normed (x : FVec Ideal S16x2064x1024 .f32) (g : FVec Ideal S1024 .f32) : FVec Ideal S16x2064x1024 .f32 :=
  mulf (mulf x (broadcastInDim S16x2064x1024 ![0, 1, 2] bcast_S16x2064x1_S16x2064x1024_0_1_2
    (Host.rsqrt (addf (Host.divf (broadcastInDim S16x2064x1 ![0, 1] bcast_S16x2064_S16x2064x1_0_1
      (Host.reduceAdd (mulf x x) (constant S_ .f32 0x00000000#32) reducesTo_S16x2064x1024_S16x2064_d2 h_S_))
      (broadcastInDim S16x2064x1 ![] bcast_S_S16x2064x1 (constant S_ .f32 0x44800000#32)))
      (broadcastInDim S16x2064x1 ![] bcast_S_S16x2064x1 (constant S_ .f32 0x358637BD#32))))))
    (broadcastInDim S16x2064x1024 ![0, 1, 2] bcast_S1x1x1024_S16x2064x1024_0_1_2 (broadcastInDim S1x1x1024 ![2] bcast_S1024_S1x1x1024_2 g))

/-- The norm over the last axis, 384 wide. -/
def normedQ (x : FVec Ideal S16x2064x384 .f32) (g : FVec Ideal S384 .f32) : FVec Ideal S16x2064x384 .f32 :=
  mulf (mulf x (broadcastInDim S16x2064x384 ![0, 1, 2] bcast_S16x2064x1_S16x2064x384_0_1_2
    (Host.rsqrt (addf (Host.divf (broadcastInDim S16x2064x1 ![0, 1] bcast_S16x2064_S16x2064x1_0_1
      (Host.reduceAdd (mulf x x) (constant S_ .f32 0x00000000#32) reducesTo_S16x2064x384_S16x2064_d2 h_S_))
      (broadcastInDim S16x2064x1 ![] bcast_S_S16x2064x1 (constant S_ .f32 0x43C00000#32)))
      (broadcastInDim S16x2064x1 ![] bcast_S_S16x2064x1 (constant S_ .f32 0x358637BD#32))))))
    (broadcastInDim S16x2064x384 ![0, 1, 2] bcast_S1x1x384_S16x2064x384_0_1_2 (broadcastInDim S1x1x384 ![2] bcast_S384_S1x1x384_2 g))

/-- The product with the compressed query's weights. -/
def down (x : FVec Ideal S16x2064x1024 .f32) (w : FVec Ideal S1024x384 .f32) : FVec Ideal S16x2064x384 .f32 :=
  Host.dotGeneral dot_S16x2064x1024_S1024x384_S16x2064x384_2_0_01_1_n_n none x w

/-- The product with the heads' query weights. -/
def up (x : FVec Ideal S16x2064x384 .f32) (w : FVec Ideal S384x8x192 .f32) : FVec Ideal S16x2064x8x192 .f32 :=
  Host.dotGeneral dot_S16x2064x384_S384x8x192_S16x2064x8x192_2_0_01_12_n_n none x w

/-- The heads' first features against the latent's weights, scaled. -/
def against (x : FVec Ideal S16x2064x8x192 .f32) (w : FVec Ideal S256x8x128 .f32) : FVec Ideal S16x2064x8x256 .f32 :=
  mulf (transpose S16x2064x8x256 [2, 3, 0, 1] (Host.dotGeneral dot_S256x8x128_S16x2064x8x128_S8x256x16x2064_2_3_0_01_1_2 none w
      (extractStridedSlice S16x2064x8x128 ![0, 0, 0, 0] x slices_S16x2064x8x192_S16x2064x8x128_0_0_0_0)) transposes_S8x256x16x2064_S16x2064x8x256_2_3_0_1)
    (broadcastInDim S16x2064x8x256 ![] bcast_S_S16x2064x8x256 (constant S_ .f32 0x3DD53B95#32))

/-- The angles. -/
def angles : FVec Ideal S2064x32 .f32 :=
  mulf (broadcastInDim S2064x32 ![0, 1] bcast_S2064x1_S2064x32_0_1 (broadcastInDim S2064x1 ![0] bcast_S2064_S2064x1_0
      (sitofp .f32 (iotaInDim S2064 32 0))))
    (broadcastInDim S2064x32 ![0, 1] bcast_S1x32_S2064x32_0_1 (broadcastInDim S1x32 ![1] bcast_S32_S1x32_1
      (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32))))))

/-- A table by position and frequency, for every sequence and head. -/
def spread (t : FVec Ideal S2064x32 .f32) : FVec Ideal S16x2064x8x32 .f32 :=
  broadcastInDim S16x2064x8x32 ![0, 1, 2, 3] bcast_S1x2064x1x32_S16x2064x8x32_0_1_2_3
    (broadcastInDim S1x2064x1x32 ![1, 2, 3] bcast_S2064x1x32_S1x2064x1x32_1_2_3 (broadcastInDim S2064x1x32 ![0, 2] bcast_S2064x32_S2064x1x32_0_2 t))

/-- The heads' last features. -/
def lastOf (x : FVec Ideal S16x2064x8x192 .f32) : FVec Ideal S16x2064x8x64 .f32 :=
  extractStridedSlice S16x2064x8x64 ![0, 0, 0, 128] x slices_S16x2064x8x192_S16x2064x8x64_0_0_0_128

/-- The rotation of the two halves, scaled. -/
def turned (x : FVec Ideal S16x2064x8x64 .f32) : FVec Ideal S16x2064x8x64 .f32 :=
  mulf (concatenate S16x2064x8x64 3
    [⟨S16x2064x8x32, subf (mulf (extractStridedSlice S16x2064x8x32 ![0, 0, 0, 0] x slices_S16x2064x8x64_S16x2064x8x32_0_0_0_0) (spread (Host.cos angles)))
      (mulf (extractStridedSlice S16x2064x8x32 ![0, 0, 0, 32] x slices_S16x2064x8x64_S16x2064x8x32_0_0_0_32) (spread (Host.sin angles)))⟩,
     ⟨S16x2064x8x32, addf (mulf (extractStridedSlice S16x2064x8x32 ![0, 0, 0, 32] x slices_S16x2064x8x64_S16x2064x8x32_0_0_0_32) (spread (Host.cos angles)))
      (mulf (extractStridedSlice S16x2064x8x32 ![0, 0, 0, 0] x slices_S16x2064x8x64_S16x2064x8x32_0_0_0_0) (spread (Host.sin angles)))⟩]
    concatenates_S16x2064x8x32_S16x2064x8x32_S16x2064x8x64_d3)
    (broadcastInDim S16x2064x8x64 ![] bcast_S_S16x2064x8x64 (constant S_ .f32 0x3DD53B95#32))

/-- The two and zeros, side by side. -/
def beside (a : FVec Ideal S16x2064x8x256 .f32) (b : FVec Ideal S16x2064x8x64 .f32) : FVec Ideal S16x2064x8x384 .f32 :=
  concatenate S16x2064x8x384 3 [⟨S16x2064x8x256, a⟩, ⟨S16x2064x8x64, b⟩,
    ⟨S16x2064x8x64, broadcastInDim S16x2064x8x64 ![] bcast_S_S16x2064x8x64 (constant S_ .f32 0x00000000#32)⟩]
    concatenates_S16x2064x8x256_S16x2064x8x64_S16x2064x8x64_S16x2064x8x384_d3

/-- The norm at a place is the norm of its row. -/
theorem normed_at (x : FVec Ideal S16x2064x1024 .f32) (g : FVec Ideal S1024 .f32) (b : Fin 16) (s : Fin 2064) (l : Fin 1024) :
    normed x g (ix3 b s l) = rms (fun k => x (ix3 b s k)) (fun k => g (ix1 k)) l := by
  pointwise [normed]
  rfl
/-- The narrower norm at a place is the norm of its row. -/
theorem normedQ_at (x : FVec Ideal S16x2064x384 .f32) (g : FVec Ideal S384 .f32) (b : Fin 16) (s : Fin 2064) (l : Fin 384) :
    normedQ x g (ix3 b s l) = rms384 (fun k => x (ix3 b s k)) (fun k => g (ix1 k)) l := by
  pointwise [normedQ]
  rfl
/-- The compressed query's product at a place is a sum over its row. -/
theorem down_at (x : FVec Ideal S16x2064x1024 .f32) (w : FVec Ideal S1024x384 .f32) (b : Fin 16) (s : Fin 2064) (l : Fin 384) :
    down x w (ix3 b s l) = ∑ k, x (ix3 b s k) * w (ix2 k l) := by
  pointwise [down]
/-- The heads' product at a place is a sum over its row. -/
theorem up_at (x : FVec Ideal S16x2064x384 .f32) (w : FVec Ideal S384x8x192 .f32) (b : Fin 16) (s : Fin 2064) (h : Fin 8) (n : Fin 192) :
    up x w (ix4 b s h n) = ∑ a, x (ix3 b s a) * w (ix3 a h n) := by
  pointwise [up]
/-- The product against the latent's weights at a place is a sum over the head's first features. -/
theorem against_at (x : FVec Ideal S16x2064x8x192 .f32) (w : FVec Ideal S256x8x128 .f32) (b : Fin 16) (s : Fin 2064) (h : Fin 8) (r : Fin 256) :
    against x w (ix4 b s h r) = (∑ n : Fin 128, w (ix3 r h n) * x (ix4 b s h (⟨n.val, by omega⟩ : Fin 192))) * scale := by
  pointwise [against]
  rfl
/-- The angle at a position and a frequency. -/
theorem angles_at (s : Fin 2064) (f : Fin 32) : angles (ix2 s f) = angle (BitVec.ofNat 32 s.val) f.val := by
  pointwise [angles]
  rfl
/-- A spread table at a place is the table at its position and frequency. -/
theorem spread_at (t : FVec Ideal S2064x32 .f32) (b : Fin 16) (s : Fin 2064) (h : Fin 8) (f : Fin 32) : spread t (ix4 b s h f) = t (ix2 s f) := by
  pointwise [spread]
/-- The heads' last features at a place. -/
theorem lastOf_at (x : FVec Ideal S16x2064x8x192 .f32) (b : Fin 16) (s : Fin 2064) (h : Fin 8) (j : Fin 64) :
    lastOf x (ix4 b s h j) = x (ix4 b s h (⟨128 + j.val, by omega⟩ : Fin 192)) := by
  pointwise [lastOf]
/-- The rotation at a place is the rotation of its row, scaled. -/
theorem turned_at (x : FVec Ideal S16x2064x8x64 .f32) (b : Fin 16) (s : Fin 2064) (h : Fin 8) (j : Fin 64) :
    turned x (ix4 b s h j) = rotated (fun k => x (ix4 b s h k)) (cosAt (BitVec.ofNat 32 s.val)) (sinAt (BitVec.ofNat 32 s.val)) j * scale := by
  pointwise [turned]
  refine congrArg (· * scale) ?_
  simp only [spread_at]
  pointwise
  simp only [angles_at]
  unfold rotated
  split
  · rfl
  · have e : (⟨32 + (j.val - 32), by omega⟩ : Fin 64) = j := Fin.ext (by change 32 + (j.val - 32) = j.val; omega)
    simp only [e]
    rfl
/-- The three side by side, at a place. -/
theorem beside_at (a : FVec Ideal S16x2064x8x256 .f32) (b : FVec Ideal S16x2064x8x64 .f32) (i : Fin 16) (s : Fin 2064) (h : Fin 8) (j : Fin 384) :
    beside a b (ix4 i s h j) = joined (fun k => a (ix4 i s h k)) (fun k => b (ix4 i s h k)) j := by
  pointwise [beside]
  rfl

/-! ## The result -/

/-- The heads' queries of every position. -/
def heads (h : FVec Ideal S16x2064x1024 .f32) (g : FVec Ideal S1024 .f32) (w : FVec Ideal S1024x384 .f32)
    (gq : FVec Ideal S384 .f32) (wq : FVec Ideal S384x8x192 .f32) : FVec Ideal S16x2064x8x192 .f32 := up (normedQ (down (normed h g) w) gq) wq
/-- The result. -/
def result (h : FVec Ideal S16x2064x1024 .f32) (g : FVec Ideal S1024 .f32) (w : FVec Ideal S1024x384 .f32)
    (gq : FVec Ideal S384 .f32) (wq : FVec Ideal S384x8x192 .f32) (wk : FVec Ideal S256x8x128 .f32) : FVec Ideal S8x33024x384 .bf16 :=
  truncf .bf16 (transpose S8x33024x384 [1, 0, 2] (shapeCast S33024x8x384 (beside (against (heads h g w gq wq) wk) (turned (lastOf (heads h g w gq wq))))
    shapeCasts_S16x2064x8x384_S33024x8x384) transposes_S33024x8x384_S8x33024x384_1_0_2) bitsLt_bf16_f32

/-- The result, at a head and a row of the flattened positions. -/
theorem result_at (x : FVec Ideal S16x2064x1024 .f32) (g : FVec Ideal S1024 .f32) (w : FVec Ideal S1024x384 .f32)
    (gq : FVec Ideal S384 .f32) (wq : FVec Ideal S384x8x192 .f32) (wk : FVec Ideal S256x8x128 .f32) (h : Fin 8) (r : Fin 33024) (j : Fin 384) :
    result x g w gq wq wk (ix3 h r j)
      = query (compressed (fun k => x (ix3 (⟨r.val / 2064, by omega⟩ : Fin 16) (⟨r.val % 2064, by omega⟩ : Fin 2064) k)) (fun k => g (ix1 k))
          (fun k j => w (ix2 k j)) (fun j => gq (ix1 j))) (fun a h n => wq (ix3 a h n)) (fun r h n => wk (ix3 r h n)) (BitVec.ofNat 32 (r.val % 2064)) h j := by
  pointwise [result]
  rw [beside_at]
  simp only [against_at, turned_at, lastOf_at, heads, up_at, normedQ_at, down_at, normed_at]
  rfl

/-- The reference's run, with its result as that function of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2⟩) (Value.run (F := Ideal) m ρ)

end Cert.QueryReference

end
-- ==== Proof.StepRows.lean ====
/- One token through a recurrent layer's state, as functions of extended reals, and one head of the call's body as a function
   of vectors: what the printed body computes at each of its four sequences and eight heads. -/
module

public import proofs.«01_k».proof.Proof.Gen.Kernel9Ideal.Skeleton
public import proofs.«01_k».proof.Proof.ProjRows
public import Idealize.ShloMosaic.Lib.Tactic
public import Idealize.ShloMosaic.Lib.Pipeline.ValueKit

@[expose] public section

set_option maxRecDepth 16384

noncomputable section

namespace Cert.StepRows

open Idealize.ShloMosaic Cert.Kernel9Ideal Cert.Kernel9Ideal.Gen

/-- The norm of a head's row of 128. -/
def rms128 (x g : Fin 128 → EReal) (j : Fin 128) : EReal :=
  x j * Ideal.rsqrt (Ideal.div (∑ k, x k * x k) (Ideal.ofBits .f32 0x43000000#32) + Ideal.ofBits .f32 0x358637BD#32) * g j

/-- The state after the token: the old one decayed, plus key times value. -/
def next (lf k v : Fin 128 → EReal) (s : Fin 128 → Fin 128 → EReal) (a j : Fin 128) : EReal :=
  Ideal.exp (lf a) * s a j + k a * v j

/-- What the query reads from a state. -/
def read (q : Fin 128 → EReal) (s : Fin 128 → Fin 128 → EReal) (j : Fin 128) : EReal := ∑ a, s a j * q a

/-- The head of feature `l`, and its place in the head. -/
def headOf (l : Fin 1024) : Fin 8 := ⟨l.val / 128, by omega⟩
/-- The place of feature `l` in its head. -/
def within (l : Fin 1024) : Fin 128 := ⟨l.val % 128, by omega⟩
/-- Place `j` of head `h`. -/
def feature (h : Fin 8) (j : Fin 128) : Fin 1024 := ⟨h.val * 128 + j.val, by omega⟩

/-- The new state of a head, as the body stores it. -/
def stateOf (lf k : Vec Ideal S1x128x1 .f32) (v : Vec Ideal S1x1x128 .f32) (s : Vec Ideal S1x1x1x128x128 .f32) :
    FVec Ideal S1x1x1x128x128 .f32 := k0_pay3 (F := Ideal) lf k v s

/-- The stored state, entry by entry. -/
theorem stateOf_at (lf k : Vec Ideal S1x128x1 .f32) (v : Vec Ideal S1x1x128 .f32) (s : Vec Ideal S1x1x1x128x128 .f32) (a j : Fin 128) :
    stateOf lf k v s (ix5 0 0 0 a j)
      = next (fun a => lf (ix3 0 a 0)) (fun a => k (ix3 0 a 0)) (fun j => v (ix3 0 0 j)) (fun a j => s (ix5 0 0 0 a j)) a j := by
  pointwise [stateOf, k0_pay3, k0_pay2]
  rfl

/-- The output of a head, normed. -/
def headRow (lf k q : Vec Ideal S1x128x1 .f32) (v : Vec Ideal S1x1x128 .f32) (s : Vec Ideal S1x1x1x128x128 .f32)
    (g : Vec Ideal S1x128 .f32) : FVec Ideal S1x128 .f32 :=
  k0_pay7 (F := Ideal) (k0_pay4 lf k q v s) (k0_pay5 g) (k0_pay6 lf k q v s)

/-- What the query reads, entry by entry. -/
theorem pay4_at (lf k q : Vec Ideal S1x128x1 .f32) (v : Vec Ideal S1x1x128 .f32) (s : Vec Ideal S1x1x1x128x128 .f32) (j : Fin 128) :
    k0_pay4 (F := Ideal) lf k q v s (ix2 0 j) = read (fun a => q (ix3 0 a 0))
      (next (fun a => lf (ix3 0 a 0)) (fun a => k (ix3 0 a 0)) (fun j => v (ix3 0 0 j)) (fun a j => s (ix5 0 0 0 a j))) j := by
  pointwise [k0_pay4, k0_pay2]
  rfl

/-- The output of a head, entry by entry. -/
theorem headRow_at (lf k q : Vec Ideal S1x128x1 .f32) (v : Vec Ideal S1x1x128 .f32) (s : Vec Ideal S1x1x1x128x128 .f32)
    (g : Vec Ideal S1x128 .f32) (j : Fin 128) :
    headRow lf k q v s g (ix2 0 j) = rms128 (read (fun a => q (ix3 0 a 0))
      (next (fun a => lf (ix3 0 a 0)) (fun a => k (ix3 0 a 0)) (fun j => v (ix3 0 0 j)) (fun a j => s (ix5 0 0 0 a j))))
      (fun j => g (ix2 0 j)) j := by
  pointwise [headRow, k0_pay7, k0_pay5, k0_pay6]
  simp only [pay4_at]
  rfl

/-- Eight heads side by side, gated. -/
def gatedRow (f : Fin 8 → FVec Ideal S1x128 .f32) (g : Vec Ideal S1x1x1024 .f32) : FVec Ideal S1x1x1024 .bf16 :=
  k0_pay1 (F := Ideal) (concatenate S1x1024 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    concatenates_S1x128_S1x128_S1x128_S1x128_S1x128_S1x128_S1x128_S1x128_S1x1024_d1) g

/-- A feature known to lie `n` places into head `h` is that entry of it. -/
theorem pick (f : Fin 8 → FVec Ideal S1x128 .f32) (l : Fin 1024) (h : Fin 8) (n : ℕ) (hn : n < 128) (e : l.val = h.val * 128 + n) :
    f h (ix2 0 ⟨n, hn⟩) = f (headOf l) (ix2 0 (within l)) := by
  have e₁ : h = headOf l := Fin.ext (by show h.val = l.val / 128; omega)
  have e₂ : (⟨n, hn⟩ : Fin 128) = within l := Fin.ext (by show n = l.val % 128; omega)
  rw [e₁, e₂]

/-- The gated row, entry by entry. -/
theorem gatedRow_at (f : Fin 8 → FVec Ideal S1x128 .f32) (g : Vec Ideal S1x1x1024 .f32) (l : Fin 1024) :
    gatedRow f g (ix3 0 0 l) = f (headOf l) (ix2 0 (within l)) * g (ix3 0 0 l) := by
  pointwise [gatedRow, k0_pay1]
  refine congrArg (· * _) ?_
  have hl := l.isLt
  repeat' split
  · exact pick f l 0 _ _ (by show l.val = 0 * 128 + _; omega)
  · exact pick f l 1 _ _ (by show l.val = 1 * 128 + _; omega)
  · exact pick f l 2 _ _ (by show l.val = 2 * 128 + _; omega)
  · exact pick f l 3 _ _ (by show l.val = 3 * 128 + _; omega)
  · exact pick f l 4 _ _ (by show l.val = 4 * 128 + _; omega)
  · exact pick f l 5 _ _ (by show l.val = 5 * 128 + _; omega)
  · exact pick f l 6 _ _ (by show l.val = 6 * 128 + _; omega)
  · exact pick f l 7 _ _ (by show l.val = 7 * 128 + _; omega)

/-! ## One point's blocks: four sequences, eight heads -/

/-- A column of a block transposed to (sequence, place, head). -/
theorem inb_col (b : Fin 4) (h : Fin 8) : ∀ a, (![b.val, 0, h.val] : Fin 3 → ℕ) a + S1x128x1.size a ≤ S4x128x8.size a := by
  intro a
  match a with
  | ⟨0, _⟩ => show b.val + 1 ≤ 4; omega
  | ⟨1, _⟩ => show 0 + 128 ≤ 128; omega
  | ⟨2, _⟩ => show h.val + 1 ≤ 8; omega
/-- A head's part of a sequence's row. -/
theorem inb_seg (b : Fin 4) (h : Fin 8) : ∀ a, (![b.val, 0, h.val * 128] : Fin 3 → ℕ) a + S1x1x128.size a ≤ S4x1x1024.size a := by
  intro a
  match a with
  | ⟨0, _⟩ => show b.val + 1 ≤ 4; omega
  | ⟨1, _⟩ => show 0 + 1 ≤ 1; omega
  | ⟨2, _⟩ => show h.val * 128 + 128 ≤ 1024; omega
/-- A head's part of the gain's row. -/
theorem inb_part (h : Fin 8) : ∀ a, (![0, h.val * 128] : Fin 2 → ℕ) a + S1x128.size a ≤ S1x1024.size a := by
  intro a
  match a with
  | ⟨0, _⟩ => show 0 + 1 ≤ 1; omega
  | ⟨1, _⟩ => show h.val * 128 + 128 ≤ 1024; omega
/-- A sequence's row. -/
theorem inb_row (b : Fin 4) : ∀ a, (![b.val, 0, 0] : Fin 3 → ℕ) a + S1x1x1024.size a ≤ S4x1x1024.size a := by
  intro a
  match a with
  | ⟨0, _⟩ => show b.val + 1 ≤ 4; omega
  | ⟨1, _⟩ => show 0 + 1 ≤ 1; omega
  | ⟨2, _⟩ => show 0 + 1024 ≤ 1024; omega
/-- A head's state. -/
theorem inb_old (b : Fin 4) (h : Fin 8) :
    ∀ a, (![0, b.val, h.val, 0, 0] : Fin 5 → ℕ) a + S1x1x1x128x128.size a ≤ S1x4x8x128x128.size a := by
  intro a
  match a with
  | ⟨0, _⟩ => show 0 + 1 ≤ 1; omega
  | ⟨1, _⟩ => show b.val + 1 ≤ 4; omega
  | ⟨2, _⟩ => show h.val + 1 ≤ 8; omega
  | ⟨3, _⟩ => show 0 + 128 ≤ 128; omega
  | ⟨4, _⟩ => show 0 + 128 ≤ 128; omega

/-- Column `(b, h)` of a transposed block. -/
def col (x : Vec Ideal S4x128x8 .f32) (b : Fin 4) (h : Fin 8) : Vec Ideal S1x128x1 .f32 :=
  View.ld x (Rect.unit (s := S4x128x8) ![b.val, 0, h.val] S1x128x1.size (inb_col b h))
/-- Head `h` of row `b`. -/
def seg (x : Vec Ideal S4x1x1024 .f32) (b : Fin 4) (h : Fin 8) : Vec Ideal S1x1x128 .f32 :=
  View.ld x (Rect.unit (s := S4x1x1024) ![b.val, 0, h.val * 128] S1x1x128.size (inb_seg b h))
/-- Head `h` of the gain. -/
def part (x : Vec Ideal S1x1024 .f32) (h : Fin 8) : Vec Ideal S1x128 .f32 :=
  View.ld x (Rect.unit (s := S1x1024) ![0, h.val * 128] S1x128.size (inb_part h))
/-- Row `b`. -/
def rowAt (x : Vec Ideal S4x1x1024 .f32) (b : Fin 4) : Vec Ideal S1x1x1024 .f32 :=
  View.ld x (Rect.unit (s := S4x1x1024) ![b.val, 0, 0] S1x1x1024.size (inb_row b))
/-- State `(b, h)`. -/
def old (x : Vec Ideal S1x4x8x128x128 .f32) (b : Fin 4) (h : Fin 8) : Vec Ideal S1x1x1x128x128 .f32 :=
  View.ld x (Rect.unit (s := S1x4x8x128x128) ![0, b.val, h.val, 0, 0] S1x1x1x128x128.size (inb_old b h))

/-- Column `(b, h)`, entry by entry. -/
theorem col_at (x : Vec Ideal S4x128x8 .f32) (b : Fin 4) (h : Fin 8) (a : Fin 128) : col x b h (ix3 0 a 0) = x (ix3 b a h) := by
  show x _ = x _
  congr 1
  funext d
  apply Fin.ext
  match d with
  | ⟨0, _⟩ => show b.val + 1 * 0 = b.val; omega
  | ⟨1, _⟩ => show 0 + 1 * a.val = a.val; omega
  | ⟨2, _⟩ => show h.val + 1 * 0 = h.val; omega
/-- Head `h` of row `b`, entry by entry. -/
theorem seg_at (x : Vec Ideal S4x1x1024 .f32) (b : Fin 4) (h : Fin 8) (j : Fin 128) : seg x b h (ix3 0 0 j) = x (ix3 b 0 (feature h j)) := by
  show x _ = x _
  congr 1
  funext d
  apply Fin.ext
  match d with
  | ⟨0, _⟩ => show b.val + 1 * 0 = b.val; omega
  | ⟨1, _⟩ => show 0 + 1 * 0 = 0; omega
  | ⟨2, _⟩ => show h.val * 128 + 1 * j.val = h.val * 128 + j.val; omega
/-- Head `h` of the gain, entry by entry. -/
theorem part_at (x : Vec Ideal S1x1024 .f32) (h : Fin 8) (j : Fin 128) : part x h (ix2 0 j) = x (ix2 0 (feature h j)) := by
  show x _ = x _
  congr 1
  funext d
  apply Fin.ext
  match d with
  | ⟨0, _⟩ => show 0 + 1 * 0 = 0; omega
  | ⟨1, _⟩ => show h.val * 128 + 1 * j.val = h.val * 128 + j.val; omega
/-- Row `b`, entry by entry. -/
theorem rowAt_at (x : Vec Ideal S4x1x1024 .f32) (b : Fin 4) (l : Fin 1024) : rowAt x b (ix3 0 0 l) = x (ix3 b 0 l) := by
  show x _ = x _
  congr 1
  funext d
  apply Fin.ext
  match d with
  | ⟨0, _⟩ => show b.val + 1 * 0 = b.val; omega
  | ⟨1, _⟩ => show 0 + 1 * 0 = 0; omega
  | ⟨2, _⟩ => show 0 + 1 * l.val = l.val; omega
/-- State `(b, h)`, entry by entry. -/
theorem old_at (x : Vec Ideal S1x4x8x128x128 .f32) (b : Fin 4) (h : Fin 8) (a j : Fin 128) : old x b h (ix5 0 0 0 a j) = x (ix5 0 b h a j) := by
  show x _ = x _
  congr 1
  funext d
  apply Fin.ext
  match d with
  | ⟨0, _⟩ => show 0 + 1 * 0 = 0; omega
  | ⟨1, _⟩ => show b.val + 1 * 0 = b.val; omega
  | ⟨2, _⟩ => show h.val + 1 * 0 = h.val; omega
  | ⟨3, _⟩ => show 0 + 1 * a.val = a.val; omega
  | ⟨4, _⟩ => show 0 + 1 * j.val = j.val; omega

/-- The new state of sequence `b`, head `h`, from a point's blocks. -/
def blockState (lf k : Vec Ideal S4x128x8 .f32) (v : Vec Ideal S4x1x1024 .f32) (s : Vec Ideal S1x4x8x128x128 .f32) (b : Fin 4) (h : Fin 8) :
    Fin 128 → Fin 128 → EReal :=
  next (fun a => lf (ix3 b a h)) (fun a => k (ix3 b a h)) (fun j => v (ix3 b 0 (feature h j))) (fun a j => s (ix5 0 b h a j))

/-- The output of sequence `b` at feature `l`, from a point's blocks. -/
def blockOut (q lf k : Vec Ideal S4x128x8 .f32) (v gate : Vec Ideal S4x1x1024 .f32) (g : Vec Ideal S1x1024 .f32)
    (s : Vec Ideal S1x4x8x128x128 .f32) (b : Fin 4) (l : Fin 1024) : EReal :=
  rms128 (read (fun a => q (ix3 b a (headOf l))) (blockState lf k v s b (headOf l))) (fun j => g (ix2 0 (feature (headOf l) j))) (within l)
    * gate (ix3 b 0 l)

/-- What the body stores of state `(b, h)`. -/
abbrev storedState (lf k : Vec Ideal S4x128x8 .f32) (v : Vec Ideal S4x1x1024 .f32) (s : Vec Ideal S1x4x8x128x128 .f32) (b : Fin 4) (h : Fin 8) :
    FVec Ideal S1x1x1x128x128 .f32 :=
  stateOf (col lf b h) (col k b h) (seg v b h) (old s b h)

/-- It is the new state. -/
theorem storedState_at (lf k : Vec Ideal S4x128x8 .f32) (v : Vec Ideal S4x1x1024 .f32) (s : Vec Ideal S1x4x8x128x128 .f32) (b : Fin 4) (h : Fin 8)
    (a j : Fin 128) : storedState lf k v s b h (ix5 0 0 0 a j) = blockState lf k v s b h a j := by
  rw [storedState, stateOf_at]
  simp only [col_at, seg_at, old_at]
  rfl

/-- What the body stores of row `b`. -/
abbrev storedRow (q lf k : Vec Ideal S4x128x8 .f32) (v gate : Vec Ideal S4x1x1024 .f32) (g : Vec Ideal S1x1024 .f32)
    (s : Vec Ideal S1x4x8x128x128 .f32) (b : Fin 4) : FVec Ideal S1x1x1024 .bf16 :=
  gatedRow (fun h => headRow (col lf b h) (col k b h) (col q b h) (seg v b h) (old s b h) (part g h)) (rowAt gate b)

/-- It is the output. -/
theorem storedRow_at (q lf k : Vec Ideal S4x128x8 .f32) (v gate : Vec Ideal S4x1x1024 .f32) (g : Vec Ideal S1x1024 .f32)
    (s : Vec Ideal S1x4x8x128x128 .f32) (b : Fin 4) (l : Fin 1024) :
    storedRow q lf k v gate g s b (ix3 0 0 l) = blockOut q lf k v gate g s b l := by
  rw [storedRow, gatedRow_at, headRow_at]
  simp only [col_at, seg_at, old_at, part_at, rowAt_at]
  rfl

/-! ## The whole step, from its arguments' rows -/

/-- The new state of sequence `b`, head `h`. -/
def newState (lf k v : Fin 128 → Fin 1024 → EReal) (s : Fin 128 → Fin 8 → Fin 128 → Fin 128 → EReal) (b : Fin 128) (h : Fin 8) :
    Fin 128 → Fin 128 → EReal :=
  next (fun a => lf b (feature h a)) (fun a => k b (feature h a)) (fun j => v b (feature h j)) (s b h)

/-- The output of sequence `b` at feature `l`. -/
def output (q lf k v gate : Fin 128 → Fin 1024 → EReal) (g : Fin 1024 → EReal) (s : Fin 128 → Fin 8 → Fin 128 → Fin 128 → EReal)
    (b : Fin 128) (l : Fin 1024) : EReal :=
  rms128 (read (fun a => q b (feature (headOf l) a)) (newState lf k v s b (headOf l))) (fun j => g (feature (headOf l) j)) (within l) * gate b l

end Cert.StepRows

end
-- ==== Proof.StepFirstKernel.lean ====
/- What the step call of the first recurrent layer leaves in its two results: the output of each sequence, and the states. -/
module

public import proofs.«01_k».proof.Proof.Gen.Kernel8Ideal.Value
public import proofs.«01_k».proof.Proof.StepRows
public import Idealize.ShloMosaic.Lib.StableHlo.ReadAt
public import Idealize.ShloMosaic.Lib.Tactic
public import Idealize.ShloMosaic.Lib.Pipeline.ValueKit

@[expose] public section

set_option maxRecDepth 16384

noncomputable section

namespace Cert.StepFirstKernel

open Idealize.ShloMosaic Idealize.ShloMosaic.TcCoe Idealize.SL.Sem Cert.Kernel8Ideal Cert.Kernel8Ideal.Gen Cert.ProjRows Cert.StepRows

variable (m : (ℓ : Loc nD τ sig) → Buf (Elt Ideal) ℓ) (c : Dev nD)

/-- The offsets of a whole block are zero. -/
theorem hz : (![0, 0] : Fin 2 → Nat) = fun _ => 0 := funext fun a => by fin_cases a <;> rfl

/-! ## A point's two blocks -/

/-- The output of row `b` at point `t`, from the point's blocks. -/
def rowSpec (t : Fin cfg0.N) (b : Fin 4) (l : Fin 1024) : EReal :=
  blockOut (iblk m c 0 t) (iblk m c 1 t) (iblk m c 2 t) (iblk m c 3 t) (iblk m c 4 t) (iblk m c 5 t) (iblk m c 6 t) b l

/-- The new state `(b, h)` at point `t`, from the point's blocks. -/
def stateSpec (t : Fin cfg0.N) (b : Fin 4) (h : Fin 8) (a j : Fin 128) : EReal :=
  blockState (iblk m c 1 t) (iblk m c 2 t) (iblk m c 3 t) (iblk m c 6 t) b h a j

/-- A stored row is a piece of the outputs. -/
theorem rowPiece (t : Fin cfg0.N) (b : Fin 4) (x : S1x1x1024.Idx) :
    storedRow (iblk m c 0 t) (iblk m c 1 t) (iblk m c 2 t) (iblk m c 3 t) (iblk m c 4 t) (iblk m c 5 t) (iblk m c 6 t) b x
      = (fun y : S4x1x1024.Idx => rowSpec m c t (y 0) (y 2)) ((Rect.unit (s := S4x1x1024) ![b.val, 0, 0] S1x1x1024.size (inb_row b)).emb x) := by
  obtain ⟨u, v, l, rfl⟩ : ∃ (u : Fin 1) (v : Fin 1) (l : Fin 1024), x = ix3 u v l := ⟨x 0, x 1, x 2, eq_ix3 x⟩
  obtain rfl : u = 0 := Subsingleton.elim _ _
  obtain rfl : v = 0 := Subsingleton.elim _ _
  refine (storedRow_at _ _ _ _ _ _ _ b l).trans ?_
  refine congrArg₂ (rowSpec m c t) (Fin.ext ?_) (Fin.ext ?_)
  · show b.val = b.val + 1 * 0; omega
  · show l.val = 0 + 1 * l.val; omega

/-- The outputs that point `t` leaves. -/
theorem block7 (t : Fin cfg0.N) (b : Fin 4) (l : Fin 1024) : (outsAt0 m c t).1 (ix3 b 0 l) = rowSpec m c t b l := by
  unfold outsAt0
  dsimp only
  unfold out0_A_7
  refine (congrFun (View.read_writes_eq_canon _ _ _ (fun y => ?_)) _).trans ?_
  · exact cover0_A_7 (y := y) ..
  refine canon_pieces (Val := Elt Ideal) (fun y : S4x1x1024.Idx => rowSpec m c t (y 0) (y 2)) _ _ (cover0_A_7 (y := ix3 b 0 l) ..) ?_
  unfold kernelRun0_A
  dsimp only
  sl_unfold_words
  simp only [View.readAt_eq_ld, Memref.IsWhole.read_unread]
  exact ⟨fun x => rowPiece m c t 3 x, fun x => rowPiece m c t 2 x, fun x => rowPiece m c t 1 x, fun x => rowPiece m c t 0 x, trivial⟩

/-- A head's new state among both layers'. -/
theorem inb_new (b : Fin 4) (h : Fin 8) :
    ∀ a, (![0, b.val, h.val, 0, 0] : Fin 5 → ℕ) a + S1x1x1x128x128.size a ≤ S2x4x8x128x128.size a := by
  intro a
  match a with
  | ⟨0, _⟩ => show 0 + 1 ≤ 2; omega
  | ⟨1, _⟩ => show b.val + 1 ≤ 4; omega
  | ⟨2, _⟩ => show h.val + 1 ≤ 8; omega
  | ⟨3, _⟩ => show 0 + 128 ≤ 128; omega
  | ⟨4, _⟩ => show 0 + 128 ≤ 128; omega

/-- A stored state is a piece of the states. -/
theorem statePiece (t : Fin cfg0.N) (b : Fin 4) (h : Fin 8) (x : S1x1x1x128x128.Idx) :
    storedState (iblk m c 1 t) (iblk m c 2 t) (iblk m c 3 t) (iblk m c 6 t) b h x
      = (fun y : S2x4x8x128x128.Idx => if (y 0).val = 0 then stateSpec m c t (y 1) (y 2) (y 3) (y 4) else 0) ((Rect.unit (s := S2x4x8x128x128) ![0, b.val, h.val, 0, 0] S1x1x1x128x128.size (inb_new b h)).emb x) := by
  obtain ⟨u, v, w, a, j, rfl⟩ : ∃ (u v w : Fin 1) (a j : Fin 128), x = ix5 u v w a j := ⟨x 0, x 1, x 2, x 3, x 4, eq_ix5 x⟩
  obtain rfl : u = 0 := Subsingleton.elim _ _
  obtain rfl : v = 0 := Subsingleton.elim _ _
  obtain rfl : w = 0 := Subsingleton.elim _ _
  refine (storedState_at _ _ _ _ b h a j).trans ?_
  refine Eq.trans ?_ (if_pos (by show 0 + 1 * 0 = 0; omega)).symm
  have e₁ : b = ⟨b.val + 1 * 0, by omega⟩ := Fin.ext (by show b.val = b.val + 1 * 0; omega)
  have e₂ : h = ⟨h.val + 1 * 0, by omega⟩ := Fin.ext (by show h.val = h.val + 1 * 0; omega)
  have e₃ : a = ⟨0 + 1 * a.val, by omega⟩ := Fin.ext (by show a.val = 0 + 1 * a.val; omega)
  have e₄ : j = ⟨0 + 1 * j.val, by omega⟩ := Fin.ext (by show j.val = 0 + 1 * j.val; omega)
  show stateSpec m c t b h a j = stateSpec m c t ⟨b.val + 1 * 0, _⟩ ⟨h.val + 1 * 0, _⟩ ⟨0 + 1 * a.val, _⟩ ⟨0 + 1 * j.val, _⟩
  rw [← e₁, ← e₂, ← e₃, ← e₄]

/-- The other layer's states start after the first's. -/
theorem inb_zero : ∀ a, (![1, 0, 0, 0, 0] : Fin 5 → ℕ) a + S1x4x8x128x128.size a ≤ S2x4x8x128x128.size a := by
  intro a
  match a with
  | ⟨0, _⟩ => show 1 + 1 ≤ 2; omega
  | ⟨1, _⟩ => show 0 + 4 ≤ 4; omega
  | ⟨2, _⟩ => show 0 + 8 ≤ 8; omega
  | ⟨3, _⟩ => show 0 + 128 ≤ 128; omega
  | ⟨4, _⟩ => show 0 + 128 ≤ 128; omega

/-- The zeros of the other layer are a piece of the states. -/
theorem zeroPiece (t : Fin cfg0.N) (x : S1x4x8x128x128.Idx) :
    k0_pay1 (F := Ideal) x
      = (fun y : S2x4x8x128x128.Idx => if (y 0).val = 0 then stateSpec m c t (y 1) (y 2) (y 3) (y 4) else 0) ((Rect.unit (s := S2x4x8x128x128) ![1, 0, 0, 0, 0] S1x4x8x128x128.size inb_zero).emb x) := by
  obtain ⟨u, b, h, a, j, rfl⟩ : ∃ (u : Fin 1) (b : Fin 4) (h : Fin 8) (a j : Fin 128), x = ix5 u b h a j := ⟨x 0, x 1, x 2, x 3, x 4, eq_ix5 x⟩
  refine Eq.trans ?_ (if_neg (by show ¬ 1 + 1 * u.val = 0; omega)).symm
  pointwise [k0_pay1]

/-- The states that point `t` leaves. -/
theorem block8 (t : Fin cfg0.N) (u : Fin 2) (b : Fin 4) (h : Fin 8) (a j : Fin 128) : (outsAt0 m c t).2 (ix5 u b h a j) = if u.val = 0 then stateSpec m c t b h a j else 0 := by
  unfold outsAt0
  dsimp only
  unfold out0_A_8
  refine (congrFun (View.read_writes_eq_canon _ _ _ (fun y => ?_)) _).trans ?_
  · exact cover0_A_8 (y := y) ..
  refine canon_pieces (Val := Elt Ideal) (fun y : S2x4x8x128x128.Idx => if (y 0).val = 0 then stateSpec m c t (y 1) (y 2) (y 3) (y 4) else 0) _ _ (cover0_A_8 (y := ix5 u b h a j) ..) ?_
  unfold kernelRun0_A
  dsimp only
  sl_unfold_words
  simp only [View.readAt_eq_ld, Memref.IsWhole.read_unread]
  exact ⟨fun x => statePiece m c t 3 7 x, fun x => statePiece m c t 3 6 x, fun x => statePiece m c t 3 5 x, fun x => statePiece m c t 3 4 x, fun x => statePiece m c t 3 3 x, fun x => statePiece m c t 3 2 x, fun x => statePiece m c t 3 1 x, fun x => statePiece m c t 3 0 x, fun x => statePiece m c t 2 7 x, fun x => statePiece m c t 2 6 x, fun x => statePiece m c t 2 5 x, fun x => statePiece m c t 2 4 x, fun x => statePiece m c t 2 3 x, fun x => statePiece m c t 2 2 x, fun x => statePiece m c t 2 1 x, fun x => statePiece m c t 2 0 x, fun x => statePiece m c t 1 7 x, fun x => statePiece m c t 1 6 x, fun x => statePiece m c t 1 5 x, fun x => statePiece m c t 1 4 x, fun x => statePiece m c t 1 3 x, fun x => statePiece m c t 1 2 x, fun x => statePiece m c t 1 1 x, fun x => statePiece m c t 1 0 x, fun x => statePiece m c t 0 7 x, fun x => statePiece m c t 0 6 x, fun x => statePiece m c t 0 5 x, fun x => statePiece m c t 0 4 x, fun x => statePiece m c t 0 3 x, fun x => statePiece m c t 0 2 x, fun x => statePiece m c t 0 1 x, fun x => statePiece m c t 0 0 x, fun x => zeroPiece m c t x, trivial⟩

/-! ## The arrays the windows read -/

/-- The rows of the query. -/
def arg0 (b : Fin 128) (l : Fin 1024) : EReal := m ((c : Thread nD τ).loc main_arg0) (ix2 b l)
/-- The rows of the decay's logarithm. -/
def arg1 (b : Fin 128) (l : Fin 1024) : EReal := m ((c : Thread nD τ).loc main_arg1) (ix2 b l)
/-- The rows of the key. -/
def arg2 (b : Fin 128) (l : Fin 1024) : EReal := m ((c : Thread nD τ).loc main_arg2) (ix2 b l)
/-- The rows of the value. -/
def arg3 (b : Fin 128) (l : Fin 1024) : EReal := m ((c : Thread nD τ).loc main_arg3) (ix2 b l)
/-- The rows of the gate. -/
def arg4 (b : Fin 128) (l : Fin 1024) : EReal := m ((c : Thread nD τ).loc main_arg4) (ix2 b l)
/-- The gain of the norm. -/
def gain (l : Fin 1024) : EReal := m ((c : Thread nD τ).loc main_arg5) (ix1 l)
/-- The layer's old states. -/
def state (b : Fin 128) (h : Fin 8) (a j : Fin 128) : EReal := m ((c : Thread nD τ).loc main_arg6) (ix5 0 b h a j)

/-- The host's array of the query by (sequence, place, head), at an entry. -/
theorem V_0 (b a : Fin 128) (h : Fin 8) : V m c main_v2 (ix3 b a h) = arg0 m c b (feature h a) := by
  unfold V arg0
  after_reads_at
  rfl

/-- The host's array of the decay's logarithm by (sequence, place, head), at an entry. -/
theorem V_1 (b a : Fin 128) (h : Fin 8) : V m c main_v4 (ix3 b a h) = arg1 m c b (feature h a) := by
  unfold V arg1
  after_reads_at
  rfl

/-- The host's array of the key by (sequence, place, head), at an entry. -/
theorem V_2 (b a : Fin 128) (h : Fin 8) : V m c main_v6 (ix3 b a h) = arg2 m c b (feature h a) := by
  unfold V arg2
  after_reads_at
  rfl

/-- The host's array of the value, at an entry. -/
theorem V_3 (b : Fin 128) (u : Fin 1) (l : Fin 1024) : V m c main_v7 (ix3 b u l) = arg3 m c b l := by
  obtain rfl : u = 0 := Subsingleton.elim _ _
  unfold V arg3
  after_reads_at

/-- The host's array of the gate, at an entry. -/
theorem V_4 (b : Fin 128) (u : Fin 1) (l : Fin 1024) : V m c main_v8 (ix3 b u l) = arg4 m c b l := by
  obtain rfl : u = 0 := Subsingleton.elim _ _
  unfold V arg4
  after_reads_at

/-- The host's row of the gain, at an entry. -/
theorem V_5 (u : Fin 1) (l : Fin 1024) : V m c main_v0 (ix2 u l) = gain m c l := by
  unfold V gain
  after_reads_at

/-- Where each window's block starts at grid point `t` (in blocks). -/
theorem starts : ∀ t : Fin cfg0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = t.val ∧ cc0_transform_2 (grid0.coords t) 1 = 0 ∧ cc0_transform_2 (grid0.coords t) 2 = 0)
    ∧ (cc0_transform_3 (grid0.coords t) 0 = t.val ∧ cc0_transform_3 (grid0.coords t) 1 = 0 ∧ cc0_transform_3 (grid0.coords t) 2 = 0)
    ∧ (cc0_transform_4 (grid0.coords t) 0 = t.val ∧ cc0_transform_4 (grid0.coords t) 1 = 0 ∧ cc0_transform_4 (grid0.coords t) 2 = 0)
    ∧ (cc0_transform_5 (grid0.coords t) 0 = 0 ∧ cc0_transform_5 (grid0.coords t) 1 = 0)
    ∧ (cc0_transform_6 (grid0.coords t) 0 = 0 ∧ cc0_transform_6 (grid0.coords t) 1 = t.val ∧ cc0_transform_6 (grid0.coords t) 2 = 0 ∧ cc0_transform_6 (grid0.coords t) 3 = 0 ∧ cc0_transform_6 (grid0.coords t) 4 = 0)
    ∧ (cc0_transform_7 (grid0.coords t) 0 = t.val ∧ cc0_transform_7 (grid0.coords t) 1 = 0 ∧ cc0_transform_7 (grid0.coords t) 2 = 0)
    ∧ (cc0_transform_8 (grid0.coords t) 0 = 0 ∧ cc0_transform_8 (grid0.coords t) 1 = t.val ∧ cc0_transform_8 (grid0.coords t) 2 = 0 ∧ cc0_transform_8 (grid0.coords t) 3 = 0 ∧ cc0_transform_8 (grid0.coords t) 4 = 0) :=
  (by decide +kernel : ∀ t : Fin grid0.N, _)

/-- Row `b` of the query's block at point `t` is row `4 * t + b`, by (place, head). -/
theorem blk0 (t : Fin cfg0.N) (b : Fin 4) (a : Fin 128) (h : Fin 8) (s : Fin 128) (hs : s.val = t.val * 4 + b.val) :
    (iblk m c 0 t : Vec Ideal S4x128x8 .f32) (ix3 b a h) = arg0 m c s (feature h a) := by
  obtain ⟨e0, e1, e2⟩ := (starts t).1
  refine Eq.trans ?_ (V_0 m c s a h)
  unfold iblk
  rw [View.read_apply]
  show V m c main_v2 _ = _
  congr 1
  funext d
  apply Fin.ext
  match d with
  | ⟨0, _⟩ => change cc0_transform_0 (grid0.coords t) 0 * 4 + 1 * b.val = s.val; rw [e0]; omega
  | ⟨1, _⟩ => change cc0_transform_0 (grid0.coords t) 1 * 128 + 1 * a.val = a.val; rw [e1]; omega
  | ⟨2, _⟩ => change cc0_transform_0 (grid0.coords t) 2 * 8 + 1 * h.val = h.val; rw [e2]; omega

/-- Row `b` of the decay's logarithm's block at point `t` is row `4 * t + b`, by (place, head). -/
theorem blk1 (t : Fin cfg0.N) (b : Fin 4) (a : Fin 128) (h : Fin 8) (s : Fin 128) (hs : s.val = t.val * 4 + b.val) :
    (iblk m c 1 t : Vec Ideal S4x128x8 .f32) (ix3 b a h) = arg1 m c s (feature h a) := by
  obtain ⟨e0, e1, e2⟩ := (starts t).2.1
  refine Eq.trans ?_ (V_1 m c s a h)
  unfold iblk
  rw [View.read_apply]
  show V m c main_v4 _ = _
  congr 1
  funext d
  apply Fin.ext
  match d with
  | ⟨0, _⟩ => change cc0_transform_1 (grid0.coords t) 0 * 4 + 1 * b.val = s.val; rw [e0]; omega
  | ⟨1, _⟩ => change cc0_transform_1 (grid0.coords t) 1 * 128 + 1 * a.val = a.val; rw [e1]; omega
  | ⟨2, _⟩ => change cc0_transform_1 (grid0.coords t) 2 * 8 + 1 * h.val = h.val; rw [e2]; omega

/-- Row `b` of the key's block at point `t` is row `4 * t + b`, by (place, head). -/
theorem blk2 (t : Fin cfg0.N) (b : Fin 4) (a : Fin 128) (h : Fin 8) (s : Fin 128) (hs : s.val = t.val * 4 + b.val) :
    (iblk m c 2 t : Vec Ideal S4x128x8 .f32) (ix3 b a h) = arg2 m c s (feature h a) := by
  obtain ⟨e0, e1, e2⟩ := (starts t).2.2.1
  refine Eq.trans ?_ (V_2 m c s a h)
  unfold iblk
  rw [View.read_apply]
  show V m c main_v6 _ = _
  congr 1
  funext d
  apply Fin.ext
  match d with
  | ⟨0, _⟩ => change cc0_transform_2 (grid0.coords t) 0 * 4 + 1 * b.val = s.val; rw [e0]; omega
  | ⟨1, _⟩ => change cc0_transform_2 (grid0.coords t) 1 * 128 + 1 * a.val = a.val; rw [e1]; omega
  | ⟨2, _⟩ => change cc0_transform_2 (grid0.coords t) 2 * 8 + 1 * h.val = h.val; rw [e2]; omega

/-- Row `b` of the value's block at point `t` is row `4 * t + b`. -/
theorem blk3 (t : Fin cfg0.N) (b : Fin 4) (l : Fin 1024) (s : Fin 128) (hs : s.val = t.val * 4 + b.val) :
    (iblk m c 3 t : Vec Ideal S4x1x1024 .f32) (ix3 b 0 l) = arg3 m c s l := by
  obtain ⟨e0, e1, e2⟩ := (starts t).2.2.2.1
  refine Eq.trans ?_ (V_3 m c s 0 l)
  unfold iblk
  rw [View.read_apply]
  show V m c main_v7 _ = _
  congr 1
  funext d
  apply Fin.ext
  match d with
  | ⟨0, _⟩ => change cc0_transform_3 (grid0.coords t) 0 * 4 + 1 * b.val = s.val; rw [e0]; omega
  | ⟨1, _⟩ => change cc0_transform_3 (grid0.coords t) 1 * 1 + 1 * 0 = 0; rw [e1]
  | ⟨2, _⟩ => change cc0_transform_3 (grid0.coords t) 2 * 1024 + 1 * l.val = l.val; rw [e2]; omega

/-- Row `b` of the gate's block at point `t` is row `4 * t + b`. -/
theorem blk4 (t : Fin cfg0.N) (b : Fin 4) (l : Fin 1024) (s : Fin 128) (hs : s.val = t.val * 4 + b.val) :
    (iblk m c 4 t : Vec Ideal S4x1x1024 .f32) (ix3 b 0 l) = arg4 m c s l := by
  obtain ⟨e0, e1, e2⟩ := (starts t).2.2.2.2.1
  refine Eq.trans ?_ (V_4 m c s 0 l)
  unfold iblk
  rw [View.read_apply]
  show V m c main_v8 _ = _
  congr 1
  funext d
  apply Fin.ext
  match d with
  | ⟨0, _⟩ => change cc0_transform_4 (grid0.coords t) 0 * 4 + 1 * b.val = s.val; rw [e0]; omega
  | ⟨1, _⟩ => change cc0_transform_4 (grid0.coords t) 1 * 1 + 1 * 0 = 0; rw [e1]
  | ⟨2, _⟩ => change cc0_transform_4 (grid0.coords t) 2 * 1024 + 1 * l.val = l.val; rw [e2]; omega

/-- The gain's block is the whole row. -/
theorem blk5 (t : Fin cfg0.N) (l : Fin 1024) : (iblk m c 5 t : Vec Ideal S1x1024 .f32) (ix2 0 l) = gain m c l := by
  obtain ⟨e0, e1⟩ := (starts t).2.2.2.2.2.1
  refine Eq.trans ?_ (V_5 m c 0 l)
  unfold iblk
  rw [View.read_apply]
  show V m c main_v0 _ = _
  congr 1
  funext d
  apply Fin.ext
  match d with
  | ⟨0, _⟩ => change cc0_transform_5 (grid0.coords t) 0 * 1 + 1 * 0 = 0; rw [e0]
  | ⟨1, _⟩ => change cc0_transform_5 (grid0.coords t) 1 * 1024 + 1 * l.val = l.val; rw [e1]; omega

/-- State `(b, h)` of the block at point `t` is that of sequence `4 * t + b`. -/
theorem blk6 (t : Fin cfg0.N) (b : Fin 4) (h : Fin 8) (a j : Fin 128) (s : Fin 128) (hs : s.val = t.val * 4 + b.val) :
    (iblk m c 6 t : Vec Ideal S1x4x8x128x128 .f32) (ix5 0 b h a j) = state m c s h a j := by
  obtain ⟨e0, e1, e2, e3, e4⟩ := (starts t).2.2.2.2.2.2.1
  refine Eq.trans ?_ (congrFun (V_main_arg6 m c) (ix5 0 s h a j))
  unfold iblk
  rw [View.read_apply]
  show V m c main_arg6 _ = _
  congr 1
  funext d
  apply Fin.ext
  match d with
  | ⟨0, _⟩ => change cc0_transform_6 (grid0.coords t) 0 * 1 + 1 * 0 = 0; rw [e0]
  | ⟨1, _⟩ => change cc0_transform_6 (grid0.coords t) 1 * 4 + 1 * b.val = s.val; rw [e1]; omega
  | ⟨2, _⟩ => change cc0_transform_6 (grid0.coords t) 2 * 8 + 1 * h.val = h.val; rw [e2]; omega
  | ⟨3, _⟩ => change cc0_transform_6 (grid0.coords t) 3 * 128 + 1 * a.val = a.val; rw [e3]; omega
  | ⟨4, _⟩ => change cc0_transform_6 (grid0.coords t) 4 * 128 + 1 * j.val = j.val; rw [e4]; omega

/-- A point's new states, from the arguments. -/
theorem stateSpec_eq (t : Fin cfg0.N) (b : Fin 4) (h : Fin 8) (s : Fin 128) (hs : s.val = t.val * 4 + b.val) :
    stateSpec m c t b h = newState (arg1 m c) (arg2 m c) (arg3 m c) (state m c) s h := by
  funext a j
  unfold stateSpec blockState
  simp only [blk1 m c t b _ _ s hs, blk2 m c t b _ _ s hs, blk3 m c t b _ s hs, blk6 m c t b _ _ _ s hs]
  rfl

/-- A point's outputs, from the arguments. -/
theorem rowSpec_eq (t : Fin cfg0.N) (b : Fin 4) (s : Fin 128) (hs : s.val = t.val * 4 + b.val) :
    rowSpec m c t b = output (arg0 m c) (arg1 m c) (arg2 m c) (arg3 m c) (arg4 m c) (gain m c) (state m c) s := by
  funext l
  unfold rowSpec blockOut
  simp only [blk0 m c t b _ _ s hs, blk4 m c t b _ s hs, blk5]
  rw [show blockState (iblk m c 1 t) (iblk m c 2 t) (iblk m c 3 t) (iblk m c 6 t) b (headOf l) = _ from stateSpec_eq m c t b (headOf l) s hs]
  rfl

/-! ## The results -/

/-- The outputs. -/
def outputs : FVec Ideal S128x1x1024 .bf16 := fun i =>
  output (arg0 m c) (arg1 m c) (arg2 m c) (arg3 m c) (arg4 m c) (gain m c) (state m c) (i 0) (i 2)

/-- Window 7's array after the run. -/
theorem arr7 : (dats m 0 c).arrAt 7 cfg0.N = outputs m c := by
  refine (dats m 0 c).arrAt_eq_of_covers 7 _ (by decide +kernel) fun t hf y => ?_
  obtain ⟨b, u, l, rfl⟩ : ∃ (b : Fin 4) (u : Fin 1) (l : Fin 1024), y = ix3 b u l := ⟨y 0, y 1, y 2, eq_ix3 y⟩
  obtain rfl : u = 0 := Subsingleton.elim _ _
  have ht : t.val < 32 := lt_of_lt_of_eq t.isLt N_0
  have hb := b.isLt
  obtain ⟨e0, e1, e2⟩ := (starts t).2.2.2.2.2.2.2.1
  have e : ((cfg0.win 7).blk t).view.emb (ix3 b 0 l) = ix3 (⟨t.val * 4 + b.val, by omega⟩ : Fin 128) 0 l := by
    funext d
    apply Fin.ext
    match d with
    | ⟨0, _⟩ => change cc0_transform_7 (grid0.coords t) 0 * 4 + 1 * b.val = t.val * 4 + b.val; rw [e0]; omega
    | ⟨1, _⟩ => change cc0_transform_7 (grid0.coords t) 1 * 1 + 1 * 0 = 0; rw [e1]
    | ⟨2, _⟩ => change cc0_transform_7 (grid0.coords t) 2 * 1024 + 1 * l.val = l.val; rw [e2]; omega
  rw [e]
  rw [after0_7]
  refine (block7 m c t b l).trans ?_
  rw [rowSpec_eq m c t b ⟨t.val * 4 + b.val, by omega⟩ rfl]
  rfl

/-- The states: the first layer's new ones, and zeros. -/
def states : FVec Ideal S2x128x8x128x128 .f32 := fun i =>
  if (i 0).val = 0 then newState (arg1 m c) (arg2 m c) (arg3 m c) (state m c) (i 1) (i 2) (i 3) (i 4) else 0

/-- Window 8's array after the run. -/
theorem arr8 : (dats m 0 c).arrAt 8 cfg0.N = states m c := by
  refine (dats m 0 c).arrAt_eq_of_covers 8 _ (by decide +kernel) fun t hf y => ?_
  obtain ⟨u, b, h, a, j, rfl⟩ : ∃ (u : Fin 2) (b : Fin 4) (h : Fin 8) (a j : Fin 128), y = ix5 u b h a j := ⟨y 0, y 1, y 2, y 3, y 4, eq_ix5 y⟩
  have ht : t.val < 32 := lt_of_lt_of_eq t.isLt N_0
  have hb := b.isLt
  obtain ⟨e0, e1, e2, e3, e4⟩ := (starts t).2.2.2.2.2.2.2.2
  have e : ((cfg0.win 8).blk t).view.emb (ix5 u b h a j) = ix5 u (⟨t.val * 4 + b.val, by omega⟩ : Fin 128) h a j := by
    funext d
    apply Fin.ext
    match d with
    | ⟨0, _⟩ => change cc0_transform_8 (grid0.coords t) 0 * 2 + 1 * u.val = u.val; rw [e0]; omega
    | ⟨1, _⟩ => change cc0_transform_8 (grid0.coords t) 1 * 4 + 1 * b.val = t.val * 4 + b.val; rw [e1]; omega
    | ⟨2, _⟩ => change cc0_transform_8 (grid0.coords t) 2 * 8 + 1 * h.val = h.val; rw [e2]; omega
    | ⟨3, _⟩ => change cc0_transform_8 (grid0.coords t) 3 * 128 + 1 * a.val = a.val; rw [e3]; omega
    | ⟨4, _⟩ => change cc0_transform_8 (grid0.coords t) 4 * 128 + 1 * j.val = j.val; rw [e4]; omega
  rw [e]
  rw [after0_8]
  refine (block8 m c t u b h a j).trans ?_
  rw [stateSpec_eq m c t b h ⟨t.val * 4 + b.val, by omega⟩ rfl]
  rfl

end Cert.StepFirstKernel

end
-- ==== Proof.StepReference.lean ====
/- The reference of the steps of the two recurrent layers, entry by entry. -/
module

public import proofs.«01_k».proof.Proof.Gen.Reference8Ideal.Run
public import proofs.«01_k».proof.Proof.Gen.Reference9Ideal.Run
public import proofs.«01_k».proof.Proof.StepRows
public import Idealize.ShloMosaic.Lib.Pointwise

@[expose] public section

set_option maxRecDepth 16384

noncomputable section

namespace Cert.StepReference

open Idealize.ShloMosaic Idealize.ShloMosaic.TcCoe Idealize.SL.Sem Cert.Reference9Ideal Cert.Reference9Ideal.Gen Cert.ProjRows Cert.StepRows

/-- Rows, one per sequence. -/
abbrev Wide := FVec Ideal S128x1024 .f32
/-- Rows, cut into heads. -/
abbrev Heads := FVec Ideal S128x8x128 .f32
/-- One layer's states. -/
abbrev Layer := FVec Ideal S128x8x128x128 .f32
/-- Both layers' states. -/
abbrev States := FVec Ideal S2x128x8x128x128 .f32

/-! ## The printed operations, piece by piece -/

/-- Rows cut into heads. -/
def heads (x : Wide) : Heads := shapeCast _ x shapeCasts_S128x1024_S128x8x128
/-- A head's row down the first of the state's axes. -/
def down (x : Heads) : Layer := broadcastInDim S128x8x128x128 ![0, 1, 2, 3] bcast_S128x8x128x1_S128x8x128x128_0_1_2_3
  (broadcastInDim S128x8x128x1 ![0, 1, 2] bcast_S128x8x128_S128x8x128x1_0_1_2 x)
/-- A head's row along the second of the state's axes. -/
def along (x : Heads) : Layer := broadcastInDim S128x8x128x128 ![0, 1, 2, 3] bcast_S128x8x1x128_S128x8x128x128_0_1_2_3
  (broadcastInDim S128x8x1x128 ![0, 1, 3] bcast_S128x8x128_S128x8x1x128_0_1_3 x)
/-- The first layer's states. -/
def first (s : States) : Layer := shapeCast _ (extractStridedSlice S1x128x8x128x128 ![0, 0, 0, 0, 0] s slices_S2x128x8x128x128_S1x128x8x128x128_0_0_0_0_0) shapeCasts_S1x128x8x128x128_S128x8x128x128
/-- The second layer's states. -/
def second (s : States) : Layer := shapeCast _ (extractStridedSlice S1x128x8x128x128 ![1, 0, 0, 0, 0] s slices_S2x128x8x128x128_S1x128x8x128x128_1_0_0_0_0) shapeCasts_S1x128x8x128x128_S128x8x128x128
/-- The new states. -/
def stepped (lf k v : Wide) (s : Layer) : Layer :=
  addf (mulf (down (Host.exp (heads lf))) s) (mulf (down (heads k)) (along (heads v)))
/-- What the queries read. -/
def reads (q : Wide) (s : Layer) : Heads :=
  Host.reduceAdd (mulf s (down (heads q))) (constant S_ .f32 0x00000000#32) reducesTo_S128x8x128x128_S128x8x128_d2 h_S_
/-- The norm of each head. -/
def normed (x : Heads) (g : FVec Ideal S1024 .f32) : Heads :=
  mulf (mulf x (broadcastInDim S128x8x128 ![0, 1, 2] bcast_S128x8x1_S128x8x128_0_1_2
    (Host.rsqrt (addf (Host.divf (broadcastInDim S128x8x1 ![0, 1] bcast_S128x8_S128x8x1_0_1
      (Host.reduceAdd (mulf x x) (constant S_ .f32 0x00000000#32) reducesTo_S128x8x128_S128x8_d2 h_S_))
      (broadcastInDim S128x8x1 ![] bcast_S_S128x8x1 (constant S_ .f32 0x43000000#32)))
      (broadcastInDim S128x8x1 ![] bcast_S_S128x8x1 (constant S_ .f32 0x358637BD#32))))))
    (broadcastInDim S128x8x128 ![0, 1, 2] bcast_S1x8x128_S128x8x128_0_1_2 (broadcastInDim S1x8x128 ![1, 2] bcast_S8x128_S1x8x128_1_2
      (shapeCast _ g shapeCasts_S1024_S8x128)))
/-- The outputs. -/
def outputs (q lf k v gate : Wide) (g : FVec Ideal S1024 .f32) (s : Layer) : FVec Ideal S128x1x1024 .bf16 :=
  truncf .bf16 (shapeCast S128x1x1024 (mulf (normed (reads q (stepped lf k v s)) g) (heads gate)) shapeCasts_S128x8x128_S128x1x1024) bitsLt_bf16_f32
/-- A layer as one of two. -/
def lifted (s : Layer) : FVec Ideal S1x128x8x128x128 .f32 := broadcastInDim S1x128x8x128x128 ![1, 2, 3, 4] bcast_S128x8x128x128_S1x128x8x128x128_1_2_3_4 s
/-- Two layers' states, one after the other. -/
def both (x y : Layer) : States :=
  concatenate S2x128x8x128x128 0 [⟨S1x128x8x128x128, lifted x⟩, ⟨S1x128x8x128x128, lifted y⟩] concatenates_S1x128x8x128x128_S1x128x8x128x128_S2x128x8x128x128_d0
/-- A layer of zeros. -/
def blank : Layer := broadcastInDim S128x8x128x128 ![] Cert.Reference8Ideal.Facts₀.bcast_S_S128x8x128x128 (constant S_ .f32 0x00000000#32)

/-! ## Entry by entry -/

/-- A head's place is a feature of the row. -/
theorem heads_at (x : Wide) (b : Fin 128) (h : Fin 8) (j : Fin 128) : heads x (ix3 b h j) = x (ix2 b (feature h j)) := by
  pointwise [heads]
  rfl
/-- Down the first axis, at an entry. -/
theorem down_at (x : Heads) (b : Fin 128) (h : Fin 8) (a j : Fin 128) : down x (ix4 b h a j) = x (ix3 b h a) := by
  pointwise [down]
/-- Along the second axis, at an entry. -/
theorem along_at (x : Heads) (b : Fin 128) (h : Fin 8) (a j : Fin 128) : along x (ix4 b h a j) = x (ix3 b h j) := by
  pointwise [along]
/-- The first layer's states, at an entry. -/
theorem first_at (s : States) (b : Fin 128) (h : Fin 8) (a j : Fin 128) : first s (ix4 b h a j) = s (ix5 0 b h a j) := by
  pointwise [first]
/-- The second layer's states, at an entry. -/
theorem second_at (s : States) (b : Fin 128) (h : Fin 8) (a j : Fin 128) : second s (ix4 b h a j) = s (ix5 1 b h a j) := by
  pointwise [second]
/-- The new states, at an entry. -/
theorem stepped_at (lf k v : Wide) (s : Layer) (b : Fin 128) (h : Fin 8) (a j : Fin 128) :
    stepped lf k v s (ix4 b h a j) = newState (fun b l => lf (ix2 b l)) (fun b l => k (ix2 b l)) (fun b l => v (ix2 b l))
      (fun b h a j => s (ix4 b h a j)) b h a j := by
  unfold stepped
  pointwise []
  simp only [down_at, along_at, heads_at]
  pointwise []
  simp only [heads_at]
  rfl
/-- What the queries read, at an entry. -/
theorem reads_at (q : Wide) (s : Layer) (b : Fin 128) (h : Fin 8) (j : Fin 128) :
    reads q s (ix3 b h j) = read (fun a => q (ix2 b (feature h a))) (fun a j => s (ix4 b h a j)) j := by
  pointwise [reads]
  simp only [down_at, heads_at]
  rfl
/-- The norm, at an entry. -/
theorem normed_at (x : Heads) (g : FVec Ideal S1024 .f32) (b : Fin 128) (h : Fin 8) (j : Fin 128) :
    normed x g (ix3 b h j) = rms128 (fun j => x (ix3 b h j)) (fun j => g (ix1 (feature h j))) j := by
  pointwise [normed]
  rfl
/-- The outputs, at an entry. -/
theorem outputs_at (q lf k v gate : Wide) (g : FVec Ideal S1024 .f32) (s : Layer) (b : Fin 128) (l : Fin 1024) :
    outputs q lf k v gate g s (ix3 b 0 l) = output (fun b l => q (ix2 b l)) (fun b l => lf (ix2 b l)) (fun b l => k (ix2 b l)) (fun b l => v (ix2 b l))
      (fun b l => gate (ix2 b l)) (fun l => g (ix1 l)) (fun b h a j => s (ix4 b h a j)) b l := by
  have e : outputs q lf k v gate g s (ix3 b 0 l) = normed (reads q (stepped lf k v s)) g (ix3 b (headOf l) (within l)) * heads gate (ix3 b (headOf l) (within l)) := by
    pointwise [outputs]
    rfl
  have f : feature (headOf l) (within l) = l := Fin.ext (by show l.val / 128 * 128 + l.val % 128 = l.val; omega)
  rw [e, normed_at, heads_at, f]
  simp only [reads_at, stepped_at]
  rfl
/-- A lifted layer, at an entry. -/
theorem lifted_at (s : Layer) (b : Fin 128) (h : Fin 8) (a j : Fin 128) : lifted s (ix5 0 b h a j) = s (ix4 b h a j) := by
  pointwise [lifted]
/-- Two layers, at an entry of the first. -/
theorem both_first (x y : Layer) (b : Fin 128) (h : Fin 8) (a j : Fin 128) : both x y (ix5 0 b h a j) = x (ix4 b h a j) := by
  refine Eq.trans ?_ (lifted_at x b h a j)
  pointwise [both]
/-- Two layers, at an entry of the second. -/
theorem both_second (x y : Layer) (b : Fin 128) (h : Fin 8) (a j : Fin 128) : both x y (ix5 1 b h a j) = y (ix4 b h a j) := by
  refine Eq.trans ?_ (lifted_at y b h a j)
  pointwise [both]
/-- A layer of zeros, at an entry. -/
theorem blank_at (b : Fin 128) (h : Fin 8) (a j : Fin 128) : blank (ix4 b h a j) = 0 := by
  pointwise [blank]

/-! ## The runs with their results named -/

set_option maxHeartbeats 2000000 in
/-- The run of the first layer's step with its two results named. -/
theorem run_first (m : (ℓ : Loc Cert.Reference8Ideal.nD Cert.Reference8Ideal.τ Cert.Reference8Ideal.sig) → Buf (Elt Ideal) ℓ) (ρ : Dev Cert.Reference8Ideal.nD → PrngReg) :
    θ_run Cert.Reference8Ideal.defs (onTc (τ := Cert.Reference8Ideal.τ) (Cert.Reference8Ideal.main (F := Ideal))) ⟨m, fun _ => 0, ρ⟩ fun r => ∀ c : Dev Cert.Reference8Ideal.nD,
      r.2.mem ((c.tc : Thread Cert.Reference8Ideal.nD Cert.Reference8Ideal.τ).loc Cert.Reference8Ideal.main_v37) = outputs (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (first (m ((c.tc : Thread Cert.Reference8Ideal.nD Cert.Reference8Ideal.τ).loc Cert.Reference8Ideal.main_arg6)))
      ∧ r.2.mem ((c.tc : Thread Cert.Reference8Ideal.nD Cert.Reference8Ideal.τ).loc Cert.Reference8Ideal.main_v41) = both (stepped (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (first (m ((c.tc : Thread Cert.Reference8Ideal.nD Cert.Reference8Ideal.τ).loc Cert.Reference8Ideal.main_arg6)))) blank
      ∧ r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6) :=
  (θ_run Cert.Reference8Ideal.defs _ _).mono (fun _ h c => ⟨(h c).1, (h c).2.1, (h c).2.2⟩) (Cert.Reference8Ideal.Value.run (F := Ideal) m ρ)

set_option maxHeartbeats 2000000 in
/-- The run of the second layer's step with its two results named. -/
theorem run_second (m : (ℓ : Loc Cert.Reference9Ideal.nD Cert.Reference9Ideal.τ Cert.Reference9Ideal.sig) → Buf (Elt Ideal) ℓ) (ρ : Dev Cert.Reference9Ideal.nD → PrngReg) :
    θ_run Cert.Reference9Ideal.defs (onTc (τ := Cert.Reference9Ideal.τ) (Cert.Reference9Ideal.main (F := Ideal))) ⟨m, fun _ => 0, ρ⟩ fun r => ∀ c : Dev Cert.Reference9Ideal.nD,
      r.2.mem ((c.tc : Thread Cert.Reference9Ideal.nD Cert.Reference9Ideal.τ).loc Cert.Reference9Ideal.main_v37) = outputs (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (second (m ((c.tc : Thread Cert.Reference9Ideal.nD Cert.Reference9Ideal.τ).loc Cert.Reference9Ideal.main_arg6)))
      ∧ r.2.mem ((c.tc : Thread Cert.Reference9Ideal.nD Cert.Reference9Ideal.τ).loc Cert.Reference9Ideal.main_v42) = both (first (m ((c.tc : Thread Cert.Reference9Ideal.nD Cert.Reference9Ideal.τ).loc Cert.Reference9Ideal.main_arg7))) (stepped (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (second (m ((c.tc : Thread Cert.Reference9Ideal.nD Cert.Reference9Ideal.τ).loc Cert.Reference9Ideal.main_arg6))))
      ∧ r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7) :=
  (θ_run Cert.Reference9Ideal.defs _ _).mono (fun _ h c => ⟨(h c).1, (h c).2.1, (h c).2.2⟩) (Cert.Reference9Ideal.Value.run (F := Ideal) m ρ)

end Cert.StepReference

end
-- ==== Proof.StepLastKernel.lean ====
/- What the step call of the second recurrent layer leaves in its two results: the output of each sequence, and the states. -/
module

public import proofs.«01_k».proof.Proof.Gen.Kernel9Ideal.Value
public import proofs.«01_k».proof.Proof.StepRows
public import Idealize.ShloMosaic.Lib.StableHlo.ReadAt
public import Idealize.ShloMosaic.Lib.Tactic
public import Idealize.ShloMosaic.Lib.Pipeline.ValueKit

@[expose] public section

set_option maxRecDepth 16384

noncomputable section

namespace Cert.StepLastKernel

open Idealize.ShloMosaic Idealize.ShloMosaic.TcCoe Idealize.SL.Sem Cert.Kernel9Ideal Cert.Kernel9Ideal.Gen Cert.ProjRows Cert.StepRows

variable (m : (ℓ : Loc nD τ sig) → Buf (Elt Ideal) ℓ) (c : Dev nD)

/-- The offsets of a whole block are zero. -/
theorem hz : (![0, 0] : Fin 2 → Nat) = fun _ => 0 := funext fun a => by fin_cases a <;> rfl

/-! ## A point's two blocks -/

/-- The output of row `b` at point `t`, from the point's blocks. -/
def rowSpec (t : Fin cfg0.N) (b : Fin 4) (l : Fin 1024) : EReal :=
  blockOut (iblk m c 0 t) (iblk m c 1 t) (iblk m c 2 t) (iblk m c 3 t) (iblk m c 4 t) (iblk m c 5 t) (iblk m c 6 t) b l

/-- The new state `(b, h)` at point `t`, from the point's blocks. -/
def stateSpec (t : Fin cfg0.N) (b : Fin 4) (h : Fin 8) (a j : Fin 128) : EReal :=
  blockState (iblk m c 1 t) (iblk m c 2 t) (iblk m c 3 t) (iblk m c 6 t) b h a j

/-- A stored row is a piece of the outputs. -/
theorem rowPiece (t : Fin cfg0.N) (b : Fin 4) (x : S1x1x1024.Idx) :
    storedRow (iblk m c 0 t) (iblk m c 1 t) (iblk m c 2 t) (iblk m c 3 t) (iblk m c 4 t) (iblk m c 5 t) (iblk m c 6 t) b x
      = (fun y : S4x1x1024.Idx => rowSpec m c t (y 0) (y 2)) ((Rect.unit (s := S4x1x1024) ![b.val, 0, 0] S1x1x1024.size (inb_row b)).emb x) := by
  obtain ⟨u, v, l, rfl⟩ : ∃ (u : Fin 1) (v : Fin 1) (l : Fin 1024), x = ix3 u v l := ⟨x 0, x 1, x 2, eq_ix3 x⟩
  obtain rfl : u = 0 := Subsingleton.elim _ _
  obtain rfl : v = 0 := Subsingleton.elim _ _
  refine (storedRow_at _ _ _ _ _ _ _ b l).trans ?_
  refine congrArg₂ (rowSpec m c t) (Fin.ext ?_) (Fin.ext ?_)
  · show b.val = b.val + 1 * 0; omega
  · show l.val = 0 + 1 * l.val; omega

/-- The outputs that point `t` leaves. -/
theorem block7 (t : Fin cfg0.N) (b : Fin 4) (l : Fin 1024) : (outsAt0 m c t).1 (ix3 b 0 l) = rowSpec m c t b l := by
  unfold outsAt0
  dsimp only
  unfold out0_A_7
  refine (congrFun (View.read_writes_eq_canon _ _ _ (fun y => ?_)) _).trans ?_
  · exact cover0_A_7 (y := y) ..
  refine canon_pieces (Val := Elt Ideal) (fun y : S4x1x1024.Idx => rowSpec m c t (y 0) (y 2)) _ _ (cover0_A_7 (y := ix3 b 0 l) ..) ?_
  unfold kernelRun0_A
  dsimp only
  sl_unfold_words
  simp only [View.readAt_eq_ld, Memref.IsWhole.read_unread]
  exact ⟨fun x => rowPiece m c t 3 x, fun x => rowPiece m c t 2 x, fun x => rowPiece m c t 1 x, fun x => rowPiece m c t 0 x, trivial⟩

/-- A stored state is a piece of the states. -/
theorem statePiece (t : Fin cfg0.N) (b : Fin 4) (h : Fin 8) (x : S1x1x1x128x128.Idx) :
    storedState (iblk m c 1 t) (iblk m c 2 t) (iblk m c 3 t) (iblk m c 6 t) b h x
      = (fun y : S1x4x8x128x128.Idx => stateSpec m c t (y 1) (y 2) (y 3) (y 4)) ((Rect.unit (s := S1x4x8x128x128) ![0, b.val, h.val, 0, 0] S1x1x1x128x128.size (inb_old b h)).emb x) := by
  obtain ⟨u, v, w, a, j, rfl⟩ : ∃ (u v w : Fin 1) (a j : Fin 128), x = ix5 u v w a j := ⟨x 0, x 1, x 2, x 3, x 4, eq_ix5 x⟩
  obtain rfl : u = 0 := Subsingleton.elim _ _
  obtain rfl : v = 0 := Subsingleton.elim _ _
  obtain rfl : w = 0 := Subsingleton.elim _ _
  refine (storedState_at _ _ _ _ b h a j).trans ?_
  have e₁ : b = ⟨b.val + 1 * 0, by omega⟩ := Fin.ext (by show b.val = b.val + 1 * 0; omega)
  have e₂ : h = ⟨h.val + 1 * 0, by omega⟩ := Fin.ext (by show h.val = h.val + 1 * 0; omega)
  have e₃ : a = ⟨0 + 1 * a.val, by omega⟩ := Fin.ext (by show a.val = 0 + 1 * a.val; omega)
  have e₄ : j = ⟨0 + 1 * j.val, by omega⟩ := Fin.ext (by show j.val = 0 + 1 * j.val; omega)
  show stateSpec m c t b h a j = stateSpec m c t ⟨b.val + 1 * 0, _⟩ ⟨h.val + 1 * 0, _⟩ ⟨0 + 1 * a.val, _⟩ ⟨0 + 1 * j.val, _⟩
  rw [← e₁, ← e₂, ← e₃, ← e₄]

/-- The states that point `t` leaves. -/
theorem block8 (t : Fin cfg0.N) (u : Fin 1) (b : Fin 4) (h : Fin 8) (a j : Fin 128) : (outsAt0 m c t).2 (ix5 u b h a j) = stateSpec m c t b h a j := by
  unfold outsAt0
  dsimp only
  unfold out0_A_8
  refine (congrFun (View.read_writes_eq_canon _ _ _ (fun y => ?_)) _).trans ?_
  · exact cover0_A_8 (y := y) ..
  refine canon_pieces (Val := Elt Ideal) (fun y : S1x4x8x128x128.Idx => stateSpec m c t (y 1) (y 2) (y 3) (y 4)) _ _ (cover0_A_8 (y := ix5 u b h a j) ..) ?_
  unfold kernelRun0_A
  dsimp only
  sl_unfold_words
  simp only [View.readAt_eq_ld, Memref.IsWhole.read_unread]
  exact ⟨fun x => statePiece m c t 3 7 x, fun x => statePiece m c t 3 6 x, fun x => statePiece m c t 3 5 x, fun x => statePiece m c t 3 4 x, fun x => statePiece m c t 3 3 x, fun x => statePiece m c t 3 2 x, fun x => statePiece m c t 3 1 x, fun x => statePiece m c t 3 0 x, fun x => statePiece m c t 2 7 x, fun x => statePiece m c t 2 6 x, fun x => statePiece m c t 2 5 x, fun x => statePiece m c t 2 4 x, fun x => statePiece m c t 2 3 x, fun x => statePiece m c t 2 2 x, fun x => statePiece m c t 2 1 x, fun x => statePiece m c t 2 0 x, fun x => statePiece m c t 1 7 x, fun x => statePiece m c t 1 6 x, fun x => statePiece m c t 1 5 x, fun x => statePiece m c t 1 4 x, fun x => statePiece m c t 1 3 x, fun x => statePiece m c t 1 2 x, fun x => statePiece m c t 1 1 x, fun x => statePiece m c t 1 0 x, fun x => statePiece m c t 0 7 x, fun x => statePiece m c t 0 6 x, fun x => statePiece m c t 0 5 x, fun x => statePiece m c t 0 4 x, fun x => statePiece m c t 0 3 x, fun x => statePiece m c t 0 2 x, fun x => statePiece m c t 0 1 x, fun x => statePiece m c t 0 0 x, trivial⟩

/-! ## The arrays the windows read -/

/-- The rows of the query. -/
def arg0 (b : Fin 128) (l : Fin 1024) : EReal := m ((c : Thread nD τ).loc main_arg0) (ix2 b l)
/-- The rows of the decay's logarithm. -/
def arg1 (b : Fin 128) (l : Fin 1024) : EReal := m ((c : Thread nD τ).loc main_arg1) (ix2 b l)
/-- The rows of the key. -/
def arg2 (b : Fin 128) (l : Fin 1024) : EReal := m ((c : Thread nD τ).loc main_arg2) (ix2 b l)
/-- The rows of the value. -/
def arg3 (b : Fin 128) (l : Fin 1024) : EReal := m ((c : Thread nD τ).loc main_arg3) (ix2 b l)
/-- The rows of the gate. -/
def arg4 (b : Fin 128) (l : Fin 1024) : EReal := m ((c : Thread nD τ).loc main_arg4) (ix2 b l)
/-- The gain of the norm. -/
def gain (l : Fin 1024) : EReal := m ((c : Thread nD τ).loc main_arg5) (ix1 l)
/-- The layer's old states. -/
def state (b : Fin 128) (h : Fin 8) (a j : Fin 128) : EReal := m ((c : Thread nD τ).loc main_arg6) (ix5 1 b h a j)

/-- The host's array of the query by (sequence, place, head), at an entry. -/
theorem V_0 (b a : Fin 128) (h : Fin 8) : V m c main_v2 (ix3 b a h) = arg0 m c b (feature h a) := by
  unfold V arg0
  after_reads_at
  rfl

/-- The host's array of the decay's logarithm by (sequence, place, head), at an entry. -/
theorem V_1 (b a : Fin 128) (h : Fin 8) : V m c main_v4 (ix3 b a h) = arg1 m c b (feature h a) := by
  unfold V arg1
  after_reads_at
  rfl

/-- The host's array of the key by (sequence, place, head), at an entry. -/
theorem V_2 (b a : Fin 128) (h : Fin 8) : V m c main_v6 (ix3 b a h) = arg2 m c b (feature h a) := by
  unfold V arg2
  after_reads_at
  rfl

/-- The host's array of the value, at an entry. -/
theorem V_3 (b : Fin 128) (u : Fin 1) (l : Fin 1024) : V m c main_v7 (ix3 b u l) = arg3 m c b l := by
  obtain rfl : u = 0 := Subsingleton.elim _ _
  unfold V arg3
  after_reads_at

/-- The host's array of the gate, at an entry. -/
theorem V_4 (b : Fin 128) (u : Fin 1) (l : Fin 1024) : V m c main_v8 (ix3 b u l) = arg4 m c b l := by
  obtain rfl : u = 0 := Subsingleton.elim _ _
  unfold V arg4
  after_reads_at

/-- The host's row of the gain, at an entry. -/
theorem V_5 (u : Fin 1) (l : Fin 1024) : V m c main_v0 (ix2 u l) = gain m c l := by
  unfold V gain
  after_reads_at

/-- Before the call the states' result holds the argument it shares its buffer with. -/
theorem V_8 (i : S2x128x8x128x128.Idx) : V m c main_v9_1 i = m ((c : Thread nD τ).loc main_arg7) i := by
  unfold V
  after_reads_at
  rfl

/-- Where each window's block starts at grid point `t` (in blocks). -/
theorem starts : ∀ t : Fin cfg0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = t.val ∧ cc0_transform_2 (grid0.coords t) 1 = 0 ∧ cc0_transform_2 (grid0.coords t) 2 = 0)
    ∧ (cc0_transform_3 (grid0.coords t) 0 = t.val ∧ cc0_transform_3 (grid0.coords t) 1 = 0 ∧ cc0_transform_3 (grid0.coords t) 2 = 0)
    ∧ (cc0_transform_4 (grid0.coords t) 0 = t.val ∧ cc0_transform_4 (grid0.coords t) 1 = 0 ∧ cc0_transform_4 (grid0.coords t) 2 = 0)
    ∧ (cc0_transform_5 (grid0.coords t) 0 = 0 ∧ cc0_transform_5 (grid0.coords t) 1 = 0)
    ∧ (cc0_transform_6 (grid0.coords t) 0 = 1 ∧ cc0_transform_6 (grid0.coords t) 1 = t.val ∧ cc0_transform_6 (grid0.coords t) 2 = 0 ∧ cc0_transform_6 (grid0.coords t) 3 = 0 ∧ cc0_transform_6 (grid0.coords t) 4 = 0)
    ∧ (cc0_transform_8 (grid0.coords t) 0 = t.val ∧ cc0_transform_8 (grid0.coords t) 1 = 0 ∧ cc0_transform_8 (grid0.coords t) 2 = 0)
    ∧ (cc0_transform_9 (grid0.coords t) 0 = 1 ∧ cc0_transform_9 (grid0.coords t) 1 = t.val ∧ cc0_transform_9 (grid0.coords t) 2 = 0 ∧ cc0_transform_9 (grid0.coords t) 3 = 0 ∧ cc0_transform_9 (grid0.coords t) 4 = 0) :=
  (by decide +kernel : ∀ t : Fin grid0.N, _)

/-- Row `b` of the query's block at point `t` is row `4 * t + b`, by (place, head). -/
theorem blk0 (t : Fin cfg0.N) (b : Fin 4) (a : Fin 128) (h : Fin 8) (s : Fin 128) (hs : s.val = t.val * 4 + b.val) :
    (iblk m c 0 t : Vec Ideal S4x128x8 .f32) (ix3 b a h) = arg0 m c s (feature h a) := by
  obtain ⟨e0, e1, e2⟩ := (starts t).1
  refine Eq.trans ?_ (V_0 m c s a h)
  unfold iblk
  rw [View.read_apply]
  show V m c main_v2 _ = _
  congr 1
  funext d
  apply Fin.ext
  match d with
  | ⟨0, _⟩ => change cc0_transform_0 (grid0.coords t) 0 * 4 + 1 * b.val = s.val; rw [e0]; omega
  | ⟨1, _⟩ => change cc0_transform_0 (grid0.coords t) 1 * 128 + 1 * a.val = a.val; rw [e1]; omega
  | ⟨2, _⟩ => change cc0_transform_0 (grid0.coords t) 2 * 8 + 1 * h.val = h.val; rw [e2]; omega

/-- Row `b` of the decay's logarithm's block at point `t` is row `4 * t + b`, by (place, head). -/
theorem blk1 (t : Fin cfg0.N) (b : Fin 4) (a : Fin 128) (h : Fin 8) (s : Fin 128) (hs : s.val = t.val * 4 + b.val) :
    (iblk m c 1 t : Vec Ideal S4x128x8 .f32) (ix3 b a h) = arg1 m c s (feature h a) := by
  obtain ⟨e0, e1, e2⟩ := (starts t).2.1
  refine Eq.trans ?_ (V_1 m c s a h)
  unfold iblk
  rw [View.read_apply]
  show V m c main_v4 _ = _
  congr 1
  funext d
  apply Fin.ext
  match d with
  | ⟨0, _⟩ => change cc0_transform_1 (grid0.coords t) 0 * 4 + 1 * b.val = s.val; rw [e0]; omega
  | ⟨1, _⟩ => change cc0_transform_1 (grid0.coords t) 1 * 128 + 1 * a.val = a.val; rw [e1]; omega
  | ⟨2, _⟩ => change cc0_transform_1 (grid0.coords t) 2 * 8 + 1 * h.val = h.val; rw [e2]; omega

/-- Row `b` of the key's block at point `t` is row `4 * t + b`, by (place, head). -/
theorem blk2 (t : Fin cfg0.N) (b : Fin 4) (a : Fin 128) (h : Fin 8) (s : Fin 128) (hs : s.val = t.val * 4 + b.val) :
    (iblk m c 2 t : Vec Ideal S4x128x8 .f32) (ix3 b a h) = arg2 m c s (feature h a) := by
  obtain ⟨e0, e1, e2⟩ := (starts t).2.2.1
  refine Eq.trans ?_ (V_2 m c s a h)
  unfold iblk
  rw [View.read_apply]
  show V m c main_v6 _ = _
  congr 1
  funext d
  apply Fin.ext
  match d with
  | ⟨0, _⟩ => change cc0_transform_2 (grid0.coords t) 0 * 4 + 1 * b.val = s.val; rw [e0]; omega
  | ⟨1, _⟩ => change cc0_transform_2 (grid0.coords t) 1 * 128 + 1 * a.val = a.val; rw [e1]; omega
  | ⟨2, _⟩ => change cc0_transform_2 (grid0.coords t) 2 * 8 + 1 * h.val = h.val; rw [e2]; omega

/-- Row `b` of the value's block at point `t` is row `4 * t + b`. -/
theorem blk3 (t : Fin cfg0.N) (b : Fin 4) (l : Fin 1024) (s : Fin 128) (hs : s.val = t.val * 4 + b.val) :
    (iblk m c 3 t : Vec Ideal S4x1x1024 .f32) (ix3 b 0 l) = arg3 m c s l := by
  obtain ⟨e0, e1, e2⟩ := (starts t).2.2.2.1
  refine Eq.trans ?_ (V_3 m c s 0 l)
  unfold iblk
  rw [View.read_apply]
  show V m c main_v7 _ = _
  congr 1
  funext d
  apply Fin.ext
  match d with
  | ⟨0, _⟩ => change cc0_transform_3 (grid0.coords t) 0 * 4 + 1 * b.val = s.val; rw [e0]; omega
  | ⟨1, _⟩ => change cc0_transform_3 (grid0.coords t) 1 * 1 + 1 * 0 = 0; rw [e1]
  | ⟨2, _⟩ => change cc0_transform_3 (grid0.coords t) 2 * 1024 + 1 * l.val = l.val; rw [e2]; omega

/-- Row `b` of the gate's block at point `t` is row `4 * t + b`. -/
theorem blk4 (t : Fin cfg0.N) (b : Fin 4) (l : Fin 1024) (s : Fin 128) (hs : s.val = t.val * 4 + b.val) :
    (iblk m c 4 t : Vec Ideal S4x1x1024 .f32) (ix3 b 0 l) = arg4 m c s l := by
  obtain ⟨e0, e1, e2⟩ := (starts t).2.2.2.2.1
  refine Eq.trans ?_ (V_4 m c s 0 l)
  unfold iblk
  rw [View.read_apply]
  show V m c main_v8 _ = _
  congr 1
  funext d
  apply Fin.ext
  match d with
  | ⟨0, _⟩ => change cc0_transform_4 (grid0.coords t) 0 * 4 + 1 * b.val = s.val; rw [e0]; omega
  | ⟨1, _⟩ => change cc0_transform_4 (grid0.coords t) 1 * 1 + 1 * 0 = 0; rw [e1]
  | ⟨2, _⟩ => change cc0_transform_4 (grid0.coords t) 2 * 1024 + 1 * l.val = l.val; rw [e2]; omega

/-- The gain's block is the whole row. -/
theorem blk5 (t : Fin cfg0.N) (l : Fin 1024) : (iblk m c 5 t : Vec Ideal S1x1024 .f32) (ix2 0 l) = gain m c l := by
  obtain ⟨e0, e1⟩ := (starts t).2.2.2.2.2.1
  refine Eq.trans ?_ (V_5 m c 0 l)
  unfold iblk
  rw [View.read_apply]
  show V m c main_v0 _ = _
  congr 1
  funext d
  apply Fin.ext
  match d with
  | ⟨0, _⟩ => change cc0_transform_5 (grid0.coords t) 0 * 1 + 1 * 0 = 0; rw [e0]
  | ⟨1, _⟩ => change cc0_transform_5 (grid0.coords t) 1 * 1024 + 1 * l.val = l.val; rw [e1]; omega

/-- State `(b, h)` of the block at point `t` is that of sequence `4 * t + b`. -/
theorem blk6 (t : Fin cfg0.N) (b : Fin 4) (h : Fin 8) (a j : Fin 128) (s : Fin 128) (hs : s.val = t.val * 4 + b.val) :
    (iblk m c 6 t : Vec Ideal S1x4x8x128x128 .f32) (ix5 0 b h a j) = state m c s h a j := by
  obtain ⟨e0, e1, e2, e3, e4⟩ := (starts t).2.2.2.2.2.2.1
  refine Eq.trans ?_ (congrFun (V_main_arg6 m c) (ix5 1 s h a j))
  unfold iblk
  rw [View.read_apply]
  show V m c main_arg6 _ = _
  congr 1
  funext d
  apply Fin.ext
  match d with
  | ⟨0, _⟩ => change cc0_transform_6 (grid0.coords t) 0 * 1 + 1 * 0 = 1; rw [e0]
  | ⟨1, _⟩ => change cc0_transform_6 (grid0.coords t) 1 * 4 + 1 * b.val = s.val; rw [e1]; omega
  | ⟨2, _⟩ => change cc0_transform_6 (grid0.coords t) 2 * 8 + 1 * h.val = h.val; rw [e2]; omega
  | ⟨3, _⟩ => change cc0_transform_6 (grid0.coords t) 3 * 128 + 1 * a.val = a.val; rw [e3]; omega
  | ⟨4, _⟩ => change cc0_transform_6 (grid0.coords t) 4 * 128 + 1 * j.val = j.val; rw [e4]; omega

/-- A point's new states, from the arguments. -/
theorem stateSpec_eq (t : Fin cfg0.N) (b : Fin 4) (h : Fin 8) (s : Fin 128) (hs : s.val = t.val * 4 + b.val) :
    stateSpec m c t b h = newState (arg1 m c) (arg2 m c) (arg3 m c) (state m c) s h := by
  funext a j
  unfold stateSpec blockState
  simp only [blk1 m c t b _ _ s hs, blk2 m c t b _ _ s hs, blk3 m c t b _ s hs, blk6 m c t b _ _ _ s hs]
  rfl

/-- A point's outputs, from the arguments. -/
theorem rowSpec_eq (t : Fin cfg0.N) (b : Fin 4) (s : Fin 128) (hs : s.val = t.val * 4 + b.val) :
    rowSpec m c t b = output (arg0 m c) (arg1 m c) (arg2 m c) (arg3 m c) (arg4 m c) (gain m c) (state m c) s := by
  funext l
  unfold rowSpec blockOut
  simp only [blk0 m c t b _ _ s hs, blk4 m c t b _ s hs, blk5]
  rw [show blockState (iblk m c 1 t) (iblk m c 2 t) (iblk m c 3 t) (iblk m c 6 t) b (headOf l) = _ from stateSpec_eq m c t b (headOf l) s hs]
  rfl

/-! ## The results -/

/-- The outputs. -/
def outputs : FVec Ideal S128x1x1024 .bf16 := fun i =>
  output (arg0 m c) (arg1 m c) (arg2 m c) (arg3 m c) (arg4 m c) (gain m c) (state m c) (i 0) (i 2)

/-- Window 7's array after the run. -/
theorem arr7 : (dats m 0 c).arrAt 7 cfg0.N = outputs m c := by
  refine (dats m 0 c).arrAt_eq_of_covers 7 _ (by decide +kernel) fun t hf y => ?_
  obtain ⟨b, u, l, rfl⟩ : ∃ (b : Fin 4) (u : Fin 1) (l : Fin 1024), y = ix3 b u l := ⟨y 0, y 1, y 2, eq_ix3 y⟩
  obtain rfl : u = 0 := Subsingleton.elim _ _
  have ht : t.val < 32 := lt_of_lt_of_eq t.isLt N_0
  have hb := b.isLt
  obtain ⟨e0, e1, e2⟩ := (starts t).2.2.2.2.2.2.2.1
  have e : ((cfg0.win 7).blk t).view.emb (ix3 b 0 l) = ix3 (⟨t.val * 4 + b.val, by omega⟩ : Fin 128) 0 l := by
    funext d
    apply Fin.ext
    match d with
    | ⟨0, _⟩ => change cc0_transform_8 (grid0.coords t) 0 * 4 + 1 * b.val = t.val * 4 + b.val; rw [e0]; omega
    | ⟨1, _⟩ => change cc0_transform_8 (grid0.coords t) 1 * 1 + 1 * 0 = 0; rw [e1]
    | ⟨2, _⟩ => change cc0_transform_8 (grid0.coords t) 2 * 1024 + 1 * l.val = l.val; rw [e2]; omega
  rw [e]
  rw [after0_7]
  refine (block7 m c t b l).trans ?_
  rw [rowSpec_eq m c t b ⟨t.val * 4 + b.val, by omega⟩ rfl]
  rfl

/-- The states: the first layer's as they were, and the second's new ones. -/
def states : FVec Ideal S2x128x8x128x128 .f32 := fun i =>
  if (i 0).val = 0 then m ((c : Thread nD τ).loc main_arg7) i
  else newState (arg1 m c) (arg2 m c) (arg3 m c) (state m c) (i 1) (i 2) (i 3) (i 4)

/-- Where point `t` puts the entries of its block of states. -/
theorem place (t : Fin cfg0.N) (b : Fin 4) (h : Fin 8) (a j : Fin 128) (s : Fin 128) (hs : s.val = t.val * 4 + b.val) :
    ((cfg0.win 8).blk t).view.emb (ix5 0 b h a j) = ix5 1 s h a j := by
  obtain ⟨e0, e1, e2, e3, e4⟩ := (starts t).2.2.2.2.2.2.2.2
  funext d
  apply Fin.ext
  match d with
  | ⟨0, _⟩ => change cc0_transform_9 (grid0.coords t) 0 * 1 + 1 * 0 = 1; rw [e0]
  | ⟨1, _⟩ => change cc0_transform_9 (grid0.coords t) 1 * 4 + 1 * b.val = s.val; rw [e1]; omega
  | ⟨2, _⟩ => change cc0_transform_9 (grid0.coords t) 2 * 8 + 1 * h.val = h.val; rw [e2]; omega
  | ⟨3, _⟩ => change cc0_transform_9 (grid0.coords t) 3 * 128 + 1 * a.val = a.val; rw [e3]; omega
  | ⟨4, _⟩ => change cc0_transform_9 (grid0.coords t) 4 * 128 + 1 * j.val = j.val; rw [e4]; omega

/-- Every point writes its block of states back. -/
theorem flushes : ∀ t : Fin cfg0.N, (cfg0.win 8).flush t = true := (by decide +kernel : ∀ t : Fin grid0.N, _)

/-- No point touches the first layer's states. -/
theorem untouched (s : Fin 128) (h : Fin 8) (a j : Fin 128) (t : Fin cfg0.N) : ix5 0 s h a j ∉ ((cfg0.win 8).blk t).view.set := by
  intro hm
  obtain ⟨y, _, hy⟩ := Finset.mem_map.mp hm
  have hv : cc0_transform_9 (grid0.coords t) 0 * 1 + 1 * (y 0).val = 0 := congrArg Fin.val (congrFun hy 0)
  obtain ⟨e0, _⟩ := (starts t).2.2.2.2.2.2.2.2
  rw [e0] at hv
  omega

/-- Window 8's array after the run. -/
theorem arr8 : (dats m 0 c).arrAt 8 cfg0.N = states m c := by
  funext i
  obtain ⟨u, s, h, a, j, rfl⟩ : ∃ (u : Fin 2) (s : Fin 128) (h : Fin 8) (a j : Fin 128), i = ix5 u s h a j := ⟨i 0, i 1, i 2, i 3, i 4, eq_ix5 i⟩
  have hs := s.isLt
  obtain rfl | rfl : u = 0 ∨ u = 1 := by omega
  · refine (Value.entry8 m c _ fun t _ => untouched s h a j t).trans ?_
    exact V_8 m c _
  · have ht : s.val / 4 < cfg0.N := lt_of_lt_of_eq (by omega) N_0.symm
    have e := congrFun (Value.blocks8 m c ⟨s.val / 4, ht⟩ (flushes _)) (ix5 0 (⟨s.val % 4, by omega⟩ : Fin 4) h a j)
    rw [View.read_apply, place ⟨s.val / 4, ht⟩ ⟨s.val % 4, by omega⟩ h a j s (by show s.val = s.val / 4 * 4 + s.val % 4; omega)] at e
    refine Eq.trans e ?_
    rw [Value.flushed8]
    refine (block8 m c ⟨s.val / 4, ht⟩ 0 ⟨s.val % 4, by omega⟩ h a j).trans ?_
    rw [stateSpec_eq m c ⟨s.val / 4, ht⟩ ⟨s.val % 4, by omega⟩ h s (by show s.val = s.val / 4 * 4 + s.val % 4; omega)]
    rfl

end Cert.StepLastKernel

end
-- ==== Proof.AttnBody.lean ====
module

public import proofs.«01_k».proof.Proof.Gen.Kernel10Ideal.Frame
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Skeleton
public import Idealize.ShloMosaic.Lib.Claim

/-! The prompt attention's kernel body, run once from any contents of its buffers: it meets no fault and hands
every buffer back.  Which of its two branches a grid point takes is left open, so the run is made once per case of
the two conditions. -/

@[expose] public section

set_option maxRecDepth 16384

noncomputable section

namespace Cert.AttnBody

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's eight buffers, each held whole at contents nothing names: the queries, the two copies of the keys,
    the value weights, the result's block, and the running maxima, sums and weighted values. -/
def Held (c : Dev nD) (arg2 : Memref sig .tc .vmem S8x1x256x384 .bf16) (arg3 : Memref sig .tc .vmem S1x2064x384 .bf16) (arg4 : Memref sig .tc .vmem S1x256x2064 .bf16) (arg5 : Memref sig .tc .vmem S256x1024 .bf16) (arg6 : Memref sig .tc .vmem S1x256x1024 .bf16) (arg7 : Memref sig .tc .vmem S8x1x256 .f32) (arg8 : Memref sig .tc .vmem S8x1x256 .f32) (arg9 : Memref sig .tc .vmem S8x256x256 .f32) : sProp 𝕄 :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d))

set_option maxHeartbeats 4000000 in
/-- Where neither condition holds the body does nothing. -/
theorem run_neither (c : Dev nD) (i : grid0.Coords) (arg2 : Memref sig .tc .vmem S8x1x256x384 .bf16) (harg2 : arg2.IsWhole) (arg3 : Memref sig .tc .vmem S1x2064x384 .bf16) (harg3 : arg3.IsWhole) (arg4 : Memref sig .tc .vmem S1x256x2064 .bf16) (harg4 : arg4.IsWhole) (arg5 : Memref sig .tc .vmem S256x1024 .bf16) (harg5 : arg5.IsWhole) (arg6 : Memref sig .tc .vmem S1x256x1024 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole)
    (h1 : ¬k0_cond1 i = 1#1) (h2 : ¬k0_cond2 i = 1#1) (E : Set ℕ) (K : PUnit → sProp 𝕄) :
    iprop(Held c arg2 arg3 arg4 arg5 arg6 arg7 arg8 arg9 ∗ (Held c arg2 arg3 arg4 arg5 arg6 arg7 arg8 arg9 -∗ K ⟨⟩))
      ⊢ wp frame (wpE (defs₀ (F := F)) Variants.none c none) E (cc0_attn_prompt i arg2 harg2 arg3 harg3 arg4 harg4 arg5 harg5 arg6 harg6 arg7 harg7 arg8 harg8 arg9 harg9) K := by
    simp only [cc0_attn_prompt_eq_skeleton]; unfold cc0_attn_prompt_skel
    unfold Held owns
    iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩⟩, Hk⟩
    sl_exec (disch := first | sl_exact h1 | sl_exact h2)
    sl_step
    iapply Hk
    isplitl [H0]; · iexists _; iexists _; isplitr; swap; iexact H0; ipureintro; rfl
    isplitl [H1]; · iexists _; iexists _; isplitr; swap; iexact H1; ipureintro; rfl
    isplitl [H2]; · iexists _; iexists _; isplitr; swap; iexact H2; ipureintro; rfl
    isplitl [H3]; · iexists _; iexists _; isplitr; swap; iexact H3; ipureintro; rfl
    isplitl [H4]; · iexists _; iexists _; isplitr; swap; iexact H4; ipureintro; rfl
    isplitl [H5]; · iexists _; iexists _; isplitr; swap; iexact H5; ipureintro; rfl
    isplitl [H6]; · iexists _; iexists _; isplitr; swap; iexact H6; ipureintro; rfl
    iexists _; iexists _; isplitr; swap; iexact H7; ipureintro; rfl

set_option maxHeartbeats 4000000 in
/-- Where only the second condition holds the body computes the last sixteen rows. -/
theorem run_tail (c : Dev nD) (i : grid0.Coords) (arg2 : Memref sig .tc .vmem S8x1x256x384 .bf16) (harg2 : arg2.IsWhole) (arg3 : Memref sig .tc .vmem S1x2064x384 .bf16) (harg3 : arg3.IsWhole) (arg4 : Memref sig .tc .vmem S1x256x2064 .bf16) (harg4 : arg4.IsWhole) (arg5 : Memref sig .tc .vmem S256x1024 .bf16) (harg5 : arg5.IsWhole) (arg6 : Memref sig .tc .vmem S1x256x1024 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole)
    (h1 : ¬k0_cond1 i = 1#1) (h2 : k0_cond2 i = 1#1) (E : Set ℕ) (K : PUnit → sProp 𝕄) :
    iprop(Held c arg2 arg3 arg4 arg5 arg6 arg7 arg8 arg9 ∗ (Held c arg2 arg3 arg4 arg5 arg6 arg7 arg8 arg9 -∗ K ⟨⟩))
      ⊢ wp frame (wpE (defs₀ (F := F)) Variants.none c none) E (cc0_attn_prompt i arg2 harg2 arg3 harg3 arg4 harg4 arg5 harg5 arg6 harg6 arg7 harg7 arg8 harg8 arg9 harg9) K := by
    simp only [cc0_attn_prompt_eq_skeleton]; unfold cc0_attn_prompt_skel
    unfold Held owns
    iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩⟩, Hk⟩
    sl_exec (disch := first | sl_exact h1 | sl_exact h2)
    sl_step
    iapply Hk
    isplitl [H0]; · iexists _; iexists _; isplitr; swap; iexact H0; ipureintro; rfl
    isplitl [H1]; · iexists _; iexists _; isplitr; swap; iexact H1; ipureintro; rfl
    isplitl [H2]; · iexists _; iexists _; isplitr; swap; iexact H2; ipureintro; rfl
    isplitl [H3]; · iexists _; iexists _; isplitr; swap; iexact H3; ipureintro; rfl
    isplitl [H4]; · iexists _; iexists _; isplitr; swap; iexact H4; ipureintro; rfl
    isplitl [H5]; · iexists _; iexists _; isplitr; swap; iexact H5; ipureintro; rfl
    isplitl [H6]; · iexists _; iexists _; isplitr; swap; iexact H6; ipureintro; rfl
    iexists _; iexists _; isplitr; swap; iexact H7; ipureintro; rfl

set_option maxHeartbeats 40000000 in
/-- Where only the first condition holds the body goes over a whole block of rows. -/
theorem run_full (c : Dev nD) (i : grid0.Coords) (arg2 : Memref sig .tc .vmem S8x1x256x384 .bf16) (harg2 : arg2.IsWhole) (arg3 : Memref sig .tc .vmem S1x2064x384 .bf16) (harg3 : arg3.IsWhole) (arg4 : Memref sig .tc .vmem S1x256x2064 .bf16) (harg4 : arg4.IsWhole) (arg5 : Memref sig .tc .vmem S256x1024 .bf16) (harg5 : arg5.IsWhole) (arg6 : Memref sig .tc .vmem S1x256x1024 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole)
    (h1 : k0_cond1 i = 1#1) (h2 : ¬k0_cond2 i = 1#1) (E : Set ℕ) (K : PUnit → sProp 𝕄) :
    iprop(Held c arg2 arg3 arg4 arg5 arg6 arg7 arg8 arg9 ∗ (Held c arg2 arg3 arg4 arg5 arg6 arg7 arg8 arg9 -∗ K ⟨⟩))
      ⊢ wp frame (wpE (defs₀ (F := F)) Variants.none c none) E (cc0_attn_prompt i arg2 harg2 arg3 harg3 arg4 harg4 arg5 harg5 arg6 harg6 arg7 harg7 arg8 harg8 arg9 harg9) K := by
    simp only [cc0_attn_prompt_eq_skeleton]; unfold cc0_attn_prompt_skel
    unfold Held owns
    iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩⟩, Hk⟩
    sl_exec (disch := first | sl_exact h1 | sl_exact h2)
    sl_step
    iapply Hk
    isplitl [H0]; · iexists _; iexists _; isplitr; swap; iexact H0; ipureintro; rfl
    isplitl [H1]; · iexists _; iexists _; isplitr; swap; iexact H1; ipureintro; rfl
    isplitl [H2]; · iexists _; iexists _; isplitr; swap; iexact H2; ipureintro; rfl
    isplitl [H3]; · iexists _; iexists _; isplitr; swap; iexact H3; ipureintro; rfl
    isplitl [H4]; · iexists _; iexists _; isplitr; swap; iexact H4; ipureintro; rfl
    isplitl [H5]; · iexists _; iexists _; isplitr; swap; iexact H5; ipureintro; rfl
    isplitl [H6]; · iexists _; iexists _; isplitr; swap; iexact H6; ipureintro; rfl
    iexists _; iexists _; isplitr; swap; iexact H7; ipureintro; rfl

/-- No grid point meets both conditions: the first asks for a row of blocks below the eighth, the second for the
    eighth itself. -/
theorem not_both (i : grid0.Coords) (h1 : k0_cond1 i = 1#1) : ¬k0_cond2 i = 1#1 := by
  have key : ∀ j : Fin 9, Scalar.cmpi .ne (Scalar.extui (Scalar.cmpi .slt (BitVec.ofNat 32 j.val) 8#32) : BitVec 32) 0#32 = 1#1
      → ¬ Scalar.cmpi .ne (Scalar.extui (Scalar.cmpi .eq (BitVec.ofNat 32 j.val) 8#32) : BitVec 32) 0#32 = 1#1 := by
    decide
  exact key (i 1) h1

/-- The body at any grid point, from any contents of its buffers. -/
theorem run_any (c : Dev nD) (i : grid0.Coords) (arg2 : Memref sig .tc .vmem S8x1x256x384 .bf16) (harg2 : arg2.IsWhole) (arg3 : Memref sig .tc .vmem S1x2064x384 .bf16) (harg3 : arg3.IsWhole) (arg4 : Memref sig .tc .vmem S1x256x2064 .bf16) (harg4 : arg4.IsWhole) (arg5 : Memref sig .tc .vmem S256x1024 .bf16) (harg5 : arg5.IsWhole) (arg6 : Memref sig .tc .vmem S1x256x1024 .bf16) (harg6 : arg6.IsWhole) (arg7 : Memref sig .tc .vmem S8x1x256 .f32) (harg7 : arg7.IsWhole) (arg8 : Memref sig .tc .vmem S8x1x256 .f32) (harg8 : arg8.IsWhole) (arg9 : Memref sig .tc .vmem S8x256x256 .f32) (harg9 : arg9.IsWhole)
    (E : Set ℕ) (K : PUnit → sProp 𝕄) :
    iprop(Held c arg2 arg3 arg4 arg5 arg6 arg7 arg8 arg9 ∗ (Held c arg2 arg3 arg4 arg5 arg6 arg7 arg8 arg9 -∗ K ⟨⟩))
      ⊢ wp frame (wpE (defs₀ (F := F)) Variants.none c none) E (cc0_attn_prompt i arg2 harg2 arg3 harg3 arg4 harg4 arg5 harg5 arg6 harg6 arg7 harg7 arg8 harg8 arg9 harg9) K := by
  by_cases h1 : k0_cond1 i = 1#1
  · exact run_full c i arg2 harg2 arg3 harg3 arg4 harg4 arg5 harg5 arg6 harg6 arg7 harg7 arg8 harg8 arg9 harg9 h1 (not_both i h1) E K
  by_cases h2 : k0_cond2 i = 1#1
  · exact run_tail c i arg2 harg2 arg3 harg3 arg4 harg4 arg5 harg5 arg6 harg6 arg7 harg7 arg8 harg8 arg9 harg9 h1 h2 E K
  · exact run_neither c i arg2 harg2 arg3 harg3 arg4 harg4 arg5 harg5 arg6 harg6 arg7 harg7 arg8 harg8 arg9 harg9 h1 h2 E K

/-! ## Point by point, the launch and the frame -/

variable (m : (ℓ : Loc nD τ sig) → Buf (Elt F) ℓ) (ρ : Dev nD → PrngReg)

/-- The proof data: the arrays as the region finds them; nothing is said of what any block holds after the body
    (every window is forgotten below, so the filler here is never read); the scratch buffers at anything. -/
def dats (_ : Fin 1) (c : Dev nD) : Pipeline.Dat τ (Elt F) Unit ℕ (UR sig nD τ) ℕ cfg0 c where
  A w := V m c (Pipeline.arrRef spec0 w)
  after w _ := match w with
    | ⟨0, _⟩ => fun _ => (Scalar.ofBits .bf16 0#16 : Elt F .bf16)
    | ⟨1, _⟩ => fun _ => (Scalar.ofBits .bf16 0#16 : Elt F .bf16)
    | ⟨2, _⟩ => fun _ => (Scalar.ofBits .bf16 0#16 : Elt F .bf16)
    | ⟨3, _⟩ => fun _ => (Scalar.ofBits .bf16 0#16 : Elt F .bf16)
    | ⟨4, _⟩ => fun _ => (Scalar.ofBits .bf16 0#16 : Elt F .bf16)
  Φ _ := Pipeline.ΦA spec0 c
  q _ := fullShare
  owed _ := 0

/-- What the launch lends the body beside the staging buffers: its three scratch buffers and the generator. -/
theorem lent_eq (c : Dev nD) : (Pipeline.ΦA spec0 c : sProp 𝕄)
    = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- The body the pipeline calls at a grid point is the printed one on that point's staging buffers. -/
theorem called (t : Fin cfg0.N) : defs₀ (F := F) .tc cfg0.body (cfg0.bodyArgs t (cfg0.slots t)) = bodyAt0 t := by
  unfold defs₀; rw [Defs.onTc_tc]

/-- The body's obligation at every grid point, every window forgotten: each staging buffer comes at anything and
    goes back at anything. -/
theorem obligation (c : Dev nD) : Pipeline.BodyObligationLoose (dats (F := F) m 0 c) (defs₀ (F := F)) Variants.none ()
    Set.univ (fun _ => true) := fun t => by
  rw [bigSep_W0]
  simp only
  rw [called]
  rw [show (dats (F := F) m 0 c).Φ t.castSucc = Pipeline.ΦA spec0 c from rfl,
    show (dats (F := F) m 0 c).Φ t.succ = Pipeline.ΦA spec0 c from rfl,
    show (dats (F := F) m 0 c).owesAt () t.succ = (dats (F := F) m 0 c).owesAt () t.castSucc from rfl, lent_eq]
  iintro ⟨⟨⟨S0, S1, S2⟩, Hg⟩, Ho, H0, H1, H2, H3, H4⟩
  iapply (run_any (F := F) c (grid0.coords t) _ _ _ _ _ _ _ _ _ _ _ _ _ _ _ _ Set.univ _)
  unfold Held
  isplitl [S0 S1 S2 H0 H1 H2 H3 H4]
  · isplitl [H0]; · iexact H0
    isplitl [H1]; · iexact H1
    isplitl [H2]; · iexact H2
    isplitl [H3]; · iexact H3
    isplitl [H4]; · iexact H4
    isplitl [S0]; · iexact S0
    isplitl [S1]; · iexact S1
    iexact S2
  iintro ⟨H0, H1, H2, H3, H4, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  iexact H4

-- the launch theorem's implicit arguments are found by unifying its conclusion, through plain definitions
set_option backward.isDefEq.respectTransparency.types false in
/-- The frame at any values: every run ends, the argument arrays as they were and every counter back at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget (Q' := _) cfgs (dats m) (0 : Fin 1) launch0 defs₀ Variants.none (fun _ => true) m ρ main
    (hbody := obligation m) (hshare := fun c => (dats m 0 c).share_full fun _ => rfl)
    (howed := fun _ _ => rfl) (V := V m) (hmain := hmain m Variants.none) (hA := fun c w => by dsimp only [dats])
    (hΦ := fun _ _ => rfl)
    (hQ' := fun r h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)

end Cert.AttnBody

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.MlpKernel
public import proofs.«01_k».proof.Proof.MlpReference
public import proofs.«01_k».proof.Proof.Gen.Kernel2.Frame
public import proofs.«01_k».proof.Proof.Gen.Kernel2Ideal.Value
public import proofs.«01_k».proof.Proof.Gen.Reference2Ideal.Run
public import proofs.«01_k».proof.Proof.MlpMidKernel
public import proofs.«01_k».proof.Proof.MlpMidReference
public import proofs.«01_k».proof.Proof.Gen.Kernel3.Frame
public import proofs.«01_k».proof.Proof.Gen.Kernel3Ideal.Value
public import proofs.«01_k».proof.Proof.Gen.Reference3Ideal.Run
public import proofs.«01_k».proof.Proof.MlpSampleKernel
public import proofs.«01_k».proof.Proof.MlpSampleReference
public import proofs.«01_k».proof.Proof.Gen.Kernel4.Frame
public import proofs.«01_k».proof.Proof.Gen.Kernel4Ideal.Value
public import proofs.«01_k».proof.Proof.Gen.Reference4Ideal.Run
public import proofs.«01_k».proof.Proof.KvKernel
public import proofs.«01_k».proof.Proof.KvReference
public import proofs.«01_k».proof.Proof.Gen.Kernel5.Frame
public import proofs.«01_k».proof.Proof.Gen.Kernel5Ideal.Value
public import proofs.«01_k».proof.Proof.Gen.Reference5Ideal.Run
public import proofs.«01_k».proof.Proof.KvSampleKernel
public import proofs.«01_k».proof.Proof.KvSampleReference
public import proofs.«01_k».proof.Proof.Gen.Kernel6.Frame
public import proofs.«01_k».proof.Proof.Gen.Kernel6Ideal.Value
public import proofs.«01_k».proof.Proof.Gen.Reference6Ideal.Run
public import proofs.«01_k».proof.Proof.ProjKernel
public import proofs.«01_k».proof.Proof.ProjReference
public import proofs.«01_k».proof.Proof.ProjFinite
public import proofs.«01_k».proof.Proof.Gen.Kernel7.Frame
public import proofs.«01_k».proof.Proof.Gen.Kernel7Ideal.Value
public import proofs.«01_k».proof.Proof.Gen.Reference7Ideal.Run
public import proofs.«01_k».proof.Proof.QueryKernel
public import proofs.«01_k».proof.Proof.QueryReference
public import proofs.«01_k».proof.Proof.Gen.Kernel8.Frame
public import proofs.«01_k».proof.Proof.Gen.Kernel8Ideal.Value
public import proofs.«01_k».proof.Proof.Gen.Reference8Ideal.Run
public import proofs.«01_k».proof.Proof.StepFirstKernel
public import proofs.«01_k».proof.Proof.StepReference
public import proofs.«01_k».proof.Proof.Gen.Kernel9.Frame
public import proofs.«01_k».proof.Proof.Gen.Kernel9Ideal.Value
public import proofs.«01_k».proof.Proof.Gen.Reference9Ideal.Run
public import proofs.«01_k».proof.Proof.StepLastKernel
public import proofs.«01_k».proof.Proof.Gen.Kernel10
public import proofs.«01_k».proof.Proof.AttnBody
public import Idealize.ShloMosaic.Adequacy
public import Idealize.ShloMosaic.Init
public import Idealize.ShloMosaic.Lib.Quiescent

@[expose] public section

noncomputable section

namespace Cert.Proof

open Idealize.ShloMosaic Idealize.SL.Sem

/-- The reference of the last layer's call for the prompts runs, keeps its arguments and declares no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference of the last layer's call for the prompts end with the same result, row by row. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.MlpReference.res_eq m' c).trans ?_
  simp only [hagree c]
  funext i
  obtain ⟨r, l, rfl⟩ : ∃ (r : Fin 32768) (l : Fin 1024), i = ix2 r l := ⟨i 0, i 1, eq_ix2 i⟩
  exact (Cert.MlpReference.result_at _ _ _ _ _ _ _ r l).trans (Cert.MlpKernel.result_at m c r l).symm

/-- The reference of the earlier layers' call for the prompts runs, keeps its arguments and declares no semaphore. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- On equal arguments the kernel and the reference of the earlier layers' call for the prompts end with the same result, row by row. -/
theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.MlpMidReference.run m' ρ')
  refine (h c).1.trans ?_
  simp only [hagree c]
  funext i
  obtain ⟨r, l, rfl⟩ : ∃ (r : Fin 33024) (l : Fin 1024), i = ix2 r l := ⟨i 0, i 1, eq_ix2 i⟩
  exact (Cert.MlpMidReference.result_at _ _ _ _ _ _ r l).trans (Cert.MlpMidKernel.result_at m c r l).symm

/-- The reference of the last layer's call for the sample group runs, keeps its arguments and declares no semaphore. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- On equal arguments the kernel and the reference of the last layer's call for the sample group end with the same result, row by row. -/
theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  refine (Cert.MlpSampleReference.res_eq m' c).trans ?_
  simp only [hagree c]
  funext i
  obtain ⟨r, l, rfl⟩ : ∃ (r : Fin 128) (l : Fin 1024), i = ix2 r l := ⟨i 0, i 1, eq_ix2 i⟩
  exact (Cert.MlpSampleReference.result_at _ _ _ _ _ _ _ r l).trans (Cert.MlpSampleKernel.result_at m c r l).symm

/-- The reference of the shared keys and values of the prompts runs, keeps its arguments and declares no semaphore. -/
theorem quiescent_Reference4Ideal : quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- On equal arguments the kernel and the reference of the shared keys and values of the prompts end with the same three results, row by row. -/
theorem algebraic_Kernel4Ideal_Reference4Ideal : algebraic_Kernel4Ideal_Reference4Ideal := by
  intro m ρ m' ρ' _ hagree
  refine ⟨_, _, _, Cert.Kernel4Ideal.Value.run_blocks (F := Ideal) m ρ, ?_⟩
  refine (θ_run Cert.Reference4Ideal.defs _ _).mono (fun _ h c => ⟨?_, ?_, ?_, (h c).2.2.2⟩) (Cert.KvReference.run m' ρ')
  · refine (h c).1.trans ?_
    simp only [hagree c]
    refine Eq.trans ?_ (Cert.KvKernel.arr8 m c).symm
    funext i
    obtain ⟨r, l, rfl⟩ : ∃ (r : Fin 33024) (l : Fin 256), i = ix2 r l := ⟨i 0, i 1, eq_ix2 i⟩
    exact Cert.KvReference.result0_at _ _ _ _ _ r l
  · refine (h c).2.1.trans ?_
    simp only [hagree c]
    refine Eq.trans ?_ (Cert.KvKernel.arr9 m c).symm
    funext i
    obtain ⟨r, l, rfl⟩ : ∃ (r : Fin 33024) (l : Fin 64), i = ix2 r l := ⟨i 0, i 1, eq_ix2 i⟩
    exact Cert.KvReference.result1_at _ _ _ _ _ r l
  · refine (h c).2.2.1.trans ?_
    simp only [hagree c]
    refine Eq.trans ?_ (Cert.KvKernel.arr10 m c).symm
    funext i
    obtain ⟨r, l, rfl⟩ : ∃ (r : Fin 33024) (l : Fin 384), i = ix2 r l := ⟨i 0, i 1, eq_ix2 i⟩
    exact Cert.KvReference.result2_at _ _ _ _ _ r l

/-- The reference of the shared keys and values of the sample group runs, keeps its arguments and declares no semaphore. -/
theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- On equal arguments the kernel and the reference of the shared keys and values of the sample group end with the same three results, row by row. -/
theorem algebraic_Kernel5Ideal_Reference5Ideal : algebraic_Kernel5Ideal_Reference5Ideal := by
  intro m ρ m' ρ' _ hagree
  refine ⟨_, _, _, Cert.Kernel5Ideal.Value.run_blocks (F := Ideal) m ρ, ?_⟩
  refine (θ_run Cert.Reference5Ideal.defs _ _).mono (fun _ h c => ⟨?_, ?_, ?_, (h c).2.2.2⟩) (Cert.KvSampleReference.run m' ρ')
  · refine (h c).1.trans ?_
    simp only [hagree c]
    refine Eq.trans ?_ (Cert.KvSampleKernel.arr8 m c).symm
    funext i
    obtain ⟨r, l, rfl⟩ : ∃ (r : Fin 128) (l : Fin 256), i = ix2 r l := ⟨i 0, i 1, eq_ix2 i⟩
    exact Cert.KvSampleReference.result0_at _ _ _ _ _ r l
  · refine (h c).2.1.trans ?_
    simp only [hagree c]
    refine Eq.trans ?_ (Cert.KvSampleKernel.arr9 m c).symm
    funext i
    obtain ⟨r, l, rfl⟩ : ∃ (r : Fin 128) (l : Fin 64), i = ix2 r l := ⟨i 0, i 1, eq_ix2 i⟩
    exact Cert.KvSampleReference.result1_at _ _ _ _ _ r l
  · refine (h c).2.2.1.trans ?_
    simp only [hagree c]
    refine Eq.trans ?_ (Cert.KvSampleKernel.arr10 m c).symm
    funext i
    obtain ⟨r, l, rfl⟩ : ∃ (r : Fin 128) (l : Fin 384), i = ix2 r l := ⟨i 0, i 1, eq_ix2 i⟩
    exact Cert.KvSampleReference.result2_at _ _ _ _ _ r l

/-- The reference of the projections of the prompts runs, keeps its arguments and declares no semaphore. -/
theorem quiescent_Reference6Ideal : quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- The base change the kernel names is one over the logarithm of two. -/
theorem base_eq : Cert.ProjKernel.base = (((Real.log 2)⁻¹ : ℝ) : EReal) :=
  IdealRules.named_const.ideal_named_scalar (φ := .f32) Cert.Kernel6Ideal.κ "log2e" 0x3FB8AA3B#32 _ rfl

/-- For a finite argument the gate by the tangent is the logistic one. -/
theorem gated_eq (z : EReal) (h : ∃ r : ℝ, z = (r : EReal)) : Cert.ProjRows.halfGate z = Cert.GateMath.gated z := by
  obtain ⟨r, rfl⟩ := h
  exact Cert.GateMath.halfGate_coe r

/-- On equal arguments that the precondition admits the kernel and the reference of the projections of the prompts end with the same five results, row by row. -/
theorem algebraic_Kernel6Ideal_Reference6Ideal_pre_finite : algebraic_Kernel6Ideal_Reference6Ideal_pre_finite := by
  intro m ρ m' ρ' pre hagree
  have fin := fun c => Cert.ProjFinite.decode _ _ _ _ _ _ _ (pre c)
  refine ⟨_, _, _, _, _, Cert.Kernel6Ideal.Value.run_blocks (F := Ideal) m ρ, ?_⟩
  refine (θ_run Cert.Reference6Ideal.defs _ _).mono (fun _ h c => ⟨?_, ?_, ?_, ?_, ?_, (h c).2.2.2.2.2⟩) (Cert.ProjReference.run m' ρ')
  · refine (h c).1.trans ?_
    simp only [hagree c]
    refine Eq.trans ?_ (Cert.ProjKernel.arr7 m c).symm
    funext i
    obtain ⟨r, l, rfl⟩ : ∃ (r : Fin 33024) (l : Fin 1024), i = ix2 r l := ⟨i 0, i 1, eq_ix2 i⟩
    exact (Cert.ProjReference.gatedRows_at _ _ _ r l).trans (gated_eq _ (Cert.ProjFinite.lin_finite _ _ (Cert.ProjFinite.rms_finite _ _ (fun _ => (fin c).1 _) (fun _ => (fin c).2.1 _)) (fun _ _ => (fin c).2.2.1 _) l)).symm
  · refine (h c).2.1.trans ?_
    simp only [hagree c]
    refine Eq.trans ?_ (Cert.ProjKernel.arr8 m c).symm
    funext i
    obtain ⟨r, l, rfl⟩ : ∃ (r : Fin 33024) (l : Fin 1024), i = ix2 r l := ⟨i 0, i 1, eq_ix2 i⟩
    refine (Cert.ProjReference.decayRows_at _ _ _ _ r l).trans ?_
    rw [← base_eq, ← zero_sub]
    rfl
  · refine (h c).2.2.1.trans ?_
    simp only [hagree c]
    refine Eq.trans ?_ (Cert.ProjKernel.arr9 m c).symm
    funext i
    obtain ⟨r, l, rfl⟩ : ∃ (r : Fin 33024) (l : Fin 1024), i = ix2 r l := ⟨i 0, i 1, eq_ix2 i⟩
    refine (Cert.ProjReference.keyRows_at _ _ _ _ r l).trans ?_
    rw [← base_eq]
    rfl
  · refine (h c).2.2.2.1.trans ?_
    simp only [hagree c]
    refine Eq.trans ?_ (Cert.ProjKernel.arr10 m c).symm
    funext i
    obtain ⟨r, l, rfl⟩ : ∃ (r : Fin 33024) (l : Fin 1024), i = ix2 r l := ⟨i 0, i 1, eq_ix2 i⟩
    exact Cert.ProjReference.valueRows_at _ _ _ r l
  · refine (h c).2.2.2.2.1.trans ?_
    simp only [hagree c]
    refine Eq.trans ?_ (Cert.ProjKernel.arr11 m c).symm
    funext i
    obtain ⟨r, l, rfl⟩ : ∃ (r : Fin 33024) (l : Fin 1024), i = ix2 r l := ⟨i 0, i 1, eq_ix2 i⟩
    exact (Cert.ProjReference.gatedRows_at _ _ _ r l).trans (gated_eq _ (Cert.ProjFinite.lin_finite _ _ (Cert.ProjFinite.rms_finite _ _ (fun _ => (fin c).1 _) (fun _ => (fin c).2.1 _)) (fun _ _ => (fin c).2.2.2 _) l)).symm

/-- The reference of the absorbed queries of the prompts runs, keeps its arguments and declares no semaphore. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- On equal arguments the kernel and the reference of the absorbed queries of the prompts end with the same result, head by head and row by row. -/
theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.QueryReference.run m' ρ')
  refine (h c).1.trans ?_
  simp only [hagree c]
  refine Eq.trans ?_ (Cert.QueryKernel.arr9 m c).symm
  funext i
  obtain ⟨h, r, j, rfl⟩ : ∃ (h : Fin 8) (r : Fin 33024) (j : Fin 384), i = ix3 h r j := ⟨i 0, i 1, i 2, eq_ix3 i⟩
  exact Cert.QueryReference.result_at _ _ _ _ _ _ h r j

/-- The reference of the step of the first recurrent layer runs, keeps its arguments and declares no semaphore. -/
theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- On equal arguments the kernel and the reference of the step of the first recurrent layer end with the same outputs and the same states, entry by entry. -/
theorem algebraic_Kernel8Ideal_Reference8Ideal : algebraic_Kernel8Ideal_Reference8Ideal := by
  intro m ρ m' ρ' _ hagree
  refine ⟨_, _, Cert.Kernel8Ideal.Value.run_blocks (F := Ideal) m ρ, ?_⟩
  refine (θ_run Cert.Reference8Ideal.defs _ _).mono (fun _ h c => ⟨?_, ?_, (h c).2.2⟩) (Cert.StepReference.run_first m' ρ')
  · refine (h c).1.trans ?_
    simp only [hagree c]
    refine Eq.trans ?_ (Cert.StepFirstKernel.arr7 m c).symm
    funext i
    obtain ⟨b, u, l, rfl⟩ : ∃ (b : Fin 128) (u : Fin 1) (l : Fin 1024), i = ix3 b u l := ⟨i 0, i 1, i 2, eq_ix3 i⟩
    obtain rfl : u = 0 := Subsingleton.elim _ _
    refine (Cert.StepReference.outputs_at _ _ _ _ _ _ _ b l).trans ?_
    simp only [Cert.StepReference.first_at]
    rfl
  · refine (h c).2.1.trans ?_
    simp only [hagree c]
    refine Eq.trans ?_ (Cert.StepFirstKernel.arr8 m c).symm
    funext i
    obtain ⟨u, b, h, a, j, rfl⟩ : ∃ (u : Fin 2) (b : Fin 128) (h : Fin 8) (a j : Fin 128), i = ix5 u b h a j :=
      ⟨i 0, i 1, i 2, i 3, i 4, eq_ix5 i⟩
    obtain rfl | rfl : u = 0 ∨ u = 1 := by omega
    · refine (Cert.StepReference.both_first _ _ b h a j).trans ((Cert.StepReference.stepped_at _ _ _ _ b h a j).trans ?_)
      simp only [Cert.StepReference.first_at]
      rfl
    · exact (Cert.StepReference.both_second _ _ b h a j).trans (Cert.StepReference.blank_at b h a j)

/-- The reference of the step of the second recurrent layer runs, keeps its arguments and declares no semaphore. -/
theorem quiescent_Reference9Ideal : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- On equal arguments the kernel and the reference of the step of the second recurrent layer end with the same outputs and the same states, entry by entry. -/
theorem algebraic_Kernel9Ideal_Reference9Ideal : algebraic_Kernel9Ideal_Reference9Ideal := by
  intro m ρ m' ρ' _ hagree
  refine ⟨_, _, Cert.Kernel9Ideal.Value.run_blocks (F := Ideal) m ρ, ?_⟩
  refine (θ_run Cert.Reference9Ideal.defs _ _).mono (fun _ h c => ⟨?_, ?_, (h c).2.2⟩) (Cert.StepReference.run_second m' ρ')
  · refine (h c).1.trans ?_
    simp only [hagree c]
    refine Eq.trans ?_ (Cert.StepLastKernel.arr7 m c).symm
    funext i
    obtain ⟨b, u, l, rfl⟩ : ∃ (b : Fin 128) (u : Fin 1) (l : Fin 1024), i = ix3 b u l := ⟨i 0, i 1, i 2, eq_ix3 i⟩
    obtain rfl : u = 0 := Subsingleton.elim _ _
    refine (Cert.StepReference.outputs_at _ _ _ _ _ _ _ b l).trans ?_
    simp only [Cert.StepReference.second_at]
    rfl
  · refine (h c).2.1.trans ?_
    simp only [hagree c]
    refine Eq.trans ?_ (Cert.StepLastKernel.arr8 m c).symm
    funext i
    obtain ⟨u, b, h, a, j, rfl⟩ : ∃ (u : Fin 2) (b : Fin 128) (h : Fin 8) (a j : Fin 128), i = ix5 u b h a j :=
      ⟨i 0, i 1, i 2, i 3, i 4, eq_ix5 i⟩
    obtain rfl | rfl : u = 0 ∨ u = 1 := by omega
    · exact (Cert.StepReference.both_first _ _ b h a j).trans (Cert.StepReference.first_at _ b h a j)
    · refine (Cert.StepReference.both_second _ _ b h a j).trans ((Cert.StepReference.stepped_at _ _ _ _ b h a j).trans ?_)
      simp only [Cert.StepReference.second_at]
      rfl

/-- The prompt attention's idealized call runs, keeps its arguments and leaves every counter at zero. -/
theorem quiescent_Kernel10Ideal : quiescent_Kernel10Ideal := fun m ρ _ => Cert.AttnBody.run_main (F := Ideal) m ρ

/-- The prompt attention's call and its idealized call have the same table of bodies: at their one label both run the
    same text. -/
theorem attn_bodies_same : Cert.Kernel10.defs₀ (F := Bits) = Cert.Kernel10Ideal.defs₀ (F := Bits) := by
  unfold Cert.Kernel10.defs₀ Cert.Kernel10Ideal.defs₀
  refine congrArg Defs.onTc (funext fun l => funext fun a => ?_)
  match l, a with
  | ⟨0, _⟩, (t, s) => rfl

/-- So they have the same table of procedures. -/
theorem attn_defs_same : Cert.Kernel10.defs (F := Bits) = Cert.Kernel10Ideal.defs (F := Bits) :=
  congrArg (Pipeline.defs Cert.Kernel10.pcfgs) attn_bodies_same

/-- The prompt attention's call, on bit patterns, runs, keeps its arguments and leaves every counter at zero. -/
theorem quiescent_Kernel10 : quiescent_Kernel10 := fun m ρ _ => by
  rw [attn_defs_same]
  exact Cert.AttnBody.run_main (F := Bits) m ρ

/-- Everything the certificate claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.ProjFinite.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, fun m ρ _ => Cert.Kernel6Ideal.Gen.frame m ρ, quiescent_Reference6Ideal, fun m ρ _ => quiescent_Reference6Ideal m ρ trivial,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  quiescent_Kernel10, quiescent_Kernel10Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (IdealRules.named_const.statement Cert.Kernel6Ideal.κ "log2e" .f32 0x3FB8AA3B#32 _ rfl : preserves_Kernel6_Kernel6Ideal), algebraic_Kernel6Ideal_Reference6Ideal_pre_finite,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal)⟩

end Cert.Proof

end
